-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_routable [hPre_routable : Cert.Pre_routable.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routable.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_routable [hPre_routable : Cert.Pre_routable.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routable.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_routable [hKernel4Ideal : Cert.Kernel4Ideal.Facts] [hPre_routable : Cert.Pre_routable.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_routable m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_routable [hReference4Ideal : Cert.Reference4Ideal.Facts] [hPre_routable : Cert.Pre_routable.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_routable m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v109) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_routable [hKernel4Ideal : Cert.Kernel4Ideal.Facts] [hReference4Ideal : Cert.Reference4Ideal.Facts] [hPre_routable : Cert.Pre_routable.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_routable m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_v62) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_routable : Cert.Pre_routable.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_routable (hKernel4Ideal := hKernel4Ideal) (hPre_routable := hPre_routable)
    ∧ quiescent_Reference4Ideal (hReference4Ideal := hReference4Ideal)
    ∧ quiescent_Reference4Ideal_pre_routable (hReference4Ideal := hReference4Ideal) (hPre_routable := hPre_routable)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_routable (hKernel4Ideal := hKernel4Ideal) (hReference4Ideal := hReference4Ideal) (hPre_routable := hPre_routable)
-- ==== Pre_finite.lean ====
abbrev S24x16384x128 : Shape := ⟨3, ![24, 16384, 128]⟩
abbrev S64 : Shape := ⟨1, ![64]⟩
abbrev S128 : Shape := ⟨1, ![128]⟩
abbrev S8x16384x128 : Shape := ⟨3, ![8, 16384, 128]⟩
abbrev S_ : Shape := ⟨0, ![]⟩
abbrev S8x16384x2x64 : Shape := ⟨4, ![8, 16384, 2, 64]⟩
abbrev S1x1x1x64 : Shape := ⟨4, ![1, 1, 1, 64]⟩

class Facts : Prop where
  slices_S24x16384x128_S8x16384x128_16_0_0 : S24x16384x128.Slices ![16, 0, 0] S8x16384x128
  bitsLt_bf16_f32 : FTy.bits .bf16 < FTy.bits .f32
  bcast_S_S8x16384x128 : S_.BroadcastsInDim S8x16384x128 (![] : Fin 0 → Fin S8x16384x128.rank)
  shapeCasts_S8x16384x128_S8x16384x2x64 : S8x16384x128.ShapeCasts S8x16384x2x64
  bcast_S_S64 : S_.BroadcastsInDim S64 (![] : Fin 0 → Fin S64.rank)
  bcast_S64_S1x1x1x64_3 : S64.BroadcastsInDim S1x1x1x64 (![3] : Fin 1 → Fin S1x1x1x64.rank)
  bcast_S1x1x1x64_S8x16384x2x64_0_1_2_3 : S1x1x1x64.BroadcastsInDim S8x16384x2x64 (![0, 1, 2, 3] : Fin 4 → Fin S8x16384x2x64.rank)

variable [Facts]

def fn_part1 {F : FTy → Type} [FloatOps F] (main_v5 : IVec S8x16384x2x64 1) (main_v12 : IVec S64 1) (main_v15 : IVec S64 1) (main_v18 : IVec S64 1) : IVec S8x16384x2x64 1 :=
  let main_v19 : IVec S64 1 := andi main_v15 main_v18
  let main_v20 : IVec S64 1 := andi main_v12 main_v19
  let main_v21 : IVec S1x1x1x64 1 := broadcastInDim S1x1x1x64 ![3] bcast_S64_S1x1x1x64_3 main_v20
  let main_v22 : IVec S8x16384x2x64 1 := broadcastInDim S8x16384x2x64 ![0, 1, 2, 3] bcast_S1x1x1x64_S8x16384x2x64_0_1_2_3 main_v21
  let main_v23 : IVec S8x16384x2x64 1 := andi main_v5 main_v22
  main_v23

def fn {F : FTy → Type} [FloatOps F] (main_arg0 : FVec F S24x16384x128 .bf16) (main_arg1 : FVec F S64 .f32) (main_arg2 : FVec F S64 .f32) (main_arg3 : FVec F S64 .f32) (main_arg4 : FVec F S64 .f32) (main_arg5 : FVec F S128 .f32) : IVec S8x16384x2x64 1 :=
  let main_v0 : FVec F S8x16384x128 .bf16 := (extractStridedSlice S8x16384x128 ![16, 0, 0] · slices_S24x16384x128_S8x16384x128_16_0_0) main_arg0
  let main_v1 : FVec F S8x16384x128 .f32 := (extf .f32 · bitsLt_bf16_f32) main_v0
  let main_v2 : FVec F S8x16384x128 .f32 := Host.absf main_v1
  let main_cst : FVec F S_ .f32 := constant S_ .f32 0x7F800000#32
  let main_v3 : FVec F S8x16384x128 .f32 := broadcastInDim S8x16384x128 ![] bcast_S_S8x16384x128 main_cst
  let main_v4 : IVec S8x16384x128 1 := cmpf .olt main_v2 main_v3
  let main_v5 : IVec S8x16384x2x64 1 := shapeCast S8x16384x2x64 main_v4 shapeCasts_S8x16384x128_S8x16384x2x64
  let main_v6 : FVec F S64 .f32 := Host.absf main_arg1
  let main_cst_0 : FVec F S_ .f32 := constant S_ .f32 0x7F800000#32
  let main_v7 : FVec F S64 .f32 := broadcastInDim S64 ![] bcast_S_S64 main_cst_0
  let main_v8 : IVec S64 1 := cmpf .olt main_v6 main_v7
  let main_v9 : FVec F S64 .f32 := Host.absf main_arg2
  let main_cst_1 : FVec F S_ .f32 := constant S_ .f32 0x7F800000#32
  let main_v10 : FVec F S64 .f32 := broadcastInDim S64 ![] bcast_S_S64 main_cst_1
  let main_v11 : IVec S64 1 := cmpf .olt main_v9 main_v10
  let main_v12 : IVec S64 1 := andi main_v8 main_v11
  let main_v13 : FVec F S64 .f32 := Host.absf main_arg3
  let main_cst_2 : FVec F S_ .f32 := constant S_ .f32 0x7F800000#32
  let main_v14 : FVec F S64 .f32 := broadcastInDim S64 ![] bcast_S_S64 main_cst_2
  let main_v15 : IVec S64 1 := cmpf .olt main_v13 main_v14
  let main_v16 : FVec F S64 .f32 := Host.absf main_arg4
  let main_cst_3 : FVec F S_ .f32 := constant S_ .f32 0x7F800000#32
  let main_v17 : FVec F S64 .f32 := broadcastInDim S64 ![] bcast_S_S64 main_cst_3
  let main_v18 : IVec S64 1 := cmpf .olt main_v16 main_v17
  fn_part1 (F := F) main_v5 main_v12 main_v15 main_v18
-- ==== Pre_routable.lean ====
abbrev S8x16384x128 : Shape := ⟨3, ![8, 16384, 128]⟩
abbrev S16384x512 : Shape := ⟨2, ![16384, 512]⟩
abbrev S16384x4608 : Shape := ⟨2, ![16384, 4608]⟩
abbrev S16384x1024 : Shape := ⟨2, ![16384, 1024]⟩
abbrev S1024x1024 : Shape := ⟨2, ![1024, 1024]⟩
abbrev S512x1024 : Shape := ⟨2, ![512, 1024]⟩
abbrev S8x1024 : Shape := ⟨2, ![8, 1024]⟩
abbrev S1024 : Shape := ⟨1, ![1024]⟩
abbrev S1024x16 : Shape := ⟨2, ![1024, 16]⟩
abbrev S_ : Shape := ⟨0, ![]⟩
abbrev S1x1024 : Shape := ⟨2, ![1, 1024]⟩
abbrev S8x1024x1 : Shape := ⟨3, ![8, 1024, 1]⟩
abbrev S1x1024x16 : Shape := ⟨3, ![1, 1024, 16]⟩
abbrev S8x1024x16 : Shape := ⟨3, ![8, 1024, 16]⟩

class Facts : Prop where
  bcast_S_S1024 : S_.BroadcastsInDim S1024 (![] : Fin 0 → Fin S1024.rank)
  bcast_S1024_S1x1024_1 : S1024.BroadcastsInDim S1x1024 (![1] : Fin 1 → Fin S1x1024.rank)
  bcast_S_S8x1024 : S_.BroadcastsInDim S8x1024 (![] : Fin 0 → Fin S8x1024.rank)
  bcast_S1x1024_S8x1024_0_1 : S1x1024.BroadcastsInDim S8x1024 (![0, 1] : Fin 2 → Fin S8x1024.rank)
  bcast_S8x1024_S8x1024x1_0_1 : S8x1024.BroadcastsInDim S8x1024x1 (![0, 1] : Fin 2 → Fin S8x1024x1.rank)
  bcast_S_S1024x16 : S_.BroadcastsInDim S1024x16 (![] : Fin 0 → Fin S1024x16.rank)
  bcast_S1024x16_S1x1024x16_1_2 : S1024x16.BroadcastsInDim S1x1024x16 (![1, 2] : Fin 2 → Fin S1x1024x16.rank)
  bcast_S8x1024x1_S8x1024x16_0_1_2 : S8x1024x1.BroadcastsInDim S8x1024x16 (![0, 1, 2] : Fin 3 → Fin S8x1024x16.rank)
  bcast_S1x1024x16_S8x1024x16_0_1_2 : S1x1024x16.BroadcastsInDim S8x1024x16 (![0, 1, 2] : Fin 3 → Fin S8x1024x16.rank)

variable [Facts]

def fn_part1 {F : FTy → Type} [FloatOps F] (main_v18 : IVec S8x1024x16 1) (main_v19 : IVec S8x1024x16 1) : IVec S8x1024x16 1 :=
  let main_v20 : IVec S8x1024x16 1 := andi main_v18 main_v19
  main_v20

def fn {F : FTy → Type} [FloatOps F] (main_arg0 : FVec F S8x16384x128 .bf16) (main_arg1 : FVec F S16384x512 .bf16) (main_arg2 : FVec F S16384x512 .bf16) (main_arg3 : FVec F S16384x4608 .bf16) (main_arg4 : FVec F S16384x1024 .f32) (main_arg5 : FVec F S1024x1024 .f32) (main_arg6 : FVec F S512x1024 .f32) (main_arg7 : FVec F S512x1024 .f32) (main_arg8 : FVec F S1024x1024 .f32) (main_arg9 : FVec F S8x1024 .f32) (main_arg10 : FVec F S1024 .f32) (main_arg11 : FVec F S8x1024 .f32) (main_arg12 : FVec F S8x1024 .f32) (main_arg13 : FVec F S1024x16 .f32) : IVec S8x1024x16 1 :=
  let main_v0 : FVec F S1024 .f32 := Host.absf main_arg10
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : IVec S1x1024 1 := broadcastInDim S1x1024 ![1] bcast_S1024_S1x1024_1 main_v2
  let main_v4 : FVec F S8x1024 .f32 := Host.absf main_arg11
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_v7 : IVec S8x1024 1 := broadcastInDim S8x1024 ![0, 1] bcast_S1x1024_S8x1024_0_1 main_v3
  let main_v8 : IVec S8x1024 1 := andi main_v7 main_v6
  let main_v9 : FVec F S8x1024 .f32 := Host.absf main_arg12
  let main_cst_1 : FVec F S_ .f32 := constant S_ .f32 0x7F800000#32
  let main_v10 : FVec F S8x1024 .f32 := broadcastInDim S8x1024 ![] bcast_S_S8x1024 main_cst_1
  let main_v11 : IVec S8x1024 1 := cmpf .olt main_v9 main_v10
  let main_v12 : IVec S8x1024 1 := andi main_v8 main_v11
  let main_v13 : IVec S8x1024x1 1 := broadcastInDim S8x1024x1 ![0, 1] bcast_S8x1024_S8x1024x1_0_1 main_v12
  let main_v14 : FVec F S1024x16 .f32 := Host.absf main_arg13
  let main_cst_2 : FVec F S_ .f32 := constant S_ .f32 0x7F800000#32
  let main_v15 : FVec F S1024x16 .f32 := broadcastInDim S1024x16 ![] bcast_S_S1024x16 main_cst_2
  let main_v16 : IVec S1024x16 1 := cmpf .olt main_v14 main_v15
  let main_v17 : IVec S1x1024x16 1 := broadcastInDim S1x1024x16 ![1, 2] bcast_S1024x16_S1x1024x16_1_2 main_v16
  let main_v18 : IVec S8x1024x16 1 := broadcastInDim S8x1024x16 ![0, 1, 2] bcast_S8x1024x1_S8x1024x16_0_1_2 main_v13
  let main_v19 : IVec S8x1024x16 1 := broadcastInDim S8x1024x16 ![0, 1, 2] bcast_S1x1024x16_S8x1024x16_0_1_2 main_v17
  fn_part1 (F := F) main_v18 main_v19
-- ==== Kernel.lean ====
abbrev S24x16384x128 : Shape := ⟨3, ![24, 16384, 128]⟩
abbrev S64 : Shape := ⟨1, ![64]⟩
abbrev S128 : Shape := ⟨1, ![128]⟩
abbrev S1x64 : Shape := ⟨2, ![1, 64]⟩
abbrev S1x128 : Shape := ⟨2, ![1, 128]⟩
abbrev S8x16384x128 : Shape := ⟨3, ![8, 16384, 128]⟩
abbrev S1x2048x128 : Shape := ⟨3, ![1, 2048, 128]⟩
abbrev S144x2048 : Shape := ⟨2, ![144, 2048]⟩
abbrev S2048x128 : Shape := ⟨2, ![2048, 128]⟩
abbrev S128x2048 : Shape := ⟨2, ![128, 2048]⟩
abbrev S16x2048 : Shape := ⟨2, ![16, 2048]⟩
abbrev S1 : Shape := ⟨1, ![1]⟩
abbrev S1x1 : Shape := ⟨2, ![1, 1]⟩
abbrev S1024x128 : Shape := ⟨2, ![1024, 128]⟩
abbrev S1x1024x128 : Shape := ⟨3, ![1, 1024, 128]⟩
abbrev S1x512x128 : Shape := ⟨3, ![1, 512, 128]⟩
abbrev S512x128 : Shape := ⟨2, ![512, 128]⟩
abbrev S512x1024 : Shape := ⟨2, ![512, 1024]⟩
abbrev S144x512 : Shape := ⟨2, ![144, 512]⟩
abbrev S1024 : Shape := ⟨1, ![1024]⟩
abbrev S1x1024 : Shape := ⟨2, ![1, 1024]⟩
abbrev S144x1024 : Shape := ⟨2, ![144, 1024]⟩
abbrev S128x1024 : Shape := ⟨2, ![128, 1024]⟩

abbrev nBuf : Space → Nat
  | .hbm => 12
  | .vmem => 14
  | .smem => 0
  | _ => 0

abbrev bufTy : (tb : Table) → Fin (tcTables nBuf tb) → BufTy
  | .hbm, ⟨0, _⟩ => ⟨S24x16384x128, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S8x16384x128, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S144x2048, .bf16⟩
  | _, _ => ⟨S24x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def k0_mult1 : BitVec 32 :=
  let c0_i32_24 : BitVec 32 := 0#32
  c0_i32_24
def k0_mult2 : BitVec 32 :=
  let c1_i32 : BitVec 32 := 1#32
  let c1024_i32 : BitVec 32 := 1024#32
  let v176 : BitVec 32 := Scalar.muli c1_i32 c1024_i32
  v176
def k0_off1 : Fin 3 → Nat :=
  let c0_69 : Index := 0#32
  let c1_i32 : BitVec 32 := 1#32
  let c1024_i32 : BitVec 32 := 1024#32
  let v176 : BitVec 32 := Scalar.muli c1_i32 c1024_i32
  let v177 : BitVec 32 := v176
  let v178 : Index := Scalar.indexCast v177
  let c0_70 : Index := 0#32
  ![0, v178.toNat, 0]
def k0_mult3 : BitVec 32 :=
  let c1_i32 : BitVec 32 := 1#32
  let c1_i32_82 : BitVec 32 := 1#32
  let v195 : BitVec 32 := Scalar.subi c1_i32 c1_i32_82
  let c1024_i32_86 : BitVec 32 := 1024#32
  let v221 : BitVec 32 := Scalar.muli v195 c1024_i32_86
  v221
def k0_off2 : Fin 3 → Nat :=
  let c0_87 : Index := 0#32
  let c1_i32 : BitVec 32 := 1#32
  let c1_i32_82 : BitVec 32 := 1#32
  let v195 : BitVec 32 := Scalar.subi c1_i32 c1_i32_82
  let c1024_i32_86 : BitVec 32 := 1024#32
  let v221 : BitVec 32 := Scalar.muli v195 c1024_i32_86
  let v222 : BitVec 32 := v221
  let v223 : Index := Scalar.indexCast v222
  let c0_88 : Index := 0#32
  ![0, v223.toNat, 0]
def k0_mult4 : BitVec 32 :=
  let c1024_i32_127 : BitVec 32 := 1024#32
  c1024_i32_127
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S24x16384x128 : Shape := ⟨3, ![24, 16384, 128]⟩
abbrev S64 : Shape := ⟨1, ![64]⟩
abbrev S128 : Shape := ⟨1, ![128]⟩
abbrev S8x16384x128 : Shape := ⟨3, ![8, 16384, 128]⟩
abbrev S8x8x2048x2x64 : Shape := ⟨5, ![8, 8, 2048, 2, 64]⟩
abbrev S8x2048x8x2x64 : Shape := ⟨5, ![8, 2048, 8, 2, 64]⟩
abbrev S8x8x2048x128 : Shape := ⟨4, ![8, 8, 2048, 128]⟩
abbrev S8x2048x8x128 : Shape := ⟨4, ![8, 2048, 8, 128]⟩
abbrev S_ : Shape := ⟨0, ![]⟩
abbrev S8x2x8x2048x2048 : Shape := ⟨5, ![8, 2, 8, 2048, 2048]⟩
abbrev S8x2x8x2048 : Shape := ⟨4, ![8, 2, 8, 2048]⟩
abbrev S8x2x8x2048x1 : Shape := ⟨5, ![8, 2, 8, 2048, 1]⟩
abbrev S8x1x8x2048x2048 : Shape := ⟨5, ![8, 1, 8, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S24x16384x128, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S24x16384x128, .f32⟩
  | .hbm, ⟨7, _⟩ => ⟨S8x16384x128, .f32⟩
  | .hbm, ⟨8, _⟩ => ⟨S8x8x2048x2x64, .f32⟩
  | .hbm, ⟨9, _⟩ => ⟨S8x2048x8x2x64, .f32⟩
  | .hbm, ⟨10, _⟩ => ⟨S8x16384x128, .f32⟩
  | .hbm, ⟨11, _⟩ => ⟨S8x8x2048x2x64, .f32⟩
  | .hbm, ⟨12, _⟩ => ⟨S8x2048x8x2x64, .f32⟩
  | .hbm, ⟨13, _⟩ => ⟨S8x16384x128, .f32⟩
  | .hbm, ⟨14, _⟩ => ⟨S8x8x2048x128, .f32⟩
  | .hbm, ⟨15, _⟩ => ⟨S8x2048x8x128, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x2x8x2048x2048, .f32⟩
  | .hbm, ⟨28, _⟩ => ⟨S_, .f32⟩
  | .hbm, ⟨29, _⟩ => ⟨S8x2x8x2048x2048, .f32⟩
  | .hbm, ⟨30, _⟩ => ⟨S8x2x8x2048x2048, .f32⟩
  | .hbm, ⟨31, _⟩ => ⟨S_, .f32⟩
  | .hbm, ⟨32, _⟩ => ⟨S8x2x8x2048, .f32⟩
  | .hbm, ⟨33, _⟩ => ⟨S_, .f32⟩
  | .hbm, ⟨34, _⟩ => ⟨S8x2x8x2048, .f32⟩
  | .hbm, ⟨35, _⟩ => ⟨S8x2x8x2048, .f32⟩
  | .hbm, ⟨36, _⟩ => ⟨S8x2x8x2048x1, .f32⟩
  | .hbm, ⟨37, _⟩ => ⟨S8x2x8x2048x2048, .f32⟩
  | .hbm, ⟨38, _⟩ => ⟨S8x2x8x2048x2048, .f32⟩
  | .hbm, ⟨39, _⟩ => ⟨S8x2x8x2048x2048, .f32⟩
  | .hbm, ⟨40, _⟩ => ⟨S_, .f32⟩
  | .hbm, ⟨41, _⟩ => ⟨S8x2x8x2048, .f32⟩
  | .hbm, ⟨42, _⟩ => ⟨S8x2x8x2048x1, .f32⟩
  | .hbm, ⟨43, _⟩ => ⟨S8x2x8x2048x2048, .f32⟩
  | .hbm, ⟨44, _⟩ => ⟨S8x2x8x2048x2048, .f32⟩
  | .hbm, ⟨45, _⟩ => ⟨S8x1x8x2048x2048, .f32⟩
  | .hbm, ⟨46, _⟩ => ⟨S8x8x2048x2048, .f32⟩
  | .hbm, ⟨47, _⟩ => ⟨S8x1x8x2048x2048, .f32⟩
  | .hbm, ⟨48, _⟩ => ⟨S8x8x2048x2048, .f32⟩
  | .hbm, ⟨49, _⟩ => ⟨S8x8x2048x2048, .f32⟩
  | .hbm, ⟨50, _⟩ => ⟨S8x8x2048x2048, .f32⟩
  | .hbm, ⟨51, _⟩ => ⟨S8x8x2048x2048, .f32⟩
  | .hbm, ⟨52, _⟩ => ⟨S8x8x128x2048, .f32⟩
  | .hbm, ⟨53, _⟩ => ⟨S8x2048x8x128, .f32⟩
  | .hbm, ⟨54, _⟩ => ⟨S8x2048x8x128, .f32⟩
  | .hbm, ⟨55, _⟩ => ⟨S_, .f32⟩
  | .hbm, ⟨56, _⟩ => ⟨S8x2048x8, .f32⟩
  | .hbm, ⟨57, _⟩ => ⟨S8x2048x8x1, .f32⟩
  | .hbm, ⟨58, _⟩ => ⟨S_, .f32⟩
  | .hbm, ⟨59, _⟩ => ⟨S8x2048x8x1, .f32⟩
  | .hbm, ⟨60, _⟩ => ⟨S8x2048x8x1, .f32⟩
  | .hbm, ⟨61, _⟩ => ⟨S_, .f32⟩
  | .hbm, ⟨62, _⟩ => ⟨S8x2048x8x1, .f32⟩
  | .hbm, ⟨63, _⟩ => ⟨S8x2048x8x1, .f32⟩
  | .hbm, ⟨64, _⟩ => ⟨S8x2048x8x1, .f32⟩
  | .hbm, ⟨65, _⟩ => ⟨S8x2048x8x128, .f32⟩
  | .hbm, ⟨66, _⟩ => ⟨S8x2048x8x128, .f32⟩
  | .hbm, ⟨67, _⟩ => ⟨S1x1x1x128, .f32⟩
  | .hbm, ⟨68, _⟩ => ⟨S8x2048x8x128, .f32⟩
  | .hbm, ⟨69, _⟩ => ⟨S8x2048x8x128, .f32⟩
  | .hbm, ⟨70, _⟩ => ⟨S_, .f32⟩
  | .hbm, ⟨71, _⟩ => ⟨S8x2048x8x128, .f32⟩
  | .hbm, ⟨72, _⟩ => ⟨S8x2048x8x128, .f32⟩
  | .hbm, ⟨73, _⟩ => ⟨S8x8x2048x128, .f32⟩
  | .hbm, ⟨74, _⟩ => ⟨S8x16384x128, .f32⟩
  | .hbm, ⟨75, _⟩ => ⟨S8x16384x128, .bf16⟩
  | _, _ => ⟨S24x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x16x1024x2752 : Shape := ⟨4, ![2, 16, 1024, 2752]⟩
abbrev S2x16x2752x1024 : Shape := ⟨4, ![2, 16, 2752, 1024]⟩
abbrev S16x2048x1 : Shape := ⟨3, ![16, 2048, 1]⟩
abbrev S1x2048x1024 : Shape := ⟨3, ![1, 2048, 1024]⟩
abbrev S1x1x512x1024 : Shape := ⟨4, ![1, 1, 512, 1024]⟩
abbrev S1x1x64x1024 : Shape := ⟨4, ![1, 1, 64, 1024]⟩
abbrev S1x2048x1 : Shape := ⟨3, ![1, 2048, 1]⟩
abbrev S2048x1024 : Shape := ⟨2, ![2048, 1024]⟩
abbrev S64x1024 : Shape := ⟨2, ![64, 1024]⟩
abbrev S192x1024 : Shape := ⟨2, ![192, 1024]⟩
abbrev S1x512x1024 : Shape := ⟨3, ![1, 512, 1024]⟩
abbrev S512x1024 : Shape := ⟨2, ![512, 1024]⟩
abbrev S512x192 : Shape := ⟨2, ![512, 192]⟩
abbrev S512x512 : Shape := ⟨2, ![512, 512]⟩
abbrev S2048x1 : Shape := ⟨2, ![2048, 1]⟩

abbrev nBuf : Space → Nat
  | .hbm => 8
  | .vmem => 31
  | .smem => 0
  | _ => 0

abbrev bufTy : (tb : Table) → Fin (tcTables nBuf tb) → BufTy
  | .hbm, ⟨0, _⟩ => ⟨S16x2048x1024, .bf16⟩
  | .hbm, ⟨1, _⟩ => ⟨S2x16x1024x2752, .f32⟩
  | .hbm, ⟨2, _⟩ => ⟨S2x16x1024x2752, .f32⟩
  | .hbm, ⟨3, _⟩ => ⟨S2x16x2752x1024, .f32⟩
  | .hbm, ⟨4, _⟩ => ⟨S16x2048x1, .f32⟩
  | .hbm, ⟨5, _⟩ => ⟨S2x16x2752x1024, .f32⟩
  | .hbm, ⟨6, _⟩ => ⟨S2x16x2752x1024, .f32⟩
  | .hbm, ⟨7, _⟩ => ⟨S16x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1x512x1024, .f32⟩
  | .local _ .vmem, ⟨3, _⟩ => ⟨S1x1x512x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x64x1024, .f32⟩
  | .local _ .vmem, ⟨9, _⟩ => ⟨S1x1x64x1024, .f32⟩
  | .local _ .vmem, ⟨10, _⟩ => ⟨S1x1x64x1024, .f32⟩
  | .local _ .vmem, ⟨11, _⟩ => ⟨S1x1x64x1024, .f32⟩
  | .local _ .vmem, ⟨12, _⟩ => ⟨S1x1x64x1024, .f32⟩
  | .local _ .vmem, ⟨13, _⟩ => ⟨S1x1x64x1024, .f32⟩
  | .local _ .vmem, ⟨14, _⟩ => ⟨S1x1x64x1024, .f32⟩
  | .local _ .vmem, ⟨15, _⟩ => ⟨S1x1x64x1024, .f32⟩
  | .local _ .vmem, ⟨16, _⟩ => ⟨S1x1x64x1024, .f32⟩
  | .local _ .vmem, ⟨17, _⟩ => ⟨S1x1x64x1024, .f32⟩
  | .local _ .vmem, ⟨18, _⟩ => ⟨S1x1x64x1024, .f32⟩
  | .local _ .vmem, ⟨19, _⟩ => ⟨S1x1x64x1024, .f32⟩
  | .local _ .vmem, ⟨20, _⟩ => ⟨S1x1x64x1024, .f32⟩
  | .local _ .vmem, ⟨21, _⟩ => ⟨S1x1x64x1024, .f32⟩
  | .local _ .vmem, ⟨22, _⟩ => ⟨S1x1x64x1024, .f32⟩
  | .local _ .vmem, ⟨23, _⟩ => ⟨S1x1x64x1024, .f32⟩
  | .local _ .vmem, ⟨24, _⟩ => ⟨S1x1x64x1024, .f32⟩
  | .local _ .vmem, ⟨25, _⟩ => ⟨S1x1x64x1024, .f32⟩
  | .local _ .vmem, ⟨26, _⟩ => ⟨S1x2048x1, .f32⟩
  | .local _ .vmem, ⟨27, _⟩ => ⟨S1x2048x1, .f32⟩
  | .local _ .vmem, ⟨28, _⟩ => ⟨S1x2048x1024, .bf16⟩
  | .local _ .vmem, ⟨29, _⟩ => ⟨S1x2048x1024, .bf16⟩
  | .local _ .vmem, ⟨30, _⟩ => ⟨S2048x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 6], ![false, false]⟩

def k0_cond3 (i : grid0.Coords) : BitVec 1 :=
  let arg1 : BitVec 32 := BitVec.ofNat 32 (i 1).val
  let c5_i32 : BitVec 32 := 5#32
  let v6 : BitVec 1 := Scalar.cmpi .eq arg1 c5_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg0 c1_i32
  let c0_i32_0 : BitVec 32 := 0#32
  let v2 : BitVec 32 := Scalar.maxsi v1 c0_i32_0
  let v3 : BitVec 32 := Scalar.select v0 v2 arg0
  let c0_i32_1 : BitVec 32 := 0#32
  let v4 : BitVec 1 := Scalar.cmpi .eq arg0 c0_i32_1
  let c0_i32_2 : BitVec 32 := 0#32
  let c4_i32 : BitVec 32 := 4#32
  let v5 : BitVec 32 := Scalar.select v4 c0_i32_2 c4_i32
  let c1_i32_3 : BitVec 32 := 1#32
  let v6 : BitVec 32 := Scalar.subi arg1 c1_i32_3
  let v7 : BitVec 32 := Scalar.select v0 v5 v6
  let c0_i32_4 : BitVec 32 := 0#32
  let c0_i32_5 : BitVec 32 := 0#32
  let c0_i32_6 : BitVec 32 := 0#32
  ![c0_i32_4.toNat, v3.toNat, v7.toNat, c0_i32_5.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg0 c1_i32
  let c0_i32_0 : BitVec 32 := 0#32
  let v2 : BitVec 32 := Scalar.maxsi v1 c0_i32_0
  let v3 : BitVec 32 := Scalar.select v0 v2 arg0
  let c0_i32_1 : BitVec 32 := 0#32
  let v4 : BitVec 1 := Scalar.cmpi .eq arg0 c0_i32_1
  let c0_i32_2 : BitVec 32 := 0#32
  let c4_i32 : BitVec 32 := 4#32
  let v5 : BitVec 32 := Scalar.select v4 c0_i32_2 c4_i32
  let c1_i32_3 : BitVec 32 := 1#32
  let v6 : BitVec 32 := Scalar.subi arg1 c1_i32_3
  let v7 : BitVec 32 := Scalar.select v0 v5 v6
  let c0_i32_4 : BitVec 32 := 0#32
  let c0_i32_5 : BitVec 32 := 0#32
  let c0_i32_6 : BitVec 32 := 0#32
  ![c0_i32_4.toNat, v3.toNat, v7.toNat, c0_i32_5.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg0 c1_i32
  let c0_i32_0 : BitVec 32 := 0#32
  let v2 : BitVec 32 := Scalar.maxsi v1 c0_i32_0
  let v3 : BitVec 32 := Scalar.select v0 v2 arg0
  let c0_i32_1 : BitVec 32 := 0#32
  let v4 : BitVec 1 := Scalar.cmpi .eq arg0 c0_i32_1
  let c0_i32_2 : BitVec 32 := 0#32
  let c4_i32 : BitVec 32 := 4#32
  let v5 : BitVec 32 := Scalar.select v4 c0_i32_2 c4_i32
  let c1_i32_3 : BitVec 32 := 1#32
  let v6 : BitVec 32 := Scalar.subi arg1 c1_i32_3
  let v7 : BitVec 32 := Scalar.select v0 v5 v6
  let c0_i32_4 : BitVec 32 := 0#32
  let c0_i32_5 : BitVec 32 := 0#32
  let c0_i32_6 : BitVec 32 := 0#32
  ![c0_i32_4.toNat, v3.toNat, v7.toNat, c0_i32_5.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  let c0_i32_1 : BitVec 32 := 0#32
  ![c0_i32.toNat, arg0.toNat, c40_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  let c0_i32_1 : BitVec 32 := 0#32
  ![c0_i32.toNat, arg0.toNat, c41_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c42_i32 : BitVec 32 := 42#32
  let c0_i32_0 : BitVec 32 := 0#32
  let c0_i32_1 : BitVec 32 := 0#32
  ![c0_i32.toNat, arg0.toNat, c42_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  let c0_i32_1 : BitVec 32 := 0#32
  ![c0_i32.toNat, arg0.toNat, c40_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  let c0_i32_1 : BitVec 32 := 0#32
  ![c0_i32.toNat, arg0.toNat, c41_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c42_i32 : BitVec 32 := 42#32
  let c0_i32_0 : BitVec 32 := 0#32
  let c0_i32_1 : BitVec 32 := 0#32
  ![c0_i32.toNat, arg0.toNat, c42_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  let c0_i32_1 : BitVec 32 := 0#32
  ![c0_i32.toNat, arg0.toNat, c40_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  let c0_i32_1 : BitVec 32 := 0#32
  ![c0_i32.toNat, arg0.toNat, c41_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c42_i32 : BitVec 32 := 42#32
  let c0_i32_0 : BitVec 32 := 0#32
  let c0_i32_1 : BitVec 32 := 0#32
  ![c0_i32.toNat, arg0.toNat, c42_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2048x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference2Ideal.lean ====
abbrev S16x2048x1024 : Shape := ⟨3, ![16, 2048, 1024]⟩
abbrev S2x16x1024x2752 : Shape := ⟨4, ![2, 16, 1024, 2752]⟩
abbrev S2x16x2752x1024 : Shape := ⟨4, ![2, 16, 2752, 1024]⟩
abbrev S16x2048x1 : Shape := ⟨3, ![16, 2048, 1]⟩
abbrev S1x16x1024x2752 : Shape := ⟨4, ![1, 16, 1024, 2752]⟩
abbrev S16x1024x2752 : Shape := ⟨3, ![16, 1024, 2752]⟩
abbrev S16x2048x2752 : Shape := ⟨3, ![16, 2048, 2752]⟩
abbrev S_ : Shape := ⟨0, ![]⟩
abbrev S1x16x2752x1024 : Shape := ⟨4, ![1, 16, 2752, 1024]⟩
abbrev S16x2752x1024 : Shape := ⟨3, ![16, 2752, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S2x16x1024x2752, .f32⟩
  | .hbm, ⟨2, _⟩ => ⟨S2x16x1024x2752, .f32⟩
  | .hbm, ⟨3, _⟩ => ⟨S2x16x2752x1024, .f32⟩
  | .hbm, ⟨4, _⟩ => ⟨S16x2048x1, .f32⟩
  | .hbm, ⟨5, _⟩ => ⟨S16x2048x1024, .f32⟩
  | .hbm, ⟨6, _⟩ => ⟨S1x16x1024x2752, .f32⟩
  | .hbm, ⟨7, _⟩ => ⟨S16x1024x2752, .f32⟩
  | .hbm, ⟨8, _⟩ => ⟨S16x2048x2752, .f32⟩
  | .hbm, ⟨9, _⟩ => ⟨S16x2048x2752, .f32⟩
  | .hbm, ⟨10, _⟩ => ⟨S16x2048x2752, .f32⟩
  | .hbm, ⟨11, _⟩ => ⟨S_, .f32⟩
  | .hbm, ⟨12, _⟩ => ⟨S16x2048x2752, .f32⟩
  | .hbm, ⟨13, _⟩ => ⟨S16x2048x2752, .f32⟩
  | .hbm, ⟨14, _⟩ => ⟨S_, .f32⟩
  | .hbm, ⟨15, _⟩ => ⟨S16x2048x2752, .f32⟩
  | .hbm, ⟨16, _⟩ => ⟨S16x2048x2752, .f32⟩
  | .hbm, ⟨17, _⟩ => ⟨S16x2048x2752, .f32⟩
  | .hbm, ⟨18, _⟩ => ⟨S1x16x1024x2752, .f32⟩
  | .hbm, ⟨19, _⟩ => ⟨S16x1024x2752, .f32⟩
  | .hbm, ⟨20, _⟩ => ⟨S16x2048x2752, .f32⟩
  | .hbm, ⟨21, _⟩ => ⟨S16x2048x2752, .f32⟩
  | .hbm, ⟨22, _⟩ => ⟨S1x16x2752x1024, .f32⟩
  | .hbm, ⟨23, _⟩ => ⟨S16x2752x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S8x1024 : Shape := ⟨2, ![8, 1024]⟩
abbrev S2x1024x7680 : Shape := ⟨3, ![2, 1024, 7680]⟩
abbrev S8x2048 : Shape := ⟨2, ![8, 2048]⟩
abbrev S128 : Shape := ⟨1, ![128]⟩
abbrev S8 : Shape := ⟨1, ![8]⟩
abbrev S_ : Shape := ⟨0, ![]⟩
abbrev S16384x1 : Shape := ⟨2, ![16384, 1]⟩
abbrev S128x1 : Shape := ⟨2, ![128, 1]⟩
abbrev S1x128 : Shape := ⟨2, ![1, 128]⟩
abbrev S16384x128 : Shape := ⟨2, ![16384, 128]⟩
abbrev S1x1024 : Shape := ⟨2, ![1, 1024]⟩
abbrev S8x1x1024 : Shape := ⟨3, ![8, 1, 1024]⟩
abbrev S16384x4608 : Shape := ⟨2, ![16384, 4608]⟩
abbrev S24x16384x128 : Shape := ⟨3, ![24, 16384, 128]⟩
abbrev S512x1024 : Shape := ⟨2, ![512, 1024]⟩
abbrev S1x1x1024 : Shape := ⟨3, ![1, 1, 1024]⟩
abbrev S1x1024x7680 : Shape := ⟨3, ![1, 1024, 7680]⟩
abbrev S512x128 : Shape := ⟨2, ![512, 128]⟩
abbrev S512x4608 : Shape := ⟨2, ![512, 4608]⟩
abbrev S24x512x128 : Shape := ⟨3, ![24, 512, 128]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x128 : Shape := ⟨3, ![1, 512, 128]⟩

abbrev nBuf : Space → Nat
  | .hbm => 63
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S2x1024x7680, .f32⟩
  | .hbm, ⟨5, _⟩ => ⟨S8x2048, .i32⟩
  | .hbm, ⟨6, _⟩ => ⟨S128, .i32⟩
  | .hbm, ⟨7, _⟩ => ⟨S128, .i1⟩
  | .hbm, ⟨8, _⟩ => ⟨S128, .i1⟩
  | .hbm, ⟨9, _⟩ => ⟨S128, .i1⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8x2048, .f32⟩
  | .hbm, ⟨25, _⟩ => ⟨S16384x1, .f32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128, .f32⟩
  | .hbm, ⟨32, _⟩ => ⟨S1x128, .f32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S1x128, .i1⟩
  | .hbm, ⟨39, _⟩ => ⟨S1x128, .i1⟩
  | .hbm, ⟨40, _⟩ => ⟨S1x128, .i1⟩
  | .hbm, ⟨41, _⟩ => ⟨S_, .f32⟩
  | .hbm, ⟨42, _⟩ => ⟨S_, .f32⟩
  | .hbm, ⟨43, _⟩ => ⟨S16384x128, .i1⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S_, .f32⟩
  | .hbm, ⟨48, _⟩ => ⟨S_, .f32⟩
  | .hbm, ⟨49, _⟩ => ⟨S16384x128, .i1⟩
  | .hbm, ⟨50, _⟩ => ⟨S16384x128, .f32⟩
  | .hbm, ⟨51, _⟩ => ⟨S16384x128, .f32⟩
  | .hbm, ⟨52, _⟩ => ⟨S_, .f32⟩
  | .hbm, ⟨53, _⟩ => ⟨S_, .f32⟩
  | .hbm, ⟨54, _⟩ => ⟨S16384x128, .i1⟩
  | .hbm, ⟨55, _⟩ => ⟨S16384x128, .f32⟩
  | .hbm, ⟨56, _⟩ => ⟨S16384x128, .f32⟩
  | .hbm, ⟨57, _⟩ => ⟨S1x1024, .f32⟩
  | .hbm, ⟨58, _⟩ => ⟨S8x1x1024, .f32⟩
  | .hbm, ⟨59, _⟩ => ⟨S8x1x1024, .f32⟩
  | .hbm, ⟨60, _⟩ => ⟨S2x1024x7680, .bf16⟩
  | .hbm, ⟨61, _⟩ => ⟨S16384x4608, .bf16⟩
  | .hbm, ⟨62, _⟩ => ⟨S24x16384x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x7680, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x4608, .bf16⟩
  | .local _ .vmem, ⟨15, _⟩ => ⟨S512x4608, .bf16⟩
  | .local _ .vmem, ⟨16, _⟩ => ⟨S24x512x128, .bf16⟩
  | .local _ .vmem, ⟨17, _⟩ => ⟨S24x512x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_3 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_cst_5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_6 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34_0 : Ref sig .tc := ⟨.hbm, 61, rfl⟩
abbrev main_v34_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x7680 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4608 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S24x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S1024 : Shape := ⟨1, ![1024]⟩
abbrev S8x1024 : Shape := ⟨2, ![8, 1024]⟩
abbrev S2x1024x7680 : Shape := ⟨3, ![2, 1024, 7680]⟩
abbrev S8x2048 : Shape := ⟨2, ![8, 2048]⟩
abbrev S8 : Shape := ⟨1, ![8]⟩
abbrev S_ : Shape := ⟨0, ![]⟩
abbrev S8x2048x1 : Shape := ⟨3, ![8, 2048, 1]⟩
abbrev S1x1x8 : Shape := ⟨3, ![1, 1, 8]⟩
abbrev S8x2048x8 : Shape := ⟨3, ![8, 2048, 8]⟩
abbrev S8x2048x1024 : Shape := ⟨3, ![8, 2048, 1024]⟩
abbrev S1x1x1024 : Shape := ⟨3, ![1, 1, 1024]⟩
abbrev S8x1x1024 : Shape := ⟨3, ![8, 1, 1024]⟩
abbrev S1x1024x7680 : Shape := ⟨3, ![1, 1024, 7680]⟩
abbrev S1024x7680 : Shape := ⟨2, ![1024, 7680]⟩
abbrev S8x2048x7680 : Shape := ⟨3, ![8, 2048, 7680]⟩
abbrev S8x2048x512 : Shape := ⟨3, ![8, 2048, 512]⟩
abbrev S8x2048x3072 : Shape := ⟨3, ![8, 2048, 3072]⟩
abbrev S8x2048x8x2x64 : Shape := ⟨5, ![8, 2048, 8, 2, 64]⟩
abbrev S8x2048x8x2x8 : Shape := ⟨5, ![8, 2048, 8, 2, 8]⟩
abbrev S8x2048x8x2x48 : Shape := ⟨5, ![8, 2048, 8, 2, 48]⟩
abbrev S8x2048x1x1x8 : Shape := ⟨5, ![8, 2048, 1, 1, 8]⟩
abbrev S8x2048x8x128 : Shape := ⟨4, ![8, 2048, 8, 128]⟩
abbrev S8x2048x4608 : Shape := ⟨3, ![8, 2048, 4608]⟩
abbrev S8x2048x24x128 : Shape := ⟨4, ![8, 2048, 24, 128]⟩
abbrev S24x8x2048x128 : Shape := ⟨4, ![24, 8, 2048, 128]⟩
abbrev S16384x4608 : Shape := ⟨2, ![16384, 4608]⟩
abbrev S24x16384x128 : Shape := ⟨3, ![24, 16384, 128]⟩

abbrev nBuf : Space → Nat
  | .hbm => 132
  | .vmem => 0
  | .smem => 0
  | _ => 0

abbrev hbmTy0_0 (i : Nat) : BufTy := match i % 128 with
  | 0 => ⟨S16384x1024, .f32⟩
  | 1 => ⟨S1024, .f32⟩
  | 2 => ⟨S8x1024, .f32⟩
  | 3 => ⟨S8x1024, .f32⟩
  | 4 => ⟨S2x1024x7680, .f32⟩
  | 5 => ⟨S8x2048, .i32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8x2048, .f32⟩
  | 21 => ⟨S8x2048x1, .f32⟩
  | 22 => ⟨S1x1x8, .f32⟩
  | 23 => ⟨S8x2048x8, .f32⟩
  | 24 => ⟨S8x2048x8, .f32⟩
  | 25 => ⟨S8x2048x8, .f32⟩
  | 26 => ⟨S8x2048x8, .f32⟩
  | 27 => ⟨S8x2048x8, .f32⟩
  | 28 => ⟨S8x2048x1024, .f32⟩
  | 29 => ⟨S8x2048x1024, .f32⟩
  | 30 => ⟨S_, .f32⟩
  | 31 => ⟨S8x2048, .f32⟩
  | 32 => ⟨S8x2048x1, .f32⟩
  | 33 => ⟨S_, .f32⟩
  | 34 => ⟨S8x2048x1, .f32⟩
  | 35 => ⟨S8x2048x1, .f32⟩
  | 36 => ⟨S_, .f32⟩
  | 37 => ⟨S8x2048x1, .f32⟩
  | 38 => ⟨S8x2048x1, .f32⟩
  | 39 => ⟨S8x2048x1, .f32⟩
  | 40 => ⟨S8x2048x1024, .f32⟩
  | 41 => ⟨S8x2048x1024, .f32⟩
  | 42 => ⟨S1x1x1024, .f32⟩
  | 43 => ⟨S8x2048x1024, .f32⟩
  | 44 => ⟨S8x2048x1024, .f32⟩
  | 45 => ⟨S8x1x1024, .f32⟩
  | 46 => ⟨S_, .f32⟩
  | 47 => ⟨S8x1x1024, .f32⟩
  | 48 => ⟨S8x1x1024, .f32⟩
  | 49 => ⟨S8x2048x1024, .f32⟩
  | 50 => ⟨S8x2048x1024, .f32⟩
  | 51 => ⟨S8x1x1024, .f32⟩
  | 52 => ⟨S8x2048x1024, .f32⟩
  | 53 => ⟨S8x2048x1024, .f32⟩
  | 54 => ⟨S1x1024x7680, .f32⟩
  | 55 => ⟨S1024x7680, .f32⟩
  | 56 => ⟨S8x2048x7680, .f32⟩
  | 57 => ⟨S8x2048x1024, .f32⟩
  | 58 => ⟨S8x2048x1024, .f32⟩
  | 59 => ⟨S8x2048x1024, .f32⟩
  | 60 => ⟨S8x2048x512, .f32⟩
  | 61 => ⟨S8x2048x1024, .f32⟩
  | 62 => ⟨S8x2048x3072, .f32⟩
  | 63 => ⟨S8x2048x8x2x64, .f32⟩
  | 64 => ⟨S8x2048x8x2x8, .f32⟩
  | 65 => ⟨S8x2048x8x2x8, .f32⟩
  | 66 => ⟨S8x2048x8x2x48, .f32⟩
  | 67 => ⟨S8x2048x1x1x8, .f32⟩
  | 68 => ⟨S8x2048x1x1x8, .f32⟩
  | 69 => ⟨S8x2048x8x2x8, .f32⟩
  | 70 => ⟨S8x2048x8x2x8, .f32⟩
  | 71 => ⟨S8x2048x8x2x8, .f32⟩
  | 72 => ⟨S8x2048x8x2x8, .f32⟩
  | 73 => ⟨S8x2048x8x2x8, .f32⟩
  | 74 => ⟨S8x2048x8x2x8, .f32⟩
  | 75 => ⟨S8x2048x8x2x8, .f32⟩
  | 76 => ⟨S8x2048x8x2x8, .f32⟩
  | 77 => ⟨S8x2048x8x2x8, .f32⟩
  | 78 => ⟨S8x2048x8x2x8, .f32⟩
  | 79 => ⟨S8x2048x8x2x64, .f32⟩
  | 80 => ⟨S8x2048x8x128, .f32⟩
  | 81 => ⟨S8x2048x8x2x64, .f32⟩
  | 82 => ⟨S8x2048x8x2x8, .f32⟩
  | 83 => ⟨S8x2048x8x2x8, .f32⟩
  | 84 => ⟨S8x2048x8x2x48, .f32⟩
  | 85 => ⟨S8x2048x1x1x8, .f32⟩
  | 86 => ⟨S8x2048x1x1x8, .f32⟩
  | 87 => ⟨S8x2048x8x2x8, .f32⟩
  | 88 => ⟨S8x2048x8x2x8, .f32⟩
  | 89 => ⟨S8x2048x8x2x8, .f32⟩
  | 90 => ⟨S8x2048x8x2x8, .f32⟩
  | 91 => ⟨S8x2048x8x2x8, .f32⟩
  | 92 => ⟨S8x2048x8x2x8, .f32⟩
  | 93 => ⟨S8x2048x8x2x8, .f32⟩
  | 94 => ⟨S8x2048x8x2x8, .f32⟩
  | 95 => ⟨S8x2048x8x2x8, .f32⟩
  | 96 => ⟨S8x2048x8x2x8, .f32⟩
  | 97 => ⟨S8x2048x8x2x64, .f32⟩
  | 98 => ⟨S8x2048x8x128, .f32⟩
  | 99 => ⟨S8x2048x8x128, .f32⟩
  | 100 => ⟨S8x2048x3072, .f32⟩
  | 101 => ⟨S8x2048x3072, .f32⟩
  | 102 => ⟨S_, .f32⟩
  | 103 => ⟨S8x2048x3072, .f32⟩
  | 104 => ⟨S8x2048x3072, .f32⟩
  | 105 => ⟨S_, .f32⟩
  | 106 => ⟨S8x2048x3072, .f32⟩
  | 107 => ⟨S8x2048x3072, .f32⟩
  | 108 => ⟨S8x2048x1024, .f32⟩
  | 109 => ⟨S8x2048x1024, .f32⟩
  | 110 => ⟨S_, .f32⟩
  | 111 => ⟨S8x2048x1024, .f32⟩
  | 112 => ⟨S8x2048x1024, .f32⟩
  | 113 => ⟨S8x2048x1024, .f32⟩
  | 114 => ⟨S_, .f32⟩
  | 115 => ⟨S8x2048x1024, .f32⟩
  | 116 => ⟨S8x2048x1024, .f32⟩
  | 117 => ⟨S8x2048x1024, .f32⟩
  | 118 => ⟨S_, .f32⟩
  | 119 => ⟨S8x2048x1024, .f32⟩
  | 120 => ⟨S8x2048x1024, .f32⟩
  | 121 => ⟨S_, .f32⟩
  | 122 => ⟨S8x2048x1024, .f32⟩
  | 123 => ⟨S8x2048x1024, .f32⟩
  | 124 => ⟨S8x2048x1024, .f32⟩
  | 125 => ⟨S8x2048x4608, .f32⟩
  | 126 => ⟨S8x2048x24x128, .f32⟩
  | 127 => ⟨S24x8x2048x128, .f32⟩
  | _ => ⟨S16384x1024, .f32⟩

abbrev hbmTy0_1 (i : Nat) : BufTy := match i % 128 with
  | 0 => ⟨S16384x4608, .f32⟩
  | 1 => ⟨S16384x4608, .bf16⟩
  | 2 => ⟨S24x16384x128, .f32⟩
  | 3 => ⟨S24x16384x128, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_7 : Ref sig .tc := ⟨.hbm, 102, rfl⟩
abbrev main_v88 : Ref sig .tc := ⟨.hbm, 103, rfl⟩
abbrev main_v89 : Ref sig .tc := ⟨.hbm, 104, rfl⟩
abbrev main_cst_8 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_9 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_10 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_11 : Ref sig .tc := ⟨.hbm, 118, rfl⟩
abbrev main_v100 : Ref sig .tc := ⟨.hbm, 119, rfl⟩
abbrev main_v101 : Ref sig .tc := ⟨.hbm, 120, rfl⟩
abbrev main_cst_12 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩

abbrev nD : Nat := 1
abbrev τ : Topo := Topo.v7x

variable {F : FTy → Type} [FloatOps F]
-- ==== Kernel4.lean ====
abbrev S8x16384x128 : Shape := ⟨3, ![8, 16384, 128]⟩
abbrev S16384x512 : Shape := ⟨2, ![16384, 512]⟩
abbrev S16384x4608 : Shape := ⟨2, ![16384, 4608]⟩
abbrev S16384x1024 : Shape := ⟨2, ![16384, 1024]⟩
abbrev S1024x1024 : Shape := ⟨2, ![1024, 1024]⟩
abbrev S512x1024 : Shape := ⟨2, ![512, 1024]⟩
abbrev S8x1024 : Shape := ⟨2, ![8, 1024]⟩
abbrev S1024 : Shape := ⟨1, ![1024]⟩
abbrev S1024x16 : Shape := ⟨2, ![1024, 16]⟩
abbrev S8x1x1024 : Shape := ⟨3, ![8, 1, 1024]⟩
abbrev S1x1024 : Shape := ⟨2, ![1, 1024]⟩
abbrev S16x1024 : Shape := ⟨2, ![16, 1024]⟩
abbrev S16x16384 : Shape := ⟨2, ![16, 16384]⟩
abbrev S8x1024x128 : Shape := ⟨3, ![8, 1024, 128]⟩
abbrev S1024x512 : Shape := ⟨2, ![1024, 512]⟩
abbrev S1024x3072 : Shape := ⟨2, ![1024, 3072]⟩
abbrev S1x1x1024 : Shape := ⟨3, ![1, 1, 1024]⟩
abbrev S1x256x128 : Shape := ⟨3, ![1, 256, 128]⟩
abbrev S256x128 : Shape := ⟨2, ![256, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S32x1024 : Shape := ⟨2, ![32, 1024]⟩
abbrev S32x256 : Shape := ⟨2, ![32, 256]⟩
abbrev S16x256 : Shape := ⟨2, ![16, 256]⟩
abbrev S1x256 : Shape := ⟨2, ![1, 256]⟩

abbrev nBuf : Space → Nat
  | .hbm => 26
  | .vmem => 28
  | .smem => 0
  | _ => 0

abbrev bufTy : (tb : Table) → Fin (tcTables nBuf tb) → BufTy
  | .hbm, ⟨0, _⟩ => ⟨S8x16384x128, .bf16⟩
  | .hbm, ⟨1, _⟩ => ⟨S16384x512, .bf16⟩
  | .hbm, ⟨2, _⟩ => ⟨S16384x512, .bf16⟩
  | .hbm, ⟨3, _⟩ => ⟨S16384x4608, .bf16⟩
  | .hbm, ⟨4, _⟩ => ⟨S16384x1024, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8x1024, .f32⟩
  | .hbm, ⟨10, _⟩ => ⟨S1024, .f32⟩
  | .hbm, ⟨11, _⟩ => ⟨S8x1024, .f32⟩
  | .hbm, ⟨12, _⟩ => ⟨S8x1024, .f32⟩
  | .hbm, ⟨13, _⟩ => ⟨S1024x16, .f32⟩
  | .hbm, ⟨14, _⟩ => ⟨S1024x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S8x1x1024, .f32⟩
  | .hbm, ⟨19, _⟩ => ⟨S1x1024, .f32⟩
  | .hbm, ⟨20, _⟩ => ⟨S8x1x1024, .f32⟩
  | .hbm, ⟨21, _⟩ => ⟨S8x1x1024, .f32⟩
  | .hbm, ⟨22, _⟩ => ⟨S16x1024, .f32⟩
  | .hbm, ⟨23, _⟩ => ⟨S16384x1024, .f32⟩
  | .hbm, ⟨24, _⟩ => ⟨S16384x1024, .bf16⟩
  | .hbm, ⟨25, _⟩ => ⟨S16x16384, .f32⟩
  | .local _ .vmem, ⟨0, _⟩ => ⟨S8x1024x128, .bf16⟩
  | .local _ .vmem, ⟨1, _⟩ => ⟨S8x1024x128, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x3072, .bf16⟩
  | .local _ .vmem, ⟨7, _⟩ => ⟨S1024x3072, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S16x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S16x1024, .f32⟩
  | .local _ .vmem, ⟨27, _⟩ => ⟨S16x1024, .f32⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S8x16384x128 : Shape := ⟨3, ![8, 16384, 128]⟩
abbrev S16384x512 : Shape := ⟨2, ![16384, 512]⟩
abbrev S16384x4608 : Shape := ⟨2, ![16384, 4608]⟩
abbrev S16384x1024 : Shape := ⟨2, ![16384, 1024]⟩
abbrev S1024x1024 : Shape := ⟨2, ![1024, 1024]⟩
abbrev S512x1024 : Shape := ⟨2, ![512, 1024]⟩
abbrev S8x1024 : Shape := ⟨2, ![8, 1024]⟩
abbrev S1024 : Shape := ⟨1, ![1024]⟩
abbrev S1024x16 : Shape := ⟨2, ![1024, 16]⟩
abbrev S16384x8x128 : Shape := ⟨3, ![16384, 8, 128]⟩
abbrev S8x2048x1024 : Shape := ⟨3, ![8, 2048, 1024]⟩
abbrev S8x2048x512 : Shape := ⟨3, ![8, 2048, 512]⟩
abbrev S16384x3072 : Shape := ⟨2, ![16384, 3072]⟩
abbrev S8x2048x3072 : Shape := ⟨3, ![8, 2048, 3072]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x16 : Shape := ⟨3, ![8, 2048, 16]⟩
abbrev S16x8x2048 : Shape := ⟨3, ![16, 8, 2048]⟩
abbrev S16x16384 : Shape := ⟨2, ![16, 16384]⟩

abbrev nBuf : Space → Nat
  | .hbm => 86
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S16384x512, .bf16⟩
  | .hbm, ⟨2, _⟩ => ⟨S16384x512, .bf16⟩
  | .hbm, ⟨3, _⟩ => ⟨S16384x4608, .bf16⟩
  | .hbm, ⟨4, _⟩ => ⟨S16384x1024, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8x1024, .f32⟩
  | .hbm, ⟨10, _⟩ => ⟨S1024, .f32⟩
  | .hbm, ⟨11, _⟩ => ⟨S8x1024, .f32⟩
  | .hbm, ⟨12, _⟩ => ⟨S8x1024, .f32⟩
  | .hbm, ⟨13, _⟩ => ⟨S1024x16, .f32⟩
  | .hbm, ⟨14, _⟩ => ⟨S8x16384x128, .f32⟩
  | .hbm, ⟨15, _⟩ => ⟨S16384x8x128, .f32⟩
  | .hbm, ⟨16, _⟩ => ⟨S8x2048x1024, .f32⟩
  | .hbm, ⟨17, _⟩ => ⟨S16384x512, .f32⟩
  | .hbm, ⟨18, _⟩ => ⟨S8x2048x512, .f32⟩
  | .hbm, ⟨19, _⟩ => ⟨S16384x512, .f32⟩
  | .hbm, ⟨20, _⟩ => ⟨S8x2048x512, .f32⟩
  | .hbm, ⟨21, _⟩ => ⟨S16384x3072, .bf16⟩
  | .hbm, ⟨22, _⟩ => ⟨S16384x3072, .f32⟩
  | .hbm, ⟨23, _⟩ => ⟨S8x2048x3072, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S8x1x1024, .f32⟩
  | .hbm, ⟨58, _⟩ => ⟨S_, .f32⟩
  | .hbm, ⟨59, _⟩ => ⟨S8x1x1024, .f32⟩
  | .hbm, ⟨60, _⟩ => ⟨S8x1x1024, .f32⟩
  | .hbm, ⟨61, _⟩ => ⟨S8x2048x1024, .f32⟩
  | .hbm, ⟨62, _⟩ => ⟨S8x2048x1024, .f32⟩
  | .hbm, ⟨63, _⟩ => ⟨S8x1x1024, .f32⟩
  | .hbm, ⟨64, _⟩ => ⟨S8x2048x1024, .f32⟩
  | .hbm, ⟨65, _⟩ => ⟨S8x2048x1024, .f32⟩
  | .hbm, ⟨66, _⟩ => ⟨S8x2048x16, .f32⟩
  | .hbm, ⟨67, _⟩ => ⟨S_, .f32⟩
  | .hbm, ⟨68, _⟩ => ⟨S8x2048, .f32⟩
  | .hbm, ⟨69, _⟩ => ⟨S_, .f32⟩
  | .hbm, ⟨70, _⟩ => ⟨S8x2048, .f32⟩
  | .hbm, ⟨71, _⟩ => ⟨S8x2048, .f32⟩
  | .hbm, ⟨72, _⟩ => ⟨S8x2048x1, .f32⟩
  | .hbm, ⟨73, _⟩ => ⟨S8x2048x16, .f32⟩
  | .hbm, ⟨74, _⟩ => ⟨S8x2048x16, .f32⟩
  | .hbm, ⟨75, _⟩ => ⟨S8x2048x16, .f32⟩
  | .hbm, ⟨76, _⟩ => ⟨S_, .f32⟩
  | .hbm, ⟨77, _⟩ => ⟨S8x2048, .f32⟩
  | .hbm, ⟨78, _⟩ => ⟨S8x2048x1, .f32⟩
  | .hbm, ⟨79, _⟩ => ⟨S8x2048x16, .f32⟩
  | .hbm, ⟨80, _⟩ => ⟨S8x2048x16, .f32⟩
  | .hbm, ⟨81, _⟩ => ⟨S16384x1024, .f32⟩
  | .hbm, ⟨82, _⟩ => ⟨S16384x1024, .f32⟩
  | .hbm, ⟨83, _⟩ => ⟨S16384x1024, .bf16⟩
  | .hbm, ⟨84, _⟩ => ⟨S16x8x2048, .f32⟩
  | .hbm, ⟨85, _⟩ => ⟨S16x16384, .f32⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_2 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_cst_4 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Proof.Attn.Block.lean ====
/- What one grid point of the attention kernel leaves in its output block, as two tiles of 1024 queries, each
   the same function of the queries, the four chunks of keys and of values, the factor of the second component
   and the gain. -/
module

public import proofs.«01_k».proof.Proof.Gen.KernelIdeal.Value
public import Idealize.ShloMosaic.Lib.Pipeline.Value

@[expose] public section

set_option maxRecDepth 16384

noncomputable section

namespace Cert.KernelIdeal.AttnBlock

open Cert.KernelIdeal Cert.KernelIdeal.Gen Idealize.ShloMosaic Idealize.ShloMosaic.TcCoe Idealize.SL.Sem
open Idealize.ShloMosaic.Tactic

/-! ## The values and the keys, chunk by chunk -/

/-- The value scratch after its two stores: the values transposed over 16 rows of ones. -/
def valuesT (x7 : Vec Ideal S1x2048x128 .bf16) : Vec Ideal S144x2048 .bf16 :=
  View.canon (Val := Elt Ideal) (e := .bf16)
    [⟨Rect.unit ![128, 0] ![16, 2048] inb_S144x2048_S16x2048_128_0, k0_pay3 (F := Ideal)⟩,
      ⟨Rect.unit ![0, 0] ![128, 2048] inb_S144x2048_S128x2048_0_0,
        k0_pay2 (View.ld x7 (Rect.unit ![0, 0, 0] ![1, 2048, 128] inb_S1x2048x128_S1x2048x128_0_0_0))⟩]

/-- Columns `o …` of the value scratch. -/
def valuesAt (x7 : Vec Ideal S1x2048x128 .bf16) (o : ℕ) (h : ∀ a : Fin 2, ![0, o] a + ![144, 512] a ≤ S144x2048.size a) :
    Vec Ideal S144x512 .bf16 :=
  fun j => valuesT x7 ((Rect.unit (s := S144x2048) ![0, o] ![144, 512] h).idx j)

/-- Rows `o …` of the keys. -/
def keysAt (x6 : Vec Ideal S1x2048x128 .bf16) (o : ℕ) (h : ∀ a : Fin 3, ![0, o, 0] a + ![1, 512, 128] a ≤ S1x2048x128.size a) :
    Vec Ideal S1x512x128 .bf16 :=
  View.ld (Val := Elt Ideal) (e' := .bf16) x6 (Rect.unit (s := S1x2048x128) ![0, o, 0] ![1, 512, 128] h)

/-- Rows `o …` of the queries. -/
def queriesAt (x5 : Vec Ideal S1x2048x128 .bf16) (o : ℕ) (h : ∀ a : Fin 3, ![0, o, 0] a + ![1, 1024, 128] a ≤ S1x2048x128.size a) :
    Vec Ideal S1x1024x128 .bf16 :=
  View.ld (Val := Elt Ideal) (e' := .bf16) x5 (Rect.unit (s := S1x2048x128) ![0, o, 0] ![1, 1024, 128] h)

/-! ## One tile of queries -/

/-- The queries scaled, then masked to one component's lanes. -/
def masked (mask : FVec Ideal S1024x128 .bf16) (q : Vec Ideal S1x1024x128 .bf16) : FVec Ideal S1024x128 .bf16 :=
  mulf (truncf .bf16 (mulf (extf .f32 (shapeCast S1024x128 q shapeCasts_S1x1024x128_S1024x128) bitsLt_bf16_f32)
    (broadcast S1024x128 (Named.named (F := Ideal) κ "q_scale" 0x3E38AA3B#32))) bitsLt_bf16_f32) mask

/-- The scores of a chunk of keys (rows) against the queries (columns). -/
def scores (qm : FVec Ideal S1024x128 .bf16) (k : Vec Ideal S1x512x128 .bf16) : FVec Ideal S512x1024 .f32 :=
  matmul (φ₁ := .bf16) (φ₂ := .bf16) dot_S512x128_S1024x128_S512x1024_1_1_0_0_n_n none (shapeCast (α := Ideal .bf16) S512x128 k shapeCasts_S1x512x128_S512x128) qm
    (constant S512x1024 .f32 0x00000000#32)

/-- Each query's greatest score in a chunk. -/
def chunkMax (s : FVec Ideal S512x1024 .f32) : FVec Ideal S1x1024 .f32 :=
  shapeCast S1x1024 (multiReduction .maximumf [0] S1024 s 0xFF800000#32 reduces_S512x1024_S1024 (.inl rfl) rfl)
    shapeCasts_S1024_S1x1024

/-- A chunk's values weighted by their scores against the maxima `m`. -/
def weighted (m : FVec Ideal S1x1024 .f32) (s : FVec Ideal S512x1024 .f32) (v : Vec Ideal S144x512 .bf16) : FVec Ideal S144x1024 .f32 :=
  matmul (φ₁ := .bf16) (φ₂ := .bf16) dot_S144x512_S512x1024_S144x1024_1_0_0_1_n_n none v
    (truncf .bf16 (exp2 (subf s (broadcastTo S512x1024 m broadcasts_S1x1024_S512x1024))) bitsLt_bf16_f32)
    (constant S144x1024 .f32 0x00000000#32)

/-- The weighted sum rescaled from the maxima `m` to `m'`, a further chunk added. -/
def further (m m' : FVec Ideal S1x1024 .f32) (a : FVec Ideal S144x1024 .f32) (s : FVec Ideal S512x1024 .f32) (v : Vec Ideal S144x512 .bf16) :
    FVec Ideal S144x1024 .f32 :=
  addf (mulf a (broadcastTo S144x1024 (exp2 (subf m m')) broadcasts_S1x1024_S144x1024)) (weighted m' s v)

/-- One component's weighted sum over the four chunks. -/
def component (qm : FVec Ideal S1024x128 .bf16) (k0 k1 k2 k3 : Vec Ideal S1x512x128 .bf16) (v0 v1 v2 v3 : Vec Ideal S144x512 .bf16) :
    FVec Ideal S144x1024 .f32 :=
  let m0 := chunkMax (scores qm k0)
  let m1 := maximumf m0 (chunkMax (scores qm k1))
  let m2 := maximumf m1 (chunkMax (scores qm k2))
  let m3 := maximumf m2 (chunkMax (scores qm k3))
  further m2 m3 (further m1 m2 (further m0 m1 (weighted m0 (scores qm k0) v0) (scores qm k1) v1) (scores qm k2) v2)
    (scores qm k3) v3

/-- The values' part of a weighted sum divided by its row of summed weights. -/
def divided (a : FVec Ideal S144x1024 .f32) : FVec Ideal S128x1024 .f32 :=
  divf (extractStridedSlice S128x1024 ![0, 0] a slices_S144x1024_o0_0_S128x1024)
    (broadcastTo S128x1024 (extractStridedSlice S1x1024 ![128, 0] a slices_S144x1024_o128_0_S1x1024) broadcasts_S1x1024_S128x1024)

/-- The components combined. -/
def combined (lam : FVec Ideal S1x1 .f32) (a0 a1 : FVec Ideal S144x1024 .f32) : FVec Ideal S128x1024 .f32 :=
  subf (divided a0) (mulf (broadcastTo S128x1024 lam broadcasts_S1x1_S128x1024) (divided a1))

/-- The output tile: the combined row normalized and multiplied by the gain. -/
def normed (gain : FVec Ideal S1x128 .f32) (o : FVec Ideal S128x1024 .f32) : FVec Ideal S1x1024x128 .bf16 :=
  shapeCast S1x1024x128
    (truncf .bf16
      (mulf
        (transpose S1024x128 [1, 0]
          (mulf o (broadcastTo S128x1024
            (rsqrt (addf
              (divf (shapeCast S1x1024 (multiReduction .add [0] S1024 (mulf o o) 0x00000000#32 reduces_S128x1024_S1024 (.inl rfl) rfl)
                shapeCasts_S1024_S1x1024) (broadcast S1x1024 (Scalar.ofBits (F := Ideal) .f32 0x43000000#32)))
              (broadcast S1x1024 (Scalar.ofBits (F := Ideal) .f32 0x358637BD#32))))
            broadcasts_S1x1024_S128x1024))
          transposes_S128x1024_p1_0_S1024x128)
        (broadcastTo S1024x128 gain broadcasts_S1x128_S1024x128))
      bitsLt_bf16_f32)
    shapeCasts_S1024x128_S1x1024x128

/-- One tile of the output. -/
def tile (x0 x1 x2 x3 : Vec Ideal S1x64 .f32) (x4 : Vec Ideal S1x128 .f32) (x6 x7 : Vec Ideal S1x2048x128 .bf16)
    (q : Vec Ideal S1x1024x128 .bf16) : FVec Ideal S1x1024x128 .bf16 :=
  normed (k0_pay7 (k0_pay5 x4) k0_pay6)
    (combined (k0_pay4 x0 x1 x2 x3)
      (component (masked k0_pay8 q)
        (keysAt x6 0 inb_S1x2048x128_S1x512x128_0_0_0) (keysAt x6 512 inb_S1x2048x128_S1x512x128_0_512_0)
        (keysAt x6 1024 inb_S1x2048x128_S1x512x128_0_1024_0) (keysAt x6 1536 inb_S1x2048x128_S1x512x128_0_1536_0)
        (valuesAt x7 0 inb_S144x2048_S144x512_0_0) (valuesAt x7 512 inb_S144x2048_S144x512_0_512)
        (valuesAt x7 1024 inb_S144x2048_S144x512_0_1024) (valuesAt x7 1536 inb_S144x2048_S144x512_0_1536))
      (component (masked k0_pay9 q)
        (keysAt x6 0 inb_S1x2048x128_S1x512x128_0_0_0) (keysAt x6 512 inb_S1x2048x128_S1x512x128_0_512_0)
        (keysAt x6 1024 inb_S1x2048x128_S1x512x128_0_1024_0) (keysAt x6 1536 inb_S1x2048x128_S1x512x128_0_1536_0)
        (valuesAt x7 0 inb_S144x2048_S144x512_0_0) (valuesAt x7 512 inb_S144x2048_S144x512_0_512)
        (valuesAt x7 1024 inb_S144x2048_S144x512_0_1024) (valuesAt x7 1536 inb_S144x2048_S144x512_0_1536)))

/-- The first tile's stored value. -/
theorem first_eq (lam : FVec Ideal S1x1 .f32) (gain : FVec Ideal S1x128 .f32) (Q : Vec Ideal S1x1024x128 .bf16)
    (K0 K1 K2 K3 : Vec Ideal S1x512x128 .bf16) (V0 V1 V2 V3 : Vec Ideal S144x512 .bf16) :
    k0_pay51 lam gain
      (k0_pay48 V3
        (k0_pay36 (k0_pay20 (k0_pay11 Q) K2) (k0_pay26 (k0_pay11 Q) K3) (k0_pay28 (k0_pay14 Q K0) (k0_pay17 Q K1)))
        (k0_pay37 (k0_pay20 (k0_pay11 Q) K2) (k0_pay26 (k0_pay11 Q) K3) (k0_pay28 (k0_pay14 Q K0) (k0_pay17 Q K1))
          (k0_pay29 (k0_pay14 Q K0) (k0_pay17 Q K1) V0 V1) V2))
      (k0_pay49 (k0_pay27 (k0_pay12 Q) K3)
        (k0_pay33 (k0_pay21 (k0_pay12 Q) K2) (k0_pay23 (k0_pay15 Q K0)) (k0_pay30 (k0_pay18 Q K1)))
        (k0_pay34 (k0_pay18 Q K1) (k0_pay21 (k0_pay12 Q) K2) (k0_pay23 (k0_pay15 Q K0)) (k0_pay24 (k0_pay15 Q K0) V0) V1
          (k0_pay30 (k0_pay18 Q K1)) V2)
        V3)
      (k0_pay50 (k0_pay27 (k0_pay12 Q) K3)
        (k0_pay33 (k0_pay21 (k0_pay12 Q) K2) (k0_pay23 (k0_pay15 Q K0)) (k0_pay30 (k0_pay18 Q K1)))
        (k0_pay34 (k0_pay18 Q K1) (k0_pay21 (k0_pay12 Q) K2) (k0_pay23 (k0_pay15 Q K0)) (k0_pay24 (k0_pay15 Q K0) V0) V1
          (k0_pay30 (k0_pay18 Q K1)) V2)
        V3) =
    normed gain (combined lam (component (masked k0_pay8 Q) K0 K1 K2 K3 V0 V1 V2 V3) (component (masked k0_pay9 Q) K0 K1 K2 K3 V0 V1 V2 V3)) := by
  rfl

/-- The second tile's stored value. -/
theorem second_eq (lam : FVec Ideal S1x1 .f32) (gain : FVec Ideal S1x128 .f32) (Q : Vec Ideal S1x1024x128 .bf16)
    (K0 K1 K2 K3 : Vec Ideal S1x512x128 .bf16) (V0 V1 V2 V3 : Vec Ideal S144x512 .bf16) :
    k0_pay1 gain (k0_pay68 (k0_pay60 (k0_pay40 k0_pay8 Q) K3) V2 (k0_pay65 (k0_pay46 k0_pay8 Q K1) (k0_pay53 (k0_pay40
      k0_pay8 Q) K2) (k0_pay55 (k0_pay43 k0_pay8 Q K0))) (k0_pay66 (k0_pay46 k0_pay8 Q K1) (k0_pay53 (k0_pay40 k0_pay8
      Q) K2) (k0_pay55 (k0_pay43 k0_pay8 Q K0))) (k0_pay67 (k0_pay46 k0_pay8 Q K1) (k0_pay53 (k0_pay40 k0_pay8 Q) K2)
      (k0_pay55 (k0_pay43 k0_pay8 Q K0)) (k0_pay56 (k0_pay43 k0_pay8 Q K0) V0) V1) (constant S144x1024 FTy.f32 0#32) V3)
      (k0_pay69 (k0_pay54 (k0_pay41 k0_pay9 Q) K2) (k0_pay61 (k0_pay41 k0_pay9 Q) K3) (k0_pay63 (k0_pay47 k0_pay9 Q K1)
      (k0_pay57 (k0_pay44 k0_pay9 Q K0))) (k0_pay64 (k0_pay47 k0_pay9 Q K1) V0 (k0_pay57 (k0_pay44 k0_pay9 Q K0))
      (k0_pay58 (k0_pay44 k0_pay9 Q K0)) V1) V2 V3) (k0_pay70 lam) =
    normed gain (combined lam (component (masked k0_pay8 Q) K0 K1 K2 K3 V0 V1 V2 V3) (component (masked k0_pay9 Q) K0 K1 K2 K3 V0 V1 V2 V3)) := by
  rfl

theorem inb_second : ∀ a : Fin 3, ![0, 1024, 0] a + ![1, 1024, 128] a ≤ S1x2048x128.size a := by decide

theorem inb_first : ∀ a : Fin 3, ![0, 0, 0] a + ![1, 1024, 128] a ≤ S1x2048x128.size a := by decide

/-- THE OUTPUT BLOCK after one grid point: the second tile of queries stored over the first. -/
theorem block_eq (c : Dev nD) (i : grid0.Coords) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x128 .f32) (harg6 : arg6.IsWhole)
    (arg7 : Memref sig .tc .vmem S1x2048x128 .bf16) (harg7 : arg7.IsWhole) (arg8 : Memref sig .tc .vmem S1x2048x128 .bf16) (harg8 : arg8.IsWhole)
    (arg9 : Memref sig .tc .vmem S1x2048x128 .bf16) (harg9 : arg9.IsWhole) (arg10 : Memref sig .tc .vmem S1x2048x128 .bf16) (harg10 : arg10.IsWhole)
    (arg11 : Memref sig .tc .vmem S144x2048 .bf16) (harg11 : arg11.IsWhole)
    (x0 x1 x2 x3 : Vec Ideal S1x64 .f32) (x4 : Vec Ideal S1x128 .f32) (x5 x6 x7 : Vec Ideal S1x2048x128 .bf16) :
    out0_A_8 c i arg2 harg2 arg3 harg3 arg4 harg4 arg5 harg5 arg6 harg6 arg7 harg7 arg8 harg8 arg9 harg9 arg10 harg10 arg11 harg11 x0 x1 x2 x3 x4 x5 x6 x7
      = View.canon (Val := Elt Ideal) (e := .bf16)
        [⟨Rect.unit (s := S1x2048x128) ![0, 1024, 0] ![1, 1024, 128] inb_second, tile x0 x1 x2 x3 x4 x6 x7 (queriesAt x5 1024 inb_second)⟩,
          ⟨Rect.unit (s := S1x2048x128) ![0, 0, 0] ![1, 1024, 128] inb_first, tile x0 x1 x2 x3 x4 x6 x7 (queriesAt x5 0 inb_first)⟩] := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  simp only [View.readAt_eq_ld, View.readCov_eq_canon', harg2.read_unread, harg3.read_unread, harg4.read_unread, harg5.read_unread, harg6.read_unread,
    harg7.read_unread, harg8.read_unread, harg9.read_unread]
  rw [View.ld_unit_zero (S := S1x64) (by decide), View.ld_unit_zero (S := S1x64) (by decide), View.ld_unit_zero (S := S1x64) (by decide), View.ld_unit_zero (S := S1x64) (by decide), View.ld_unit_zero (S := S1x128) (by decide)]
  exact congrArg (View.canon (Val := Elt Ideal) (e := .bf16)) (congrArg₂ List.cons
    (congrArg (Sigma.mk _) (second_eq _ _ _ _ _ _ _ _ _ _ _)) (congrArg (fun p => [p]) (congrArg (Sigma.mk _) (first_eq _ _ _ _ _ _ _ _ _ _ _))))

end Cert.KernelIdeal.AttnBlock

end
-- ==== Proof.Attn.Weights.lean ====
/- Extended-real facts of the softmax weights: the exponential of a score below a running maximum, how it
   is rescaled when the maximum grows, and the sum kept over chunks of keys. -/
module

public import Idealize.ShloMosaic.Init
public import Idealize.ShloMosaic.PureOps.Ideal
public import Mathlib.Data.EReal.Inv
public import Mathlib.Analysis.SpecialFunctions.Pow.Real

@[expose] public section

noncomputable section

namespace Cert.Attn

open Idealize.ShloMosaic

/-- A finite sum times a nonnegative factor below `⊤`, distributed. -/
theorem sum_mul_of_nonneg {ι : Type} (s : Finset ι) (f : ι → EReal) {r : EReal} (h0 : 0 ≤ r) (ht : r ≠ ⊤) :
    (∑ i ∈ s, f i) * r = ∑ i ∈ s, f i * r := by
  classical
  induction s using Finset.induction_on with
  | empty => simp
  | insert a s ha ih =>
    rw [Finset.sum_insert ha, Finset.sum_insert ha, EReal.right_distrib_of_nonneg_of_ne_top h0 ht, ih]

/-- The coercion of a finite real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A base-two weight below its maximum is a nonnegative real. -/
theorem weight_real {f m : EReal} (h : f ≤ m) : ∃ w : ℝ, 0 ≤ w ∧ Ideal.exp2 (f - m) = (w : EReal) := by
  have hz : Ideal.exp2 ⊥ = ((0 : ℝ) : EReal) := by simp
  induction m with
  | bot => obtain rfl := le_bot_iff.mp h; exact ⟨0, le_refl _, hz⟩
  | top => rw [EReal.sub_top]; exact ⟨0, le_refl _, hz⟩
  | coe m =>
    induction f with
    | bot => rw [EReal.bot_sub]; exact ⟨0, le_refl _, hz⟩
    | top => exact absurd h (by simp)
    | coe f =>
      rw [← EReal.coe_sub, Ideal.exp2_coe]
      exact ⟨_, Real.rpow_nonneg (by norm_num) _, rfl⟩

/-- Rescaling a weight from a running maximum `m` to a later one `m'`. -/
theorem weight_rescale {f m m' : EReal} (h : f ≤ m) (h' : m ≤ m') :
    Ideal.exp2 (f - m) * Ideal.exp2 (m - m') = Ideal.exp2 (f - m') := by
  induction m' with
  | bot =>
    obtain rfl := le_bot_iff.mp h'
    obtain rfl := le_bot_iff.mp h
    simp
  | top => simp
  | coe m' =>
    induction m with
    | bot =>
      obtain rfl := le_bot_iff.mp h
      simp
    | top => exact absurd h' (by simp)
    | coe m =>
      induction f with
      | bot => simp
      | top => exact absurd h (by simp)
      | coe f =>
        simp only [← EReal.coe_sub, Ideal.exp2_coe, ← EReal.coe_mul]
        congr 1
        show (2 : ℝ) ^ (f - m) * (2 : ℝ) ^ (m - m') = (2 : ℝ) ^ (f - m')
        rw [← Real.rpow_add (by norm_num)]
        congr 1
        ring

/-- The factor that turns base-`e` scores into base-two ones: `1 / ln 2`. -/
def invLn2 : ℝ := (Real.log 2)⁻¹

theorem invLn2_pos : 0 < invLn2 := inv_pos.mpr (Real.log_pos (by norm_num))

/-- The base-two weight of two scores scaled by `1 / ln 2` is the base-`e` weight of the scores. -/
theorem weight_base (x y : EReal) :
    Ideal.exp2 (x * (invLn2 : EReal) - y * (invLn2 : EReal)) = Ideal.exp (x - y) := by
  have hp := invLn2_pos
  induction y with
  | bot =>
    rw [EReal.bot_mul_coe_of_pos hp]
    induction x with
    | bot => rw [EReal.bot_mul_coe_of_pos hp]; simp
    | top => rw [EReal.top_mul_coe_of_pos hp]; simp
    | coe x => rw [← EReal.coe_mul, EReal.coe_sub_bot, EReal.coe_sub_bot]; rfl
  | top => rw [EReal.top_mul_coe_of_pos hp, EReal.sub_top, EReal.sub_top]; simp
  | coe y =>
    rw [← EReal.coe_mul]
    induction x with
    | bot => rw [EReal.bot_mul_coe_of_pos hp]; simp
    | top => rw [EReal.top_mul_coe_of_pos hp, EReal.top_sub_coe, EReal.top_sub_coe]; rfl
    | coe x =>
      rw [← EReal.coe_mul, ← EReal.coe_sub, ← EReal.coe_sub, Ideal.exp2_coe, Ideal.exp_coe]
      congr 1
      show (2 : ℝ) ^ (x * invLn2 - y * invLn2) = Real.exp (x - y)
      rw [Real.rpow_def_of_pos (by norm_num)]
      congr 1
      have : Real.log 2 ≠ 0 := (Real.log_pos (by norm_num)).ne'
      unfold invLn2
      field_simp

/-- Multiplying by the positive real `1 / ln 2` keeps the order. -/
theorem scale_mono {x y : EReal} (h : x ≤ y) : x * (invLn2 : EReal) ≤ y * (invLn2 : EReal) :=
  mul_le_mul_of_nonneg_right h (EReal.coe_nonneg.mpr invLn2_pos.le)

/-- … so it commutes with a supremum. -/
theorem sup_scale {ι : Type} (s : Finset ι) (f : ι → EReal) :
    s.sup (fun k => f k * (invLn2 : EReal)) = s.sup f * (invLn2 : EReal) := by
  classical
  induction s using Finset.induction_on with
  | empty =>
    rw [Finset.sup_empty, Finset.sup_empty, EReal.bot_mul_coe_of_pos invLn2_pos]
  | insert a s ha ih =>
    rw [Finset.sup_insert, Finset.sup_insert, ih]
    exact (Monotone.map_sup (f := fun x : EReal => x * (invLn2 : EReal)) (fun _ _ h => scale_mono h) _ _).symm

/-- The state kept over the keys `S` seen so far: the running maximum `m` and the sum `a` of the values
    weighted against it. -/
structure Part {ι : Type} (f v : ι → EReal) (S : Finset ι) (m a : EReal) : Prop where
  max_eq : m = S.sup f
  sum_eq : a = ∑ k ∈ S, v k * Ideal.exp2 (f k - m)

/-- Taking up a further chunk `T` of keys: the maximum is joined with the chunk's, the sum rescaled and the
    chunk's own weighted sum added. -/
theorem Part.step {ι : Type} [DecidableEq ι] {f v : ι → EReal} {S T : Finset ι} {m a m' : EReal} (h : Part f v S m a)
    (hd : Disjoint S T) (hm : m' = max m (T.sup f)) :
    Part f v (S ∪ T) m' (a * Ideal.exp2 (m - m') + ∑ k ∈ T, v k * Ideal.exp2 (f k - m')) := by
  have hle : m ≤ m' := hm ▸ le_max_left _ _
  refine ⟨by rw [hm, h.max_eq, Finset.sup_union], ?_⟩
  obtain ⟨w, hw0, hw⟩ := weight_real hle
  rw [Finset.sum_union hd, h.sum_eq, sum_mul_of_nonneg S _ (by rw [hw]; exact_mod_cast hw0) (by rw [hw]; exact EReal.coe_ne_top _)]
  congr 1
  refine Finset.sum_congr rfl fun k hk => ?_
  rw [mul_assoc, weight_rescale (h.max_eq ▸ Finset.le_sup hk) hle]

/-- The keys of chunk `i`: the 512 from `512 i`. -/
def chunk (i : Fin 4) : Finset (Fin 2048) :=
  Finset.univ.map ⟨fun j : Fin 512 => (⟨512 * i.val + j.val, by omega⟩ : Fin 2048), fun a b h => by
    have := congrArg Fin.val h; simp at this; exact Fin.ext this⟩

theorem mem_chunk (i : Fin 4) (k : Fin 2048) : k ∈ chunk i ↔ k.val / 512 = i.val := by
  unfold chunk
  simp only [Finset.mem_map, Finset.mem_univ, true_and, Function.Embedding.coeFn_mk]
  constructor
  · rintro ⟨j, rfl⟩
    have := j.isLt
    show (512 * i.val + j.val) / 512 = i.val
    omega
  · intro h
    refine ⟨⟨k.val % 512, Nat.mod_lt _ (by norm_num)⟩, Fin.ext ?_⟩
    show 512 * i.val + k.val % 512 = k.val
    omega

theorem sum_chunk (i : Fin 4) (g : Fin 2048 → EReal) :
    ∑ k ∈ chunk i, g k = ∑ j : Fin 512, g ⟨512 * i.val + j.val, by omega⟩ := by
  unfold chunk; rw [Finset.sum_map]; rfl

theorem sup_chunk (i : Fin 4) (g : Fin 2048 → EReal) :
    (chunk i).sup g = Finset.univ.sup fun j : Fin 512 => g ⟨512 * i.val + j.val, by omega⟩ := by
  unfold chunk; rw [Finset.sup_map]; rfl

theorem chunks_cover : chunk 0 ∪ chunk 1 ∪ chunk 2 ∪ chunk 3 = Finset.univ := by
  ext k
  have := k.isLt
  simp only [Finset.mem_union, mem_chunk, Finset.mem_univ, iff_true]
  show ((k.val / 512 = 0 ∨ k.val / 512 = 1) ∨ k.val / 512 = 2) ∨ k.val / 512 = 3
  omega

/-- The running sum over four chunks of keys, as the kernel keeps it, for scores and values given chunk by
    chunk. -/
def online (s0 s1 s2 s3 v0 v1 v2 v3 : Fin 512 → EReal) : EReal :=
  let m0 := Finset.univ.sup s0
  let m1 := max m0 (Finset.univ.sup s1)
  let m2 := max m1 (Finset.univ.sup s2)
  let m3 := max m2 (Finset.univ.sup s3)
  let a0 := ∑ j, v0 j * Ideal.exp2 (s0 j - m0)
  let a1 := a0 * Ideal.exp2 (m0 - m1) + ∑ j, v1 j * Ideal.exp2 (s1 j - m1)
  let a2 := a1 * Ideal.exp2 (m1 - m2) + ∑ j, v2 j * Ideal.exp2 (s2 j - m2)
  a2 * Ideal.exp2 (m2 - m3) + ∑ j, v3 j * Ideal.exp2 (s3 j - m3)

/-- Chunk `i` of a row over all keys. -/
def part (f : Fin 2048 → EReal) (i : Fin 4) : Fin 512 → EReal := fun j => f ⟨512 * i.val + j.val, by omega⟩

/-- Kept over the four chunks, the running sum is the weighted sum over all keys against their maximum. -/
theorem online_eq (f v : Fin 2048 → EReal) :
    online (part f 0) (part f 1) (part f 2) (part f 3) (part v 0) (part v 1) (part v 2) (part v 3)
      = ∑ k, v k * Ideal.exp2 (f k - Finset.univ.sup f) := by
  have dis : ∀ i j : Fin 4, i ≠ j → Disjoint (chunk i) (chunk j) := fun i j hij =>
    Finset.disjoint_left.mpr fun k hi hj => hij (Fin.ext (((mem_chunk i k).mp hi).symm.trans ((mem_chunk j k).mp hj)))
  have h0 : Part f v (chunk 0) (Finset.univ.sup (part f 0)) (∑ j, part v 0 j * Ideal.exp2 (part f 0 j - Finset.univ.sup (part f 0))) :=
    ⟨(sup_chunk 0 f).symm, (sum_chunk 0 fun k => v k * Ideal.exp2 (f k - Finset.univ.sup (part f 0))).symm⟩
  have h1 := h0.step (T := chunk 1) (dis 0 1 (by decide)) rfl
  have h2 := h1.step (T := chunk 2) (Finset.disjoint_union_left.mpr ⟨dis 0 2 (by decide), dis 1 2 (by decide)⟩) rfl
  have h3 := h2.step (T := chunk 3) (Finset.disjoint_union_left.mpr ⟨Finset.disjoint_union_left.mpr
    ⟨dis 0 3 (by decide), dis 1 3 (by decide)⟩, dis 2 3 (by decide)⟩) rfl
  rw [chunks_cover] at h3
  have e := h3.sum_eq
  rw [h3.max_eq] at e
  rw [← e]
  unfold online
  have hM := h3.max_eq
  simp only [sup_chunk, sum_chunk] at hM ⊢
  rw [← hM]
  rfl

/-- Scores scaled by `1 / ln 2` and weighted in base two: the base-`e` weighted sum of the scores. -/
theorem online_scaled (f v : Fin 2048 → EReal) :
    ∑ k, v k * Ideal.exp2 (f k * (invLn2 : EReal) - Finset.univ.sup fun k => f k * (invLn2 : EReal))
      = ∑ k, v k * Ideal.exp (f k - Finset.univ.sup f) :=
  Finset.sum_congr rfl fun k _ => by rw [sup_scale, weight_base]

/-- A base-`e` weight below its maximum is a nonnegative real. -/
theorem weight_exp_real {f m : EReal} (h : f ≤ m) : ∃ w : ℝ, 0 ≤ w ∧ Ideal.exp (f - m) = (w : EReal) := by
  obtain ⟨w, h0, hw⟩ := weight_real (scale_mono h)
  exact ⟨w, h0, by rw [← hw, weight_base]⟩

end Cert.Attn

end
-- ==== Proof.Attn.Norm.lean ====
/- The two ways of forming a normalized output row — the values weighted and then divided by the sum of the
   weights, or the weights divided first — agree after the RMS norm. -/
module

public import proofs.«01_k».proof.Proof.Attn.Weights

@[expose] public section

noncomputable section

namespace Cert.Attn

open Idealize.ShloMosaic

/-- The RMS norm of a row `o` of 128 channels, before any gain. -/
def rms (eps : ℝ) (o : Fin 128 → EReal) (e : Fin 128) : EReal :=
  o e * Ideal.rsqrt (Ideal.div (∑ i, o i * o i) ((128 : ℝ) : EReal) + (eps : EReal))

/-- Values weighted, then divided by the sum of the weights; the second component subtracted `lam` times. -/
def divideLast (lam : EReal) (w0 w1 : Fin 2048 → EReal) (v : Fin 2048 → EReal) : EReal :=
  Ideal.div (∑ k, v k * w0 k) (∑ k, w0 k) - lam * Ideal.div (∑ k, v k * w1 k) (∑ k, w1 k)

/-- The weights divided by their sum, the components combined, and the values weighted by the outcome. -/
def divideFirst (lam : EReal) (w0 w1 : Fin 2048 → EReal) (v : Fin 2048 → EReal) : EReal :=
  ∑ k, (Ideal.div (w0 k) (∑ j, w0 j) - lam * Ideal.div (w1 k) (∑ j, w1 j)) * v k

/-- Zero or an infinity. -/
def Degenerate (x : EReal) : Prop := x = 0 ∨ x = ⊤ ∨ x = ⊥

theorem Degenerate.add {x y : EReal} (hx : Degenerate x) (hy : Degenerate y) : Degenerate (x + y) := by
  rcases hx with rfl | rfl | rfl <;> rcases hy with rfl | rfl | rfl <;> simp [Degenerate]

theorem Degenerate.sum {ι : Type} (s : Finset ι) (f : ι → EReal) (h : ∀ i ∈ s, Degenerate (f i)) : Degenerate (∑ i ∈ s, f i) := by
  classical
  induction s using Finset.induction_on with
  | empty => exact Or.inl (by simp)
  | insert a s ha ih =>
    rw [Finset.sum_insert ha]
    exact (h a (Finset.mem_insert_self a s)).add (ih fun i hi => h i (Finset.mem_insert_of_mem hi))

theorem degenerate_mul_coe {x : EReal} (hx : Degenerate x) (r : ℝ) : Degenerate (x * (r : EReal)) := by
  rcases hx with rfl | rfl | rfl
  · simp [Degenerate]
  all_goals
    rcases lt_trichotomy r 0 with h | h | h
    · simp [Degenerate, EReal.top_mul_coe_of_neg h, EReal.bot_mul_coe_of_neg h]
    · simp [Degenerate, h]
    · simp [Degenerate, EReal.top_mul_coe_of_pos h, EReal.bot_mul_coe_of_pos h]

/-- A row of zeros and infinities is normalized to zeros: either it is all zeros, or its mean square is `⊤`
    and the factor is zero. -/
theorem rms_degenerate (eps : ℝ) (o : Fin 128 → EReal) (h : ∀ e, Degenerate (o e)) (e : Fin 128) : rms eps o e = 0 := by
  have sq : ∀ i, o i * o i = 0 ∨ o i * o i = ⊤ := fun i => by
    rcases h i with hi | hi | hi <;> simp [hi]
  by_cases hz : ∀ i, o i = 0
  · simp [rms, hz]
  · obtain ⟨i, hi⟩ := not_forall.mp hz
    have htop : ∑ i, o i * o i = ⊤ := by
      have hi' : o i * o i = ⊤ := by rcases h i with h | h | h <;> simp_all
      refine top_le_iff.mp (hi' ▸ Finset.single_le_sum (f := fun i => o i * o i) (fun j _ => ?_) (Finset.mem_univ i))
      rcases sq j with hj | hj <;> rw [hj] <;> simp
    have hd : Ideal.div ⊤ ((128 : ℝ) : EReal) = ⊤ := by
      rw [Ideal.div_coe (by norm_num), EReal.top_mul_coe_of_pos (by norm_num)]
    rw [rms, htop, hd, EReal.top_add_coe, Ideal.rsqrt_top, mul_zero]

theorem div_zero_zero : Ideal.div 0 0 = ⊥ := by simp [Ideal.div]

theorem coe_div (x : ℝ) {y : ℝ} (h : y ≠ 0) : Ideal.div (x : EReal) (y : EReal) = ((x / y : ℝ) : EReal) := by
  rw [Ideal.div_coe h, ← EReal.coe_mul]
  congr 1
  ring

/-- THE TWO ORDERS AGREE after the norm, for real weights that are nonnegative, real values and a real
    `lam`: where both sums of weights are positive the rows are equal, and where one of them is zero both rows
    are made of zeros and infinities or are equal. -/
theorem rms_divide (eps lam : ℝ) (w0 w1 : Fin 2048 → EReal) (v : Fin 128 → Fin 2048 → EReal)
    (h0 : ∀ k, ∃ w : ℝ, 0 ≤ w ∧ w0 k = (w : EReal)) (h1 : ∀ k, ∃ w : ℝ, 0 ≤ w ∧ w1 k = (w : EReal))
    (hv : ∀ e k, ∃ r : ℝ, v e k = (r : EReal)) (e : Fin 128) :
    rms eps (fun e => divideLast lam w0 w1 (v e)) e = rms eps (fun e => divideFirst lam w0 w1 (v e)) e := by
  choose a0 a0n a0e using h0
  choose a1 a1n a1e using h1
  choose u ue using hv
  obtain rfl : w0 = fun k => (a0 k : EReal) := funext a0e
  obtain rfl : w1 = fun k => (a1 k : EReal) := funext a1e
  obtain rfl : v = fun e k => (u e k : EReal) := funext fun e => funext fun k => ue e k
  have zero_of : ∀ a : Fin 2048 → ℝ, (∀ k, 0 ≤ a k) → ∑ k, a k = 0 → ∀ k, a k = 0 := fun a ha hs k =>
    (Finset.sum_eq_zero_iff_of_nonneg fun k _ => ha k).mp hs k (Finset.mem_univ k)
  by_cases hl0 : ∑ k, a0 k = 0
  · -- the first component's weights are all zero
    have z := zero_of a0 a0n hl0
    rw [rms_degenerate, rms_degenerate]
    · intro e
      refine Degenerate.sum _ _ fun k _ => degenerate_mul_coe ?_ _
      dsimp only
      rw [← coe_sum, hl0, z k, EReal.coe_zero, div_zero_zero, EReal.bot_sub]
      exact Or.inr (Or.inr rfl)
    · intro e
      simp only [divideLast, z, EReal.coe_zero, mul_zero, Finset.sum_const_zero, div_zero_zero, EReal.bot_sub]
      exact Or.inr (Or.inr rfl)
  · by_cases hl1 : ∑ k, a1 k = 0 ∧ lam ≠ 0
    · -- the second component's weights are all zero and it enters
      obtain ⟨hl1, hlam⟩ := hl1
      have z := zero_of a1 a1n hl1
      have inf : ∀ x : ℝ, Degenerate ((x : EReal) - (lam : EReal) * ⊥) := fun x => by
        rcases lt_or_gt_of_ne hlam with h | h
        · rw [EReal.coe_mul_bot_of_neg h, EReal.sub_top]; exact Or.inr (Or.inr rfl)
        · rw [EReal.coe_mul_bot_of_pos h, EReal.coe_sub_bot]; exact Or.inr (Or.inl rfl)
      rw [rms_degenerate, rms_degenerate]
      · intro e
        refine Degenerate.sum _ _ fun k _ => degenerate_mul_coe ?_ _
        dsimp only
        rw [← coe_sum, ← coe_sum, hl1, z k, EReal.coe_zero, div_zero_zero, coe_div _ hl0]
        exact inf _
      · intro e
        simp only [divideLast, z, EReal.coe_zero, mul_zero, Finset.sum_const_zero, div_zero_zero]
        simp only [← EReal.coe_mul, ← coe_sum]
        rw [coe_div _ hl0]
        exact inf _
    · -- everything that enters is real
      have row : ∀ e, divideLast lam (fun k => (a0 k : EReal)) (fun k => (a1 k : EReal)) (fun k => (u e k : EReal))
          = divideFirst lam (fun k => (a0 k : EReal)) (fun k => (a1 k : EReal)) (fun k => (u e k : EReal)) := fun e => by
        unfold divideLast divideFirst
        by_cases hlam : lam = 0
        · subst hlam
          simp only [EReal.coe_zero, zero_mul, sub_zero, ← coe_sum, coe_div _ hl0, ← EReal.coe_mul]
          congr 1
          rw [Finset.sum_div]
          exact Finset.sum_congr rfl fun k _ => by ring
        · have hl1' : ∑ k, a1 k ≠ 0 := fun h => hl1 ⟨h, hlam⟩
          simp only [← coe_sum, coe_div _ hl0, coe_div _ hl1', ← EReal.coe_mul, ← EReal.coe_sub]
          congr 1
          rw [Finset.sum_div, Finset.sum_div, Finset.mul_sum, ← Finset.sum_sub_distrib]
          exact Finset.sum_congr rfl fun k _ => by ring
      simp only [row]

end Cert.Attn

end
-- ==== Proof.Attn.Tile.lean ====
/- The entries of one tile of the attention kernel's output: the scores, the weights against each query's greatest
   score, the two components divided and combined, the row normalized and multiplied by the gain. -/
module

public import proofs.«01_k».proof.Proof.Attn.Block
public import proofs.«01_k».proof.Proof.Attn.Weights
public import proofs.«01_k».proof.Proof.Attn.Norm
public import Idealize.ShloMosaic.Lib.Pointwise
public import Idealize.ShloMosaic.Lib.Pipeline.ValueKit.Tiles

@[expose] public section

set_option maxRecDepth 16384

noncomputable section

namespace Cert.KernelIdeal.AttnBlock

open Cert.KernelIdeal Cert.KernelIdeal.Gen Idealize.ShloMosaic Idealize.ShloMosaic.TcCoe Idealize.SL.Sem
open Idealize.ShloMosaic.Tactic Cert.Attn

/-! ## The vector operations at an index -/

theorem ofBits_neg_inf : Ideal.ofBits .f32 4286578688#32 = ⊥ := by
  simp [Ideal.ofBits, Ideal.ieee]

theorem chunkMax_apply (s : FVec Ideal S512x1024 .f32) (j : Fin 1024) :
    chunkMax s (ix2 0 j) = Finset.univ.sup fun r : Fin 512 => s (ix2 r j) := by
  pointwise [chunkMax]
  rw [ofBits_neg_inf]; rfl

theorem weighted_apply (m : FVec Ideal S1x1024 .f32) (s : FVec Ideal S512x1024 .f32) (v : Vec Ideal S144x512 .bf16)
    (e : Fin 144) (j : Fin 1024) :
    weighted m s v (ix2 e j) = ∑ r : Fin 512, v (ix2 e r) * Ideal.exp2 (s (ix2 r j) - m (ix2 0 j)) := by
  pointwise [weighted]; rfl

theorem further_apply (m m' : FVec Ideal S1x1024 .f32) (a : FVec Ideal S144x1024 .f32) (s : FVec Ideal S512x1024 .f32)
    (v : Vec Ideal S144x512 .bf16) (e : Fin 144) (j : Fin 1024) :
    further m m' a s v (ix2 e j)
      = a (ix2 e j) * Ideal.exp2 (m (ix2 0 j) - m' (ix2 0 j)) + ∑ r : Fin 512, v (ix2 e r) * Ideal.exp2 (s (ix2 r j) - m' (ix2 0 j)) := by
  rw [← weighted_apply]
  pointwise [further]; rfl

theorem scores_apply (qm : FVec Ideal S1024x128 .bf16) (k : Vec Ideal S1x512x128 .bf16) (r : Fin 512) (j : Fin 1024) :
    scores qm k (ix2 r j) = ∑ l : Fin 128, k (ix3 0 r l) * qm (ix2 j l) := by
  pointwise [scores]

theorem maximumf_apply' (x y : FVec Ideal S1x1024 .f32) (j : Fin 1024) :
    (maximumf x y : FVec Ideal S1x1024 .f32) (ix2 0 j) = max (x (ix2 0 j)) (y (ix2 0 j)) := rfl

/-- A component's weighted sum is the running sum over the four chunks. -/
theorem component_apply (qm : FVec Ideal S1024x128 .bf16) (k0 k1 k2 k3 : Vec Ideal S1x512x128 .bf16)
    (v0 v1 v2 v3 : Vec Ideal S144x512 .bf16) (e : Fin 144) (j : Fin 1024) :
    component qm k0 k1 k2 k3 v0 v1 v2 v3 (ix2 e j)
      = online (fun r => scores qm k0 (ix2 r j)) (fun r => scores qm k1 (ix2 r j)) (fun r => scores qm k2 (ix2 r j))
          (fun r => scores qm k3 (ix2 r j)) (fun r => v0 (ix2 e r)) (fun r => v1 (ix2 e r)) (fun r => v2 (ix2 e r))
          (fun r => v3 (ix2 e r)) := by
  unfold component online
  simp only [further_apply, weighted_apply, maximumf_apply', chunkMax_apply]

/-! ## The scores -/

/-- The scale the queries take before the kernel's base-two weights. -/
theorem q_scale_eq : Named.named (F := Ideal) (φ := .f32) κ "q_scale" 0x3E38AA3B#32 = (((1 / 8) * (Real.log 2)⁻¹ : ℝ) : EReal) :=
  IdealRules.named_const.ideal_named_scalar _ _ _ _ rfl

/-- Lane `d` of component `h`. -/
def lane (h : Fin 2) (d : Fin 64) : Fin 128 := ⟨64 * h.val + d.val, by omega⟩

/-- The masked queries' entries. -/
theorem masked_first (Q : Vec Ideal S1x1024x128 .bf16) (j : Fin 1024) (l : Fin 128) :
    masked k0_pay8 Q (ix2 j l) = if l.val < 64 then Q (ix3 0 j l) * (((1 / 8) * (Real.log 2)⁻¹ : ℝ) : EReal) else 0 := by
  have key : ∀ l : Fin 128, IntOp.andi (IntOp.cmpi CmpIPredicate.sge (BitVec.ofNat 32 ↑l) 0#32)
        (IntOp.cmpi CmpIPredicate.slt (BitVec.ofNat 32 ↑l) 64#32) = if l.val < 64 then 1#1 else 0#1 := by decide +kernel
  pointwise [masked, k0_pay8]
  rw [key l, q_scale_eq]
  split_ifs <;> rfl

theorem masked_second (Q : Vec Ideal S1x1024x128 .bf16) (j : Fin 1024) (l : Fin 128) :
    masked k0_pay9 Q (ix2 j l) = if l.val < 64 then 0 else Q (ix3 0 j l) * (((1 / 8) * (Real.log 2)⁻¹ : ℝ) : EReal) := by
  have key : ∀ l : Fin 128, IntOp.andi (IntOp.cmpi CmpIPredicate.sge (BitVec.ofNat 32 ↑l) 64#32)
        (IntOp.cmpi CmpIPredicate.slt (BitVec.ofNat 32 ↑l) 128#32) = if l.val < 64 then 0#1 else 1#1 := by decide +kernel
  pointwise [masked, k0_pay9]
  rw [key l, q_scale_eq]
  split_ifs <;> rfl

/-- A sum over the lanes is the two components' sums. -/
theorem sum_lanes (f : Fin 128 → EReal) : ∑ l, f l = (∑ d, f (lane 0 d)) + ∑ d, f (lane 1 d) := by
  rw [show (∑ l, f l) = ∑ l : Fin (64 + 64), f l from rfl, Fin.sum_univ_add]
  refine congrArg₂ (· + ·) (Finset.sum_congr rfl fun d _ => congrArg f (Fin.ext ?_)) (Finset.sum_congr rfl fun d _ => congrArg f (Fin.ext ?_))
  · show d.val = 64 * 0 + d.val; omega
  · show 64 + d.val = 64 * 1 + d.val; omega

/-- The score of one query against one key: the scaled product of a component's lanes. -/
def logit (q k : Fin 64 → EReal) : EReal := (∑ d, q d * k d) * ((1 / 8 : ℝ) : EReal)

/-- A product of the scaled lanes is the score in base two. -/
theorem sum_scaled (q k : Fin 64 → EReal) :
    ∑ d, k d * (q d * (((1 / 8) * (Real.log 2)⁻¹ : ℝ) : EReal)) = logit q k * (invLn2 : EReal) := by
  have h8 : (0 : ℝ) ≤ 1 / 8 := by norm_num
  have hc : (0 : ℝ) ≤ 1 / 8 * (Real.log 2)⁻¹ := mul_nonneg h8 invLn2_pos.le
  unfold logit
  rw [mul_assoc, ← EReal.coe_mul, show (1 / 8 * invLn2 : ℝ) = 1 / 8 * (Real.log 2)⁻¹ from rfl, sum_mul_of_nonneg _ _ (EReal.coe_nonneg.mpr hc) (EReal.coe_ne_top _)]
  exact Finset.sum_congr rfl fun d _ => by rw [← mul_assoc, mul_comm (k d) (q d)]

/-- The masked queries of component `h`. -/
def maskOf (h : Fin 2) : FVec Ideal S1024x128 .bf16 := if h = 0 then k0_pay8 else k0_pay9

theorem scores_masked (h : Fin 2) (Q : Vec Ideal S1x1024x128 .bf16) (k : Vec Ideal S1x512x128 .bf16) (r : Fin 512) (j : Fin 1024) :
    scores (masked (maskOf h) Q) k (ix2 r j)
      = logit (fun d => Q (ix3 0 j (lane h d))) (fun d => k (ix3 0 r (lane h d))) * (invLn2 : EReal) := by
  rw [← sum_scaled, scores_apply, sum_lanes]
  have l0 : ∀ d, (lane 0 d).val < 64 := fun d => by show 64 * 0 + d.val < 64; omega
  have l1 : ∀ d, ¬ (lane 1 d).val < 64 := fun d => by show ¬ 64 * 1 + d.val < 64; omega
  fin_cases h
  · show (∑ d, k (ix3 0 r (lane 0 d)) * masked k0_pay8 Q (ix2 j (lane 0 d))) + (∑ d, k (ix3 0 r (lane 1 d)) * masked k0_pay8 Q (ix2 j (lane 1 d))) = _
    simp only [masked_first, l0, l1, if_true, if_false, mul_zero, Finset.sum_const_zero, add_zero]
    rfl
  · show (∑ d, k (ix3 0 r (lane 0 d)) * masked k0_pay9 Q (ix2 j (lane 0 d))) + (∑ d, k (ix3 0 r (lane 1 d)) * masked k0_pay9 Q (ix2 j (lane 1 d))) = _
    simp only [masked_second, l0, l1, if_true, if_false, mul_zero, Finset.sum_const_zero, zero_add]
    rfl

/-! ## The values -/

theorem valuesT_apply (x7 : Vec Ideal S1x2048x128 .bf16) (e : Fin 144) (k : Fin 2048) :
    valuesT x7 (ix2 e k) = if h : e.val < 128 then x7 (ix3 0 k ⟨e.val, h⟩) else 1 := by
  unfold valuesT
  have cover : ∃ p ∈ ([⟨Rect.unit ![128, 0] ![16, 2048] inb_S144x2048_S16x2048_128_0, k0_pay3 (F := Ideal)⟩,
      ⟨Rect.unit ![0, 0] ![128, 2048] inb_S144x2048_S128x2048_0_0,
        k0_pay2 (View.ld x7 (Rect.unit ![0, 0, 0] ![1, 2048, 128] inb_S1x2048x128_S1x2048x128_0_0_0))⟩] :
        List (View.Piece (Elt Ideal) S144x2048 .bf16)), (ix2 e k : S144x2048.Idx) ∈ p.1.set := by
    by_cases he : e.val < 128
    · refine ⟨_, List.mem_cons_of_mem _ List.mem_cons_self, (Rect.mem_set_unit (inb := inb_S144x2048_S128x2048_0_0)).mpr fun a => ?_⟩
      fin_cases a
      · exact ⟨Nat.zero_le _, by show e.val < 0 + 128; omega⟩
      · exact ⟨Nat.zero_le _, by show k.val < 0 + 2048; omega⟩
    · refine ⟨_, List.mem_cons_self, (Rect.mem_set_unit (inb := inb_S144x2048_S16x2048_128_0)).mpr fun a => ?_⟩
      fin_cases a
      · exact ⟨by show 128 ≤ e.val; omega, by show e.val < 128 + 16; omega⟩
      · exact ⟨Nat.zero_le _, by show k.val < 0 + 2048; omega⟩
  canon_tiles x h using cover
  · idx_vars x
    have hn : ¬ e.val < 128 := by have : e.val = 128 + _ := h0; omega
    rw [dif_neg hn]
    pointwise [k0_pay3]
  · idx_vars x
    obtain rfl : k = x1 := Fin.ext h1
    have hlt : e.val < 128 := by have : e.val = x0.val := h0; omega
    rw [dif_pos hlt]
    pointwise [k0_pay2]
    exact congrArg (fun a => x7 (ix3 0 k a)) (Fin.ext h0.symm)

theorem divided_apply (a : FVec Ideal S144x1024 .f32) (e : Fin 128) (j : Fin 1024) :
    divided a (ix2 e j) = Ideal.div (a (ix2 (e.castLE (by decide)) j)) (a (ix2 128 j)) := by
  pointwise [divided]; rfl

theorem combined_apply (lam : FVec Ideal S1x1 .f32) (a0 a1 : FVec Ideal S144x1024 .f32) (e : Fin 128) (j : Fin 1024) :
    combined lam a0 a1 (ix2 e j) = divided a0 (ix2 e j) - lam (ix2 0 0) * divided a1 (ix2 e j) := by
  pointwise [combined]

/-- The small number under the root. -/
def eps : ℝ := 8796093 / 8796093022208

theorem ofBits_eps : Ideal.ofBits .f32 897988541#32 = (eps : EReal) := by
  simp [Ideal.ofBits, Ideal.ieee, eps, -EReal.coe_mul]; norm_num

theorem ofBits_128 : Ideal.ofBits .f32 1124073472#32 = ((128 : ℝ) : EReal) := by
  simp [Ideal.ofBits, Ideal.ieee, -EReal.coe_mul]; norm_num

theorem normed_apply (gain : FVec Ideal S1x128 .f32) (o : FVec Ideal S128x1024 .f32) (j : Fin 1024) (e : Fin 128) :
    normed gain o (ix3 0 j e) = rms eps (fun e => o (ix2 e j)) e * gain (ix2 0 e) := by
  pointwise [normed]
  rw [ofBits_128, ofBits_eps]; rfl

/-- The factor of the second component. -/
def factor (x0 x1 x2 x3 : Fin 64 → EReal) : EReal :=
  Ideal.exp (∑ d, x0 d * x1 d) - Ideal.exp (∑ d, x2 d * x3 d) + Ideal.ofBits .f32 1045220557#32

theorem factor_apply (x0 x1 x2 x3 : Vec Ideal S1x64 .f32) :
    k0_pay4 x0 x1 x2 x3 (ix2 0 0)
      = factor (fun d => x0 (ix2 0 d)) (fun d => x1 (ix2 0 d)) (fun d => x2 (ix2 0 d)) (fun d => x3 (ix2 0 d)) := by
  pointwise [k0_pay4]; rfl

theorem gain_apply (x4 : Vec Ideal S1x128 .f32) (e : Fin 128) :
    k0_pay7 (k0_pay5 x4) k0_pay6 (ix2 0 e) = x4 (ix2 0 e) * Ideal.ofBits .f32 1061997773#32 := by
  pointwise [k0_pay7, k0_pay6, k0_pay5]

end Cert.KernelIdeal.AttnBlock

end
-- ==== Proof.Attn.Row.lean ====
/- A tile of the attention kernel's output, and the block of two tiles, as rows of the attention: each query's weights
   against all the keys, whatever chunks they were taken in. -/
module

public import proofs.«01_k».proof.Proof.Attn.Block
public import proofs.«01_k».proof.Proof.Attn.Weights
public import proofs.«01_k».proof.Proof.Attn.Norm
public import proofs.«01_k».proof.Proof.Attn.Tile
public import Idealize.ShloMosaic.Lib.Pointwise
public import Idealize.ShloMosaic.Lib.Pipeline.ValueKit.Tiles

@[expose] public section

set_option maxRecDepth 16384

noncomputable section

namespace Cert.KernelIdeal.AttnBlock

open Cert.KernelIdeal Cert.KernelIdeal.Gen Idealize.ShloMosaic Idealize.ShloMosaic.TcCoe Idealize.SL.Sem
open Idealize.ShloMosaic.Tactic Cert.Attn

/-! ## The tile -/

/-- The weights of one query's keys: its scores against its greatest. -/
def weight (f : Fin 2048 → EReal) (k : Fin 2048) : EReal := Ideal.exp (f k - Finset.univ.sup f)

/-- One row of the attention: the two components' scores of a query, the factor of the second, the values, the gain. -/
def row (lam : EReal) (f0 f1 : Fin 2048 → EReal) (v : Fin 128 → Fin 2048 → EReal) (gain : Fin 128 → EReal) (e : Fin 128) : EReal :=
  rms eps (fun e => divideLast lam (weight f0) (weight f1) (v e)) e * gain e

theorem keys_eq (x6 : Vec Ideal S1x2048x128 .bf16) (o : ℕ) (h) (r : Fin 512) (l : Fin 128) (k : Fin 2048) (hk : k.val = o + r.val) :
    keysAt x6 o h (ix3 0 r l) = x6 (ix3 0 k l) := by
  unfold keysAt
  rw [View.ld_apply]
  refine congrArg x6 (funext fun a => Fin.ext ?_)
  rw [Rect.idx_unit_val]
  fin_cases a
  · rfl
  · exact hk.symm
  · show 0 + l.val = l.val; omega

theorem values_eq (x7 : Vec Ideal S1x2048x128 .bf16) (o : ℕ) (h) (e : Fin 144) (r : Fin 512) (k : Fin 2048) (hk : k.val = o + r.val) :
    valuesAt x7 o h (ix2 e r) = valuesT x7 (ix2 e k) := by
  unfold valuesAt
  refine congrArg (valuesT x7) (funext fun a => Fin.ext ?_)
  rw [Rect.idx_unit_val]
  fin_cases a
  · show 0 + e.val = e.val; omega
  · exact hk.symm

/-- A component's weighted sum over all the keys. -/
theorem component_eq (h : Fin 2) (Q : Vec Ideal S1x1024x128 .bf16) (x6 x7 : Vec Ideal S1x2048x128 .bf16) (e : Fin 144) (j : Fin 1024) :
    component (masked (maskOf h) Q)
        (keysAt x6 0 inb_S1x2048x128_S1x512x128_0_0_0) (keysAt x6 512 inb_S1x2048x128_S1x512x128_0_512_0)
        (keysAt x6 1024 inb_S1x2048x128_S1x512x128_0_1024_0) (keysAt x6 1536 inb_S1x2048x128_S1x512x128_0_1536_0)
        (valuesAt x7 0 inb_S144x2048_S144x512_0_0) (valuesAt x7 512 inb_S144x2048_S144x512_0_512)
        (valuesAt x7 1024 inb_S144x2048_S144x512_0_1024) (valuesAt x7 1536 inb_S144x2048_S144x512_0_1536) (ix2 e j)
      = ∑ k, valuesT x7 (ix2 e k) * weight (fun k => logit (fun d => Q (ix3 0 j (lane h d))) (fun d => x6 (ix3 0 k (lane h d)))) k := by
  have key := (online_eq (fun k => logit (fun d => Q (ix3 0 j (lane h d))) (fun d => x6 (ix3 0 k (lane h d))) * (invLn2 : EReal))
    (fun k => valuesT x7 (ix2 e k))).trans (online_scaled _ _)
  rw [component_apply]
  refine Eq.trans ?_ key
  simp only [scores_masked]
  have hs : ∀ (i : Fin 4) (o : ℕ) (ho : o = 512 * i.val) (hb),
      (fun r : Fin 512 => logit (fun d => Q (ix3 0 j (lane h d))) (fun d => keysAt x6 o hb (ix3 0 r (lane h d))) * (invLn2 : EReal))
        = part (fun k => logit (fun d => Q (ix3 0 j (lane h d))) (fun d => x6 (ix3 0 k (lane h d))) * (invLn2 : EReal)) i := by
    intro i o ho hb
    funext r
    unfold part
    have hk : ∀ l, keysAt x6 o hb (ix3 0 r l) = x6 (ix3 0 ⟨512 * i.val + r.val, by omega⟩ l) := fun l =>
      keys_eq x6 o hb r l ⟨512 * i.val + r.val, by omega⟩ (by dsimp only; omega)
    simp only [hk]
  have hv : ∀ (i : Fin 4) (o : ℕ) (ho : o = 512 * i.val) (hb),
      (fun r : Fin 512 => valuesAt x7 o hb (ix2 e r)) = part (fun k => valuesT x7 (ix2 e k)) i := by
    intro i o ho hb
    funext r
    exact values_eq x7 o hb e r ⟨512 * i.val + r.val, by omega⟩ (by dsimp only; omega)
  rw [hs 0 0 rfl, hs 1 512 rfl, hs 2 1024 rfl, hs 3 1536 rfl, hv 0 0 rfl, hv 1 512 rfl, hv 2 1024 rfl, hv 3 1536 rfl]

theorem queries_eq (x5 : Vec Ideal S1x2048x128 .bf16) (o : ℕ) (h) (j : Fin 1024) (l : Fin 128) (s : Fin 2048) (hs : s.val = o + j.val) :
    queriesAt x5 o h (ix3 0 j l) = x5 (ix3 0 s l) := by
  unfold queriesAt
  rw [View.ld_apply]
  refine congrArg x5 (funext fun a => Fin.ext ?_)
  rw [Rect.idx_unit_val]
  fin_cases a
  · rfl
  · exact hs.symm
  · show 0 + l.val = l.val; omega

/-- ONE TILE of the output at query `j`, lane `e`. -/
theorem tile_apply (x0 x1 x2 x3 : Vec Ideal S1x64 .f32) (x4 : Vec Ideal S1x128 .f32) (x6 x7 : Vec Ideal S1x2048x128 .bf16)
    (Q : Vec Ideal S1x1024x128 .bf16) (j : Fin 1024) (e : Fin 128) :
    tile x0 x1 x2 x3 x4 x6 x7 Q (ix3 0 j e)
      = row (factor (fun d => x0 (ix2 0 d)) (fun d => x1 (ix2 0 d)) (fun d => x2 (ix2 0 d)) (fun d => x3 (ix2 0 d)))
          (fun k => logit (fun d => Q (ix3 0 j (lane 0 d))) (fun d => x6 (ix3 0 k (lane 0 d))))
          (fun k => logit (fun d => Q (ix3 0 j (lane 1 d))) (fun d => x6 (ix3 0 k (lane 1 d))))
          (fun e k => x7 (ix3 0 k e)) (fun e => x4 (ix2 0 e) * Ideal.ofBits .f32 1061997773#32) e := by
  unfold tile row
  rw [normed_apply, gain_apply]
  refine congrArg (fun f => rms eps f e * _) (funext fun e' => ?_)
  have hlow : (e'.castLE (by decide : 128 ≤ 144)).val < 128 := e'.isLt
  have hhigh : ¬ ((128 : Fin 144).val < 128) := by decide
  rw [combined_apply, factor_apply, divided_apply, divided_apply]
  have c := fun h e => component_eq h Q x6 x7 e j
  rw [show (k0_pay8 : FVec Ideal S1024x128 .bf16) = maskOf 0 from rfl, show (k0_pay9 : FVec Ideal S1024x128 .bf16) = maskOf 1 from rfl,
    c 0, c 0, c 1, c 1]
  simp only [valuesT_apply, dif_pos hlow, dif_neg hhigh, one_mul]
  rfl

/-- THE OUTPUT BLOCK at query `s`, lane `e`. -/
theorem block_apply (a b c d : Vec Ideal S1x64 .f32) (g : Vec Ideal S1x128 .f32) (x5 x6 x7 : Vec Ideal S1x2048x128 .bf16)
    (s : Fin 2048) (e : Fin 128) :
    View.canon (Val := Elt Ideal) (e := .bf16)
        [⟨Rect.unit (s := S1x2048x128) ![0, 1024, 0] ![1, 1024, 128] inb_second, tile a b c d g x6 x7 (queriesAt x5 1024 inb_second)⟩,
          ⟨Rect.unit (s := S1x2048x128) ![0, 0, 0] ![1, 1024, 128] inb_first, tile a b c d g x6 x7 (queriesAt x5 0 inb_first)⟩]
        (ix3 0 s e)
      = row (factor (fun l => a (ix2 0 l)) (fun l => b (ix2 0 l)) (fun l => c (ix2 0 l)) (fun l => d (ix2 0 l)))
          (fun k => logit (fun l => x5 (ix3 0 s (lane 0 l))) (fun l => x6 (ix3 0 k (lane 0 l))))
          (fun k => logit (fun l => x5 (ix3 0 s (lane 1 l))) (fun l => x6 (ix3 0 k (lane 1 l))))
          (fun e k => x7 (ix3 0 k e)) (fun e => g (ix2 0 e) * Ideal.ofBits .f32 1061997773#32) e := by
  canon_tiles x h
  · idx_vars x
    obtain rfl : e = x2 := Fin.ext h2
    rw [show x0 = 0 from Subsingleton.elim _ _, tile_apply]
    have hq := fun l => queries_eq x5 1024 inb_second x1 l s h1
    simp only [hq]
  · idx_vars x
    obtain rfl : e = x2 := Fin.ext h2
    rw [show x0 = 0 from Subsingleton.elim _ _, tile_apply]
    have hq := fun l => queries_eq x5 0 inb_first x1 l s (by omega)
    simp only [hq]

end Cert.KernelIdeal.AttnBlock

end
-- ==== Proof.Attn.Array.lean ====
/- The attention kernel's result array: every row of every head is the attention of that row's queries against the keys
   of its batch. -/
module

public import proofs.«01_k».proof.Proof.Attn.Row
public import Idealize.ShloMosaic.Lib.Pipeline.ValueKit.Point

@[expose] public section

set_option maxRecDepth 16384

noncomputable section

namespace Cert.KernelIdeal.AttnBlock

open Cert.KernelIdeal Cert.KernelIdeal.Gen Idealize.ShloMosaic Idealize.ShloMosaic.TcCoe Idealize.SL.Sem
open Idealize.ShloMosaic.Tactic Cert.Attn

/-! ## The attention over the arrays -/

/-- Row `b·2048 + k` of the arrays. -/
def rowOf (b : Fin 8) (k : Fin 2048) : Fin 16384 := ⟨b.val * 2048 + k.val, by omega⟩

/-- Head `h` of the queries, of the keys, of the values. -/
def headOf (p : Fin 3) (h : Fin 8) : Fin 24 := ⟨p.val * 8 + h.val, by omega⟩

/-- A head's score of the query row `s` against the key row `k` of batch `b`, in component `p`. -/
def logitAt (x : Vec Ideal S24x16384x128 .bf16) (h b : Fin 8) (s : Fin 2048) (p : Fin 2) (k : Fin 2048) : EReal :=
  logit (fun l => x (ix3 (headOf 0 h) (rowOf b s) (lane p l))) (fun l => x (ix3 (headOf 1 h) (rowOf b k) (lane p l)))

/-- THE ATTENTION at head `h`, batch `b`, query `s`, lane `e`. -/
def attention (x : Vec Ideal S24x16384x128 .bf16) (a1 a2 a3 a4 : Vec Ideal S64 .f32) (g : Vec Ideal S128 .f32)
    (h b : Fin 8) (s : Fin 2048) (e : Fin 128) : EReal :=
  row (factor (fun l => a1 (ix1 l)) (fun l => a2 (ix1 l)) (fun l => a3 (ix1 l)) (fun l => a4 (ix1 l)))
    (logitAt x h b s 0) (logitAt x h b s 1) (fun e k => x (ix3 (headOf 2 h) (rowOf b k) e))
    (fun e => g (ix1 e) * Ideal.ofBits .f32 1061997773#32) e

/-- The result array the kernel leaves. -/
def result (x : Vec Ideal S24x16384x128 .bf16) (a1 a2 a3 a4 : Vec Ideal S64 .f32) (g : Vec Ideal S128 .f32) : Vec Ideal S8x16384x128 .bf16 :=
  fun i => attention x a1 a2 a3 a4 g (i 0) ⟨(i 1).val / 2048, by have : (i 1).val < 16384 := (i 1).isLt; omega⟩
    ⟨(i 1).val % 2048, Nat.mod_lt _ (by decide)⟩ (i 2)

variable (m : (ℓ : Loc nD τ sig) → Buf (Elt Ideal) ℓ)

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val % 8, t.val / 8, 0] :=
  (by decide +kernel : ∀ t : Fin grid0.N, win0_5.index t = ![t.val % 8, t.val / 8, 0])
theorem idx6 : ∀ t : Fin cfg0.N, win0_6.index t = ![8 + t.val % 8, t.val / 8, 0] :=
  (by decide +kernel : ∀ t : Fin grid0.N, win0_6.index t = ![8 + t.val % 8, t.val / 8, 0])
theorem idx7 : ∀ t : Fin cfg0.N, win0_7.index t = ![16 + t.val % 8, t.val / 8, 0] :=
  (by decide +kernel : ∀ t : Fin grid0.N, win0_7.index t = ![16 + t.val % 8, t.val / 8, 0])
theorem idx8 : ∀ t : Fin cfg0.N, win0_8.index t = ![t.val % 8, t.val / 8, 0] :=
  (by decide +kernel : ∀ t : Fin grid0.N, win0_8.index t = ![t.val % 8, t.val / 8, 0])

/-- THE RESULT ARRAY after the run. -/
theorem array_eq (c : Dev nD) :
    (dats m 0 c).arrAt 8 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  show out0_A_8 c _ _ _ _ _ _ _ _ _ _ _ _ _ _ _ _ _ _ _ _ _ _ _ _ _ _ _ _ _ y = _
  rw [block_eq]
  have hy : ∃ (s : Fin 2048) (e : Fin 128), y = ix3 0 s e :=
    ⟨⟨(y 1).val, (y 1).isLt⟩, ⟨(y 2).val, (y 2).isLt⟩, funext fun a => by
      fin_cases a
      · exact Fin.ext (by have : (y 0).val < 1 := (y 0).isLt; show (y 0).val = 0; omega)
      · rfl
      · rfl⟩
  obtain ⟨s, e, rfl⟩ := hy
  refine (block_apply _ _ _ _ _ _ _ _ s e).trans ?_
  have ht : t.val < 64 := t.isLt
  have b5 : ∀ l, iblk m c 5 t (ix3 0 s l) = m ((c : Thread nD τ).loc main_arg0) (ix3 (headOf 0 ⟨t.val % 8, by omega⟩) (rowOf ⟨t.val / 8, by omega⟩ s) l) := by
    intro l
    blk_ext! [iblk, V, idx5 t] <;> simp only [headOf, rowOf] <;> omega
  have b6 : ∀ k l, iblk m c 6 t (ix3 0 k l) = m ((c : Thread nD τ).loc main_arg0) (ix3 (headOf 1 ⟨t.val % 8, by omega⟩) (rowOf ⟨t.val / 8, by omega⟩ k) l) := by
    intro k l
    blk_ext! [iblk, V, idx6 t] <;> simp only [headOf, rowOf] <;> omega
  have b7 : ∀ k l, iblk m c 7 t (ix3 0 k l) = m ((c : Thread nD τ).loc main_arg0) (ix3 (headOf 2 ⟨t.val % 8, by omega⟩) (rowOf ⟨t.val / 8, by omega⟩ k) l) := by
    intro k l
    blk_ext! [iblk, V, idx7 t] <;> simp only [headOf, rowOf] <;> omega
  have b0 : ∀ l, iblk m c 0 t (ix2 0 l) = m ((c : Thread nD τ).loc main_arg1) (ix1 l) := by
    intro l
    blk_ext! [iblk, V, idx0 t]
  have b1 : ∀ l, iblk m c 1 t (ix2 0 l) = m ((c : Thread nD τ).loc main_arg2) (ix1 l) := by
    intro l
    blk_ext! [iblk, V, idx1 t]
  have b2 : ∀ l, iblk m c 2 t (ix2 0 l) = m ((c : Thread nD τ).loc main_arg3) (ix1 l) := by
    intro l
    blk_ext! [iblk, V, idx2 t]
  have b3 : ∀ l, iblk m c 3 t (ix2 0 l) = m ((c : Thread nD τ).loc main_arg4) (ix1 l) := by
    intro l
    blk_ext! [iblk, V, idx3 t]
  have b4 : ∀ l, iblk m c 4 t (ix2 0 l) = m ((c : Thread nD τ).loc main_arg5) (ix1 l) := by
    intro l
    blk_ext! [iblk, V, idx4 t]
  have e8 : ((cfg0.win 8).blk t).view.emb (ix3 0 s e) = ix3 (⟨t.val % 8, by omega⟩ : Fin 8) (rowOf ⟨t.val / 8, by omega⟩ s) e := by
    blk_ext [idx8 t] <;> simp only [rowOf] <;> omega
  have hr : ∀ x a1 a2 a3 a4 g (h b : Fin 8), result x a1 a2 a3 a4 g (ix3 h (rowOf b s) e) = attention x a1 a2 a3 a4 g h b s e := by
    intro x a1 a2 a3 a4 g h b
    unfold result
    refine congrArg₂ (fun b s => attention x a1 a2 a3 a4 g h b s e) (Fin.ext ?_) (Fin.ext ?_)
    · show (b.val * 2048 + s.val) / 2048 = b.val; omega
    · show (b.val * 2048 + s.val) % 2048 = s.val; omega
  refine Eq.trans ?_ ((congrArg _ e8).trans (hr _ _ _ _ _ _ _ _)).symm
  unfold attention logitAt
  simp only [b0, b1, b2, b3, b4, b5, b6, b7]

end Cert.KernelIdeal.AttnBlock

end
-- ==== Proof.Attn.Finite.lean ====
/- What the precondition says: the values and the four vectors of the second component's factor are real numbers. -/
module

public import proofs.«01_k».proof.Proof.Attn.Array
public import proofs.«01_k».proof.Pre_finite
public import Idealize.ShloMosaic.Lib.Pointwise

@[expose] public section

set_option maxRecDepth 16384

noncomputable section

namespace Cert.Pre_finite

open Idealize.ShloMosaic Idealize.ShloMosaic.Tactic Cert.Attn Cert.KernelIdeal.AttnBlock

instance facts : Cert.Pre_finite.Facts where
  slices_S24x16384x128_S8x16384x128_16_0_0 := by decide
  bitsLt_bf16_f32 := by decide
  bcast_S_S8x16384x128 := by decide
  shapeCasts_S8x16384x128_S8x16384x2x64 := by decide
  bcast_S_S64 := by decide
  bcast_S64_S1x1x1x64_3 := by decide
  bcast_S1x1x1x64_S8x16384x2x64_0_1_2_3 := by decide

theorem ofBits_inf : Ideal.ofBits .f32 0x7F800000#32 = ⊤ := by
  simp [Ideal.ofBits, Ideal.ieee]

theorem ofBits_fifth : Ideal.ofBits .f32 1045220557#32 = ((13421773 / 67108864 : ℝ) : EReal) := by
  simp [Ideal.ofBits, Ideal.ieee, -EReal.coe_mul]; norm_num

/-- A number whose size is below infinity is real. -/
theorem real_of_abs_lt (r : EReal) (h : max r (-r) < ⊤) : ∃ a : ℝ, r = a := by
  induction r using EReal.rec with
  | bot => simp at h
  | coe a => exact ⟨a, rfl⟩
  | top => simp at h

variable (x : Vec Ideal S24x16384x128 .bf16) (a1 a2 a3 a4 : Vec Ideal S64 .f32) (g : Vec Ideal S128 .f32)

theorem andi_eq_one (p q : BitVec 1) (h : IntOp.andi p q = 1#1) : p = 1#1 ∧ q = 1#1 := by
  revert p q; decide

/-- A comparison that says yes. -/
theorem real_of_word (r : EReal)
    (h : BitVec.ofBool (decide (max r (-r) < Ideal.ofBits FTy.f32 2139095040#32)) = 1#1) : ∃ a : ℝ, r = a := by
  refine real_of_abs_lt r ?_
  have h' : max r (-r) < Ideal.ofBits FTy.f32 2139095040#32 := by
    by_contra hn
    rw [decide_eq_false hn] at h
    exact absurd h (by decide)
  rw [ofBits_inf] at h'
  exact h'

/-- What one element of the predicate says. -/
theorem element (hp : fn (F := Ideal) x a1 a2 a3 a4 g = fun _ => 1#1) (h : Fin 8) (r : Fin 16384) (p : Fin 2) (d : Fin 64) :
    (∃ a : ℝ, x (ix3 (headOf 2 h) r (lane p d)) = a) ∧ (∃ a : ℝ, a1 (ix1 d) = a) ∧ (∃ a : ℝ, a2 (ix1 d) = a)
      ∧ (∃ a : ℝ, a3 (ix1 d) = a) ∧ ∃ a : ℝ, a4 (ix1 d) = a := by
  have h0 := congrFun hp (ix4 h r p d)
  revert h0
  pointwise [fn, fn_part1]
  intro h0
  obtain ⟨hx, h0⟩ := andi_eq_one _ _ h0
  obtain ⟨h12, h34⟩ := andi_eq_one _ _ h0
  obtain ⟨h1, h2⟩ := andi_eq_one _ _ h12
  obtain ⟨h3, h4⟩ := andi_eq_one _ _ h34
  refine ⟨?_, real_of_word _ h1, real_of_word _ h2, real_of_word _ h3, real_of_word _ h4⟩
  obtain ⟨a, ha⟩ := real_of_word _ hx
  refine ⟨a, Eq.trans (congrArg x ?_) ha⟩
  congr 1 <;> apply Fin.ext <;> simp only [headOf, lane, Fin.val_two] <;> omega

/-- The values are real. -/
theorem values_real (hp : fn (F := Ideal) x a1 a2 a3 a4 g = fun _ => 1#1) (h : Fin 8) (r : Fin 16384) (e : Fin 128) :
    ∃ a : ℝ, x (ix3 (headOf 2 h) r e) = a := by
  have hl : lane ⟨e.val / 64, by omega⟩ ⟨e.val % 64, by omega⟩ = e := Fin.ext (by simp only [lane]; omega)
  rw [← hl]
  exact (element x a1 a2 a3 a4 g hp h r _ _).1

/-- A sum of products of reals is real. -/
theorem dot_real {n : ℕ} (u w : Fin n → EReal) (hu : ∀ i, ∃ a : ℝ, u i = a) (hw : ∀ i, ∃ a : ℝ, w i = a) :
    ∃ a : ℝ, ∑ i, u i * w i = a := by
  choose u' hu' using hu
  choose w' hw' using hw
  refine ⟨∑ i, u' i * w' i, ?_⟩
  rw [coe_sum]
  refine Finset.sum_congr rfl fun i _ => ?_
  rw [hu', hw', EReal.coe_mul]

/-- The factor of the second component is real. -/
theorem factor_real (hp : fn (F := Ideal) x a1 a2 a3 a4 g = fun _ => 1#1) :
    ∃ a : ℝ, factor (fun l => a1 (ix1 l)) (fun l => a2 (ix1 l)) (fun l => a3 (ix1 l)) (fun l => a4 (ix1 l)) = a := by
  have he := fun d => (element x a1 a2 a3 a4 g hp 0 0 0 d).2
  obtain ⟨s, hs⟩ := dot_real (fun l => a1 (ix1 l)) (fun l => a2 (ix1 l)) (fun d => (he d).1) (fun d => (he d).2.1)
  obtain ⟨t, ht⟩ := dot_real (fun l => a3 (ix1 l)) (fun l => a4 (ix1 l)) (fun d => (he d).2.2.1) (fun d => (he d).2.2.2)
  refine ⟨Real.exp s - Real.exp t + 13421773 / 67108864, ?_⟩
  unfold factor
  rw [hs, ht, ofBits_fifth]
  rfl

end Cert.Pre_finite
-- ==== Proof.Attn.Reference.lean ====
/- The reference attention read at an index: every operation of the reference, as a formula of the arguments' elements. -/
module

public import proofs.«01_k».proof.Proof.Attn.Array
public import proofs.«01_k».proof.Proof.Gen.ReferenceIdeal.Read
public import Idealize.ShloMosaic.Lib.Pointwise

@[expose] public section

set_option maxRecDepth 16384

noncomputable section

namespace Cert.ReferenceIdeal.AttnReference

open Cert.ReferenceIdeal Cert.ReferenceIdeal.Gen Cert.ReferenceIdeal.Read Idealize.ShloMosaic
open Idealize.ShloMosaic.Tactic Cert.Attn Cert.KernelIdeal.AttnBlock

/-- A maximum over the last of five axes, from below every number, is the supremum along it. -/
theorem reduce_max_last {n0 n1 n2 n3 n4 : ℕ} {u : Shape} (v : (⟨5, ![n0, n1, n2, n3, n4]⟩ : Shape).Idx → EReal) (c : u.Idx → EReal)
    (h : (⟨5, ![n0, n1, n2, n3, n4]⟩ : Shape).ReducesTo [4] ⟨4, ![n0, n1, n2, n3]⟩) (hu : 0 < u.numel)
    (hc : c (Shape.Idx.first hu) = ⊥) (i0 : Fin n0) (i1 : Fin n1) (i2 : Fin n2) (i3 : Fin n3) :
    Host.reduce (max : EReal → EReal → EReal) v c h hu (ix4 i0 i1 i2 i3) = Finset.univ.sup fun k => v (ix5 i0 i1 i2 i3 k) := by
  rw [Host.reduce_eq_fold, h.fold_fiber_r5_a4, hc]
  rfl

theorem ofBits_eighth : Ideal.ofBits .f32 1040187392#32 = ((1 / 8 : ℝ) : EReal) := by
  simp [Ideal.ofBits, Ideal.ieee, -EReal.coe_mul]
  norm_num

variable (x : Vec Ideal S24x16384x128 .bf16) (a1 a2 a3 a4 : Vec Ideal S64 .f32) (g : Vec Ideal S128 .f32)

/-! ## Queries, keys, values -/

theorem queries_eq (b : Fin 8) (s : Fin 2048) (h : Fin 8) (p : Fin 2) (d : Fin 64) :
    val_main_v3 (F := Ideal) x (ix5 b s h p d) = x (ix3 (headOf 0 h) (rowOf b s) (lane p d)) := by
  pointwise [val_main_v3, val_main_v2, val_main_v1, val_main_v0]
  refine congrArg x ?_
  congr 1 <;> apply Fin.ext <;> simp only [headOf, rowOf, lane, Fin.val_zero] <;> omega

theorem keys_eq (b : Fin 8) (s : Fin 2048) (h : Fin 8) (p : Fin 2) (d : Fin 64) :
    val_main_v6 (F := Ideal) x (ix5 b s h p d) = x (ix3 (headOf 1 h) (rowOf b s) (lane p d)) := by
  pointwise [val_main_v6, val_main_v5, val_main_v4, val_main_v0]
  refine congrArg x ?_
  congr 1 <;> apply Fin.ext <;> simp only [headOf, rowOf, lane, Fin.val_one] <;> omega

theorem values_eq (b : Fin 8) (s : Fin 2048) (h : Fin 8) (e : Fin 128) :
    val_main_v9 (F := Ideal) x (ix4 b s h e) = x (ix3 (headOf 2 h) (rowOf b s) e) := by
  pointwise [val_main_v9, val_main_v8, val_main_v7, val_main_v0]
  refine congrArg x ?_
  congr 1 <;> apply Fin.ext <;> simp only [headOf, rowOf, Fin.val_two] <;> omega

/-! ## Scores and weights -/

/-- A score: the component's 64 lanes, an eighth. -/
theorem score_eq (b : Fin 8) (p : Fin 2) (h : Fin 8) (s k : Fin 2048) :
    val_main_v20 (F := Ideal) x (ix5 b p h s k) = logitAt x h b s p k := by
  pointwise [val_main_v20, val_main_v19, val_main_cst_2]
  rw [ofBits_eighth, val_main_v18_apply]
  unfold logitAt logit
  refine congrArg (· * _) (Finset.sum_congr rfl fun d _ => ?_)
  have hl : lidx_main_v18 (ix5 b p h s k) d = ix5 b s h p d := by funext a; fin_cases a <;> rfl
  have hr : ridx_main_v18 (ix5 b p h s k) d = ix5 b k h p d := by funext a; fin_cases a <;> rfl
  rewrite [hl, hr, queries_eq, keys_eq]
  rfl

/-- The reference's maximum over the keys, of whatever scores. -/
theorem greatest_of (y : FVec Ideal S8x2x8x2048x2048 .f32) (b : Fin 8) (p : Fin 2) (h : Fin 8) (s : Fin 2048) :
    Host.reduce FloatOps.maximumf y (val_main_cst_3 (F := Ideal)) reducesTo_S8x2x8x2048x2048_S8x2x8x2048_d4 h_S_ (ix4 b p h s)
      = Finset.univ.sup fun k => y (ix5 b p h s k) := by
  refine reduce_max_last y (val_main_cst_3 (F := Ideal)) reducesTo_S8x2x8x2048x2048_S8x2x8x2048_d4 h_S_ ?_ b p h s
  rewrite [val_main_cst_3_apply]
  exact ofBits_neg_inf

/-- The greatest score of a query. -/
theorem greatest_eq (b : Fin 8) (p : Fin 2) (h : Fin 8) (s : Fin 2048) :
    val_main_v23 (F := Ideal) x (ix4 b p h s) = Finset.univ.sup (logitAt x h b s p) := by
  rw [val_main_v23_apply, val_main_v22_apply, val_main_cst_4_apply]
  unfold val_main_v21
  have hbot : (FloatOps.ofBits .f32 0xFF800000#32 : Ideal .f32) = ⊥ := ofBits_neg_inf
  rw [hbot]
  refine Eq.trans (max_eq_right bot_le) ?_
  refine Eq.trans (greatest_of _ b p h s) ?_
  exact congrArg (Finset.univ : Finset (Fin 2048)).sup (funext fun k => score_eq x b p h s k)

/-- A weight. -/
theorem weight_eq (b : Fin 8) (p : Fin 2) (h : Fin 8) (s k : Fin 2048) :
    val_main_v27 (F := Ideal) x (ix5 b p h s k) = weight (logitAt x h b s p) k := by
  pointwise [val_main_v27, val_main_v26, val_main_v25, val_main_v24]
  rw [score_eq, greatest_eq]
  rfl

/-- A query's weights added up. -/
theorem total_eq (b : Fin 8) (p : Fin 2) (h : Fin 8) (s : Fin 2048) :
    val_main_v28 (F := Ideal) x (ix4 b p h s) = ∑ k, weight (logitAt x h b s p) k := by
  rw [val_main_v28_apply, val_main_cst_5_apply]
  refine Eq.trans (congrArg₂ (· + ·) (Ideal.ofBits_zero_f32) (Finset.sum_congr rfl fun k _ => ?_)) (zero_add _)
  rw [← weight_eq]
  refine congrArg _ (funext fun a => ?_)
  fin_cases a <;> rfl

/-- A normalized weight. -/
theorem share_eq (b : Fin 8) (p : Fin 2) (h : Fin 8) (s k : Fin 2048) :
    val_main_v31 (F := Ideal) x (ix5 b p h s k)
      = Ideal.div (weight (logitAt x h b s p) k) (∑ k, weight (logitAt x h b s p) k) := by
  pointwise [val_main_v31, val_main_v30, val_main_v29]
  rw [weight_eq, total_eq]

/-! ## The difference of the components -/

/-- The factor of the second component. -/
theorem factor_eq (i : S_.Idx) :
    val_main_v17 (F := Ideal) a1 a2 a3 a4 i
      = factor (fun l => a1 (ix1 l)) (fun l => a2 (ix1 l)) (fun l => a3 (ix1 l)) (fun l => a4 (ix1 l)) := by
  pointwise [val_main_v17, val_main_v16, val_main_v15, val_main_v14, val_main_v13, val_main_v12, val_main_v11, val_main_v10,
    val_main_cst, val_main_cst_0, val_main_cst_1]
  rfl

/-- The first component's normalized weight, taken out of the pair. -/
theorem first_share_eq (b h : Fin 8) (s k : Fin 2048) :
    val_main_v33 (F := Ideal) x (ix4 b h s k)
      = Ideal.div (weight (logitAt x h b s 0) k) (∑ k, weight (logitAt x h b s 0) k) := by
  rewrite [val_main_v33_apply, val_main_v32_apply, ← share_eq]
  refine congrArg _ (funext fun a => Fin.ext ?_)
  have := b.isLt; have := s.isLt; have := h.isLt; have := k.isLt
  fin_cases a <;> dsimp <;> omega

/-- The second component's. -/
theorem second_share_eq (b h : Fin 8) (s k : Fin 2048) :
    val_main_v35 (F := Ideal) x (ix4 b h s k)
      = Ideal.div (weight (logitAt x h b s 1) k) (∑ k, weight (logitAt x h b s 1) k) := by
  rewrite [val_main_v35_apply, val_main_v34_apply, ← share_eq]
  refine congrArg _ (funext fun a => Fin.ext ?_)
  have := b.isLt; have := s.isLt; have := h.isLt; have := k.isLt
  fin_cases a <;> dsimp <;> omega

/-- The two components' weights, the second with its factor, taken apart. -/
theorem difference_eq (b h : Fin 8) (s k : Fin 2048) :
    val_main_v38 (F := Ideal) x a1 a2 a3 a4 (ix4 b h s k)
      = Ideal.div (weight (logitAt x h b s 0) k) (∑ k, weight (logitAt x h b s 0) k)
        - factor (fun l => a1 (ix1 l)) (fun l => a2 (ix1 l)) (fun l => a3 (ix1 l)) (fun l => a4 (ix1 l))
          * Ideal.div (weight (logitAt x h b s 1) k) (∑ k, weight (logitAt x h b s 1) k) := by
  rewrite [val_main_v38_apply, val_main_v37_apply, val_main_v36_apply, factor_eq, first_share_eq, second_share_eq]
  rfl

/-- The attention before its normalization. -/
theorem mixed_eq (b : Fin 8) (s : Fin 2048) (h : Fin 8) (e : Fin 128) :
    val_main_v40 (F := Ideal) x a1 a2 a3 a4 (ix4 b s h e)
      = divideFirst (factor (fun l => a1 (ix1 l)) (fun l => a2 (ix1 l)) (fun l => a3 (ix1 l)) (fun l => a4 (ix1 l)))
          (weight (logitAt x h b s 0)) (weight (logitAt x h b s 1)) (fun k => x (ix3 (headOf 2 h) (rowOf b k) e)) := by
  pointwise [val_main_v40]
  rw [val_main_v39_apply]
  unfold divideFirst
  refine Finset.sum_congr rfl fun k _ => ?_
  have hl : lidx_main_v39 (ix4 b h e s) k = ix4 b k h e := by funext a; fin_cases a <;> rfl
  have hr : ridx_main_v39 (ix4 b h e s) k = ix4 b h s k := by funext a; fin_cases a <;> rfl
  rewrite [hl, hr, difference_eq, values_eq]
  exact mul_comm _ _

/-! ## The normalization, the gain and the layout of the result -/

/-- The sum of a row's squares. -/
theorem squares_eq (b : Fin 8) (s : Fin 2048) (h : Fin 8) :
    val_main_v42 (F := Ideal) x a1 a2 a3 a4 (ix3 b s h)
      = ∑ e, val_main_v40 (F := Ideal) x a1 a2 a3 a4 (ix4 b s h e) * val_main_v40 (F := Ideal) x a1 a2 a3 a4 (ix4 b s h e) := by
  rw [val_main_v42_apply, val_main_cst_6_apply]
  refine Eq.trans (congrArg₂ (· + ·) (Ideal.ofBits_zero_f32) (Finset.sum_congr rfl fun e _ => ?_)) (zero_add _)
  rw [val_main_v41_apply]
  have hi : idx_main_v42 (ix3 b s h) e = ix4 b s h e := by
    funext a; fin_cases a <;> rfl
  rw [hi]; rfl

/-- A normalized element, with its gain. -/
theorem scaled_eq (b : Fin 8) (s : Fin 2048) (h : Fin 8) (e : Fin 128) :
    val_main_v55 (F := Ideal) x a1 a2 a3 a4 g (ix4 b s h e)
      = rms eps (fun e => val_main_v40 (F := Ideal) x a1 a2 a3 a4 (ix4 b s h e)) e * g (ix1 e) * Ideal.ofBits .f32 1061997773#32 := by
  pointwise [val_main_v55, val_main_v54, val_main_cst_9, val_main_v53, val_main_v52, val_main_v51, val_main_v50, val_main_v49,
    val_main_v48, val_main_v47, val_main_v46, val_main_cst_8, val_main_v45, val_main_v44, val_main_cst_7, val_main_v43]
  rw [squares_eq, ofBits_eps, ofBits_128]
  rfl

/-- THE REFERENCE at head `h`, batch `b`, query `s`, lane `e`. -/
theorem reference_eq (h b : Fin 8) (s : Fin 2048) (e : Fin 128) :
    val_main_v58 (F := Ideal) x a1 a2 a3 a4 g (ix3 h (rowOf b s) e)
      = rms eps (fun e => divideFirst
          (factor (fun l => a1 (ix1 l)) (fun l => a2 (ix1 l)) (fun l => a3 (ix1 l)) (fun l => a4 (ix1 l)))
          (weight (logitAt x h b s 0)) (weight (logitAt x h b s 1)) (fun k => x (ix3 (headOf 2 h) (rowOf b k) e))) e
        * g (ix1 e) * Ideal.ofBits .f32 1061997773#32 := by
  simp only [← mixed_eq]
  rw [← scaled_eq]
  pointwise [val_main_v58, val_main_v57, val_main_v56]
  refine congrArg _ ?_
  congr 1 <;> apply Fin.ext <;> simp only [rowOf] <;> omega

end Cert.ReferenceIdeal.AttnReference
-- ==== Proof.Attn.Equation.lean ====
/- The attention kernel and its reference compute the same array, of values and factor vectors that are real. -/
module

public import proofs.«01_k».proof.Defs
public import proofs.«01_k».proof.Proof.Attn.Finite
public import proofs.«01_k».proof.Proof.Attn.Reference
public import proofs.«01_k».proof.Proof.Gen.KernelIdeal.Value

@[expose] public section

set_option maxRecDepth 16384

noncomputable section

namespace Cert.Attn

open Idealize.ShloMosaic Idealize.ShloMosaic.TcCoe Idealize.SL.Sem Idealize.ShloMosaic.Tactic Cert.KernelIdeal.AttnBlock

/-- A query's weights are real and not negative. -/
theorem share_real (f : Fin 2048 → EReal) (k : Fin 2048) : ∃ w : ℝ, 0 ≤ w ∧ weight f k = w :=
  weight_exp_real (Finset.le_sup (Finset.mem_univ k))

/-- THE EQUATION: the reference's array is the kernel's. -/
theorem equation (x : Vec Ideal Cert.ReferenceIdeal.S24x16384x128 .bf16) (a1 a2 a3 a4 : Vec Ideal Cert.ReferenceIdeal.S64 .f32)
    (g : Vec Ideal Cert.ReferenceIdeal.S128 .f32) (hp : Cert.Pre_finite.fn (F := Ideal) x a1 a2 a3 a4 g = fun _ => 1#1) :
    Cert.ReferenceIdeal.Read.val_main_v58 (F := Ideal) x a1 a2 a3 a4 g = result x a1 a2 a3 a4 g := by
  funext i
  idx_vars i
  obtain ⟨b, s, rfl⟩ : ∃ (b : Fin 8) (s : Fin 2048), i1 = rowOf b s :=
    ⟨⟨i1.val / 2048, by omega⟩, ⟨i1.val % 2048, by omega⟩, Fin.ext (by simp only [rowOf]; omega)⟩
  rw [Cert.ReferenceIdeal.AttnReference.reference_eq]
  have hb : (⟨(rowOf b s).val / 2048, by have := (rowOf b s).isLt; omega⟩ : Fin 8) = b := Fin.ext (by simp only [rowOf]; omega)
  have hs : (⟨(rowOf b s).val % 2048, Nat.mod_lt _ (by decide)⟩ : Fin 2048) = s := Fin.ext (by simp only [rowOf]; omega)
  have hr : result x a1 a2 a3 a4 g (ix3 i0 (rowOf b s) i2) = attention x a1 a2 a3 a4 g i0 b s i2 := by
    show attention x a1 a2 a3 a4 g i0 ⟨(rowOf b s).val / 2048, _⟩ ⟨(rowOf b s).val % 2048, _⟩ i2 = _
    rw [hb, hs]
  rw [hr]
  unfold attention row
  obtain ⟨lam, hlam⟩ := Cert.Pre_finite.factor_real x a1 a2 a3 a4 g hp
  rw [hlam, rms_divide eps lam _ _ _ (share_real _) (share_real _)
    (fun e k => Cert.Pre_finite.values_real x a1 a2 a3 a4 g hp i0 (rowOf b k) e), mul_assoc]

end Cert.Attn
-- ==== Proof.Attn.Claim.lean ====
/- The attention's value claim: both programs run, and leave the same array. -/
module

public import proofs.«01_k».proof.Proof.Attn.Equation

@[expose] public section

set_option maxRecDepth 16384

noncomputable section

namespace Cert.Attn

open Idealize.ShloMosaic Idealize.ShloMosaic.TcCoe Idealize.SL.Sem Cert.KernelIdeal.AttnBlock

/-- The kernel and the reference, from the same arguments, end with the same array. -/
theorem algebraic : Cert.algebraic_KernelIdeal_ReferenceIdeal_pre_finite := by
  intro m g m' g' hp hargs
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Value.run_blocks m g)
    exact ⟨(h c).1.trans (array_eq m c), (h c).2⟩
  · refine (θ_run Cert.ReferenceIdeal.defs _ _).mono (fun r h c => ?_) (Cert.ReferenceIdeal.Value.run m' g')
    refine ⟨(h c).1.trans ?_, (h c).2⟩
    obtain ⟨h0, h1, h2, h3, h4, h5⟩ := hargs c
    rw [Cert.ReferenceIdeal.Read.val_main_v58_eq, h0, h1, h2, h3, h4, h5]
    exact equation _ _ _ _ _ _ (hp c)

end Cert.Attn
-- ==== Proof.Experts.Gate.lean ====
/- The experts' activation: the kernel's form of the gated product, by the hyperbolic tangent, equals the plain one, by
   the logistic function, at every extended real. -/
module

public import Idealize.ShloMosaic.PureOps.Ideal

@[expose] public section

noncomputable section

namespace Cert.Experts

open Idealize.ShloMosaic

/-- The gated product: `a` times its logistic, times `b`. -/
def gated (a b : EReal) : EReal := a * Ideal.div 1 (1 + Ideal.exp (-a)) * b

theorem ofBits_half : Ideal.ofBits .f32 1056964608#32 = ((1 / 2 : ℝ) : EReal) := by
  simp [Ideal.ofBits, Ideal.ieee, -EReal.coe_mul]; norm_num

/-- On the reals, half of `1 + tanh (a/2)` is the logistic of `a`. -/
theorem half_tanh_real (r : ℝ) : 1 / 2 * Real.tanh (1 / 2 * r) + 1 / 2 = (1 + Real.exp (-r))⁻¹ := by
  have h1 : Real.exp (1 / 2 * r) * Real.exp (-(1 / 2 * r)) = 1 := by rw [← Real.exp_add]; simp
  have h2 : Real.exp (-r) = Real.exp (-(1 / 2 * r)) * Real.exp (-(1 / 2 * r)) := by rw [← Real.exp_add]; congr 1; ring
  have p1 := Real.exp_pos (1 / 2 * r)
  have p2 := Real.exp_pos (-(1 / 2 * r))
  rw [Real.tanh_eq_sinh_div_cosh, Real.sinh_eq, Real.cosh_eq, h2]
  generalize Real.exp (1 / 2 * r) = u at *
  generalize Real.exp (-(1 / 2 * r)) = v at *
  have hs : 0 < u + v := by linarith
  have hq : 0 < 1 + v * v := by positivity
  rw [inv_eq_one_div, div_div_div_cancel_right₀ (by norm_num : (2 : ℝ) ≠ 0), eq_div_iff hq.ne']
  field_simp
  nlinarith [h1, mul_comm u v]

/-- The same at every extended real. -/
theorem half_tanh (a : EReal) :
    ((1 / 2 : ℝ) : EReal) * Ideal.tanh (((1 / 2 : ℝ) : EReal) * a) + ((1 / 2 : ℝ) : EReal) = Ideal.logistic a := by
  have hp : (0 : EReal) < ((1 / 2 : ℝ) : EReal) := EReal.coe_pos.mpr (by norm_num)
  induction a using EReal.rec with
  | bot =>
    rw [EReal.coe_mul_bot_of_pos (by norm_num), Ideal.tanh_bot, Ideal.logistic_bot, show (-1 : EReal) = ((-1 : ℝ) : EReal) from rfl, ← EReal.coe_mul, ← EReal.coe_add]
    norm_num
  | coe r =>
    rw [← EReal.coe_mul, Ideal.tanh_coe, ← EReal.coe_mul, ← EReal.coe_add, half_tanh_real, Ideal.logistic_coe]
  | top =>
    rw [EReal.coe_mul_top_of_pos (by norm_num), Ideal.tanh_top, Ideal.logistic_top, mul_one, ← EReal.coe_add]
    norm_num

/-- The kernel's gated product is the plain one. -/
theorem gated_eq (a b : EReal) :
    a * (((1 / 2 : ℝ) : EReal) * Ideal.tanh (((1 / 2 : ℝ) : EReal) * a) + ((1 / 2 : ℝ) : EReal)) * b = gated a b := by
  rw [half_tanh]; rfl

end Cert.Experts

end
-- ==== Proof.Experts.Step.lean ====
/- One update of the experts' accumulator: the hidden layer of 512 rows against a slice of the weights, and its product
   with the same slice of the second weights. -/
module

public import proofs.«01_k».proof.Proof.Gen.Kernel2Ideal.Value
public import proofs.«01_k».proof.Proof.Experts.Gate
public import Idealize.ShloMosaic.Lib.Pointwise
public import Idealize.ShloMosaic.Lib.Pipeline.ValueKit.Tiles

@[expose] public section

set_option maxRecDepth 16384

noncomputable section

namespace Cert.Kernel2Ideal.ExpertsBlock

open Cert.Kernel2Ideal Cert.Kernel2Ideal.Gen Idealize.ShloMosaic Idealize.ShloMosaic.TcCoe Idealize.SL.Sem
open Idealize.ShloMosaic.Tactic Cert.Experts

/-- The gated hidden layer of two products, in the kernel's form. -/
def hidden {S : Shape} (a b : FVec Ideal S .f32) : FVec Ideal S .bf16 :=
  truncf .bf16
    (mulf (mulf a (addf (mulf (broadcast S (Scalar.ofBits (F := Ideal) .f32 0x3F000000#32))
        (tanh (mulf (broadcast S (Scalar.ofBits (F := Ideal) .f32 0x3F000000#32)) a)))
      (broadcast S (Scalar.ofBits (F := Ideal) .f32 0x3F000000#32)))) b) bitsLt_bf16_f32

/-- The products of 512 rows with a slice of 512 columns. -/
def mainProduct (x : Vec Ideal S1x512x1024 .bf16) (w : FVec Ideal S512x1024 .bf16) : FVec Ideal S512x512 .f32 :=
  matmul (φ₁ := .bf16) (φ₂ := .bf16) dot_S512x1024_S512x1024_S512x512_1_1_0_0_n_n none
    (shapeCast (α := Ideal .bf16) S512x1024 x shapeCasts_S1x512x1024_S512x1024) w (constant S512x512 .f32 0x00000000#32)

/-- The products of 512 rows with the last slice, of 192 columns. -/
def tailProduct (x : Vec Ideal S1x512x1024 .bf16) (w : FVec Ideal S192x1024 .bf16) : FVec Ideal S512x192 .f32 :=
  matmul (φ₁ := .bf16) (φ₂ := .bf16) dot_S512x1024_S192x1024_S512x192_1_1_0_0_n_n none
    (shapeCast (α := Ideal .bf16) S512x1024 x shapeCasts_S1x512x1024_S512x1024) w (constant S512x192 .f32 0x00000000#32)

/-- The accumulator of 512 rows after a slice of 512 columns. -/
def mainPart (w1 w3 w2 : FVec Ideal S512x1024 .bf16) (x : Vec Ideal S1x512x1024 .bf16) (acc : Vec Ideal S512x1024 .f32) :
    FVec Ideal S512x1024 .f32 :=
  shapeCast S512x1024
    (addf (φ := .f32) acc (matmul (φ₁ := .bf16) (φ₂ := .bf16) dot_S512x512_S512x1024_S512x1024_1_0_0_1_n_n none
      (hidden (mainProduct x w1) (mainProduct x w3)) w2 (constant S512x1024 .f32 0x00000000#32)))
    shapeCasts_S512x1024_S512x1024

/-- The accumulator of 512 rows after the last slice. -/
def tailPart (w1 w3 w2 : FVec Ideal S192x1024 .bf16) (x : Vec Ideal S1x512x1024 .bf16) (acc : Vec Ideal S512x1024 .f32) :
    FVec Ideal S512x1024 .f32 :=
  shapeCast S512x1024
    (addf (φ := .f32) acc (matmul (φ₁ := .bf16) (φ₂ := .bf16) dot_S512x192_S192x1024_S512x1024_1_0_0_1_n_n none
      (hidden (tailProduct x w1) (tailProduct x w3)) w2 (constant S512x1024 .f32 0x00000000#32)))
    shapeCasts_S512x1024_S512x1024

/-! ## The stored values are these updates -/

theorem main3_eq (x1 x2 x3 : Vec Ideal S1x1x512x1024 .f32) (x : Vec Ideal S1x512x1024 .bf16) (acc : Vec Ideal S512x1024 .f32) :
    k0_pay3 (k0_pay25 x3) (k0_pay33 (k0_pay23 x1) x) (k0_pay34 (k0_pay24 x2) x) acc
      = mainPart (k0_pay23 x1) (k0_pay24 x2) (k0_pay25 x3) x acc := rfl

theorem main2_eq (x1 x2 x3 : Vec Ideal S1x1x512x1024 .f32) (x : Vec Ideal S1x512x1024 .bf16) (acc : Vec Ideal S512x1024 .f32) :
    k0_pay2 (k0_pay25 x3) (k0_pay35 (k0_pay23 x1) (k0_pay24 x2) x) acc
      = mainPart (k0_pay23 x1) (k0_pay24 x2) (k0_pay25 x3) x acc := rfl

theorem main1_eq (x1 x2 x3 : Vec Ideal S1x1x512x1024 .f32) (x : Vec Ideal S1x512x1024 .bf16) (acc : Vec Ideal S512x1024 .f32) :
    k0_pay31 (k0_pay25 x3) (k0_pay27 x1 x) (k0_pay28 x2 x) acc
      = mainPart (k0_pay23 x1) (k0_pay24 x2) (k0_pay25 x3) x acc := rfl

theorem main0_eq (x1 x2 x3 : Vec Ideal S1x1x512x1024 .f32) (x : Vec Ideal S1x512x1024 .bf16) (acc : Vec Ideal S512x1024 .f32) :
    k0_pay30 (k0_pay29 x1 x2 x3 x acc) = mainPart (k0_pay23 x1) (k0_pay24 x2) (k0_pay25 x3) x acc := rfl

theorem tail0_eq (w1 w3 : FVec Ideal S192x1024 .bf16) (x10 x11 x12 : Vec Ideal S1x1x64x1024 .f32) (x : Vec Ideal S1x512x1024 .bf16)
    (acc : Vec Ideal S512x1024 .f32) :
    k0_pay14 w1 w3 (k0_pay8 x10) (k0_pay9 x11) x12 x acc = tailPart w1 w3 (k0_pay10 (k0_pay8 x10) (k0_pay9 x11) x12) x acc := rfl

theorem tail1_eq (w1 w3 w2 : FVec Ideal S192x1024 .bf16) (x : Vec Ideal S1x512x1024 .bf16) (acc : Vec Ideal S512x1024 .f32) :
    k0_pay18 w2 (k0_pay12 w1 x) (k0_pay13 w3 x) acc = tailPart w1 w3 w2 x acc := rfl

theorem tail2_eq (w1 w3 w2 : FVec Ideal S192x1024 .bf16) (x : Vec Ideal S1x512x1024 .bf16) (acc : Vec Ideal S512x1024 .f32) :
    k0_pay22 w2 (k0_pay16 w1 x) (k0_pay17 w3 x) acc = tailPart w1 w3 w2 x acc := rfl

theorem tail3_eq (w1 w3 w2 : FVec Ideal S192x1024 .bf16) (x : Vec Ideal S1x512x1024 .bf16) (acc : Vec Ideal S512x1024 .f32) :
    k0_pay1 w2 (k0_pay20 w1 x) (k0_pay21 w3 x) (Scalar.ofBits (F := Ideal) .f32 0x3F000000#32) acc = tailPart w1 w3 w2 x acc := rfl

/-! ## The updates at an index -/

theorem hidden_apply {S : Shape} (a b : FVec Ideal S .f32) (i : S.Idx) : hidden a b i = gated (a i) (b i) := by
  rw [← gated_eq, ← ofBits_half]; rfl

theorem mainProduct_apply (x : Vec Ideal S1x512x1024 .bf16) (w : FVec Ideal S512x1024 .bf16) (r f : Fin 512) :
    mainProduct x w (ix2 r f) = ∑ k : Fin 1024, x (ix3 0 r k) * w (ix2 f k) := by
  pointwise [mainProduct]

theorem tailProduct_apply (x : Vec Ideal S1x512x1024 .bf16) (w : FVec Ideal S192x1024 .bf16) (r : Fin 512) (f : Fin 192) :
    tailProduct x w (ix2 r f) = ∑ k : Fin 1024, x (ix3 0 r k) * w (ix2 f k) := by
  pointwise [tailProduct]

theorem mainPart_apply (w1 w3 w2 : FVec Ideal S512x1024 .bf16) (x : Vec Ideal S1x512x1024 .bf16) (acc : Vec Ideal S512x1024 .f32)
    (r : Fin 512) (d : Fin 1024) :
    mainPart w1 w3 w2 x acc (ix2 r d)
      = acc (ix2 r d) + ∑ f : Fin 512, gated (∑ k : Fin 1024, x (ix3 0 r k) * w1 (ix2 f k)) (∑ k : Fin 1024, x (ix3 0 r k) * w3 (ix2 f k)) * w2 (ix2 f d) := by
  have h : mainPart w1 w3 w2 x acc (ix2 r d)
      = acc (ix2 r d) + ∑ f : Fin 512, hidden (mainProduct x w1) (mainProduct x w3) (ix2 r f) * w2 (ix2 f d) := by
    pointwise [mainPart]
  simp only [h, hidden_apply, mainProduct_apply]

theorem tailPart_apply (w1 w3 w2 : FVec Ideal S192x1024 .bf16) (x : Vec Ideal S1x512x1024 .bf16) (acc : Vec Ideal S512x1024 .f32)
    (r : Fin 512) (d : Fin 1024) :
    tailPart w1 w3 w2 x acc (ix2 r d)
      = acc (ix2 r d) + ∑ f : Fin 192, gated (∑ k : Fin 1024, x (ix3 0 r k) * w1 (ix2 f k)) (∑ k : Fin 1024, x (ix3 0 r k) * w3 (ix2 f k)) * w2 (ix2 f d) := by
  have h : tailPart w1 w3 w2 x acc (ix2 r d)
      = acc (ix2 r d) + ∑ f : Fin 192, hidden (tailProduct x w1) (tailProduct x w3) (ix2 r f) * w2 (ix2 f d) := by
    pointwise [tailPart]
  simp only [h, hidden_apply, tailProduct_apply]

/-! ## The weights' slices at an index -/

theorem slice1_apply (x : Vec Ideal S1x1x512x1024 .f32) (f : Fin 512) (k : Fin 1024) : k0_pay23 x (ix2 f k) = x (ix4 0 0 f k) := by
  pointwise [k0_pay23]

theorem slice3_apply (x : Vec Ideal S1x1x512x1024 .f32) (f : Fin 512) (k : Fin 1024) : k0_pay24 x (ix2 f k) = x (ix4 0 0 f k) := by
  pointwise [k0_pay24]

theorem slice2_apply (x : Vec Ideal S1x1x512x1024 .f32) (f : Fin 512) (k : Fin 1024) : k0_pay25 x (ix2 f k) = x (ix4 0 0 f k) := by
  pointwise [k0_pay25]

/-- Three pieces of 64 rows, one over the other, at row `f`. -/
def stacked (y0 y1 y2 : Vec Ideal S1x1x64x1024 .f32) (f : Fin 192) (k : Fin 1024) : EReal :=
  if h0 : f.val < 64 then y0 (ix4 0 0 ⟨f.val, h0⟩ k)
  else if h1 : f.val - 64 < 64 then y1 (ix4 0 0 ⟨f.val - 64, h1⟩ k)
  else y2 (ix4 0 0 ⟨f.val - 64 - 64, by omega⟩ k)

theorem last1_apply (y0 y1 y2 : Vec Ideal S1x1x64x1024 .f32) (f : Fin 192) (k : Fin 1024) :
    k0_pay6 y0 y1 y2 (ix2 f k) = stacked y0 y1 y2 f k := by
  pointwise [k0_pay6]; rfl

theorem last3_apply (y0 y1 y2 : Vec Ideal S1x1x64x1024 .f32) (f : Fin 192) (k : Fin 1024) :
    k0_pay7 y0 y1 y2 (ix2 f k) = stacked y0 y1 y2 f k := by
  pointwise [k0_pay7]; rfl

theorem last2_apply (y0 y1 y2 : Vec Ideal S1x1x64x1024 .f32) (f : Fin 192) (k : Fin 1024) :
    k0_pay10 (k0_pay8 y0) (k0_pay9 y1) y2 (ix2 f k) = stacked y0 y1 y2 f k := by
  pointwise [k0_pay10, k0_pay8, k0_pay9]; rfl

theorem zero_apply (s : Fin 2048) (d : Fin 1024) : k0_pay5 (F := Ideal) (ix2 s d) = 0 := by
  pointwise [k0_pay5]

theorem gate_apply (y : Vec Ideal S2048x1024 .f32) (g : Vec Ideal S1x2048x1 .f32) (s : Fin 2048) (d : Fin 1024) :
    k0_pay4 y g (ix3 0 s d) = y (ix2 s d) * g (ix3 0 s 0) := by
  pointwise [k0_pay4]

end Cert.Kernel2Ideal.ExpertsBlock

end
-- ==== Proof.Experts.Block.lean ====
/- What one grid point of the experts' kernel leaves in its accumulator and in its output block, row by row: the first
   point of an expert starts the sums with the last slice of the hidden layer, every other point adds one slice, and the
   last one writes the sums times the gate. -/
module

public import proofs.«01_k».proof.Proof.Experts.Step

@[expose] public section

set_option maxRecDepth 16384

noncomputable section

namespace Cert.Kernel2Ideal.ExpertsBlock

open Cert.Kernel2Ideal Cert.Kernel2Ideal.Gen Idealize.ShloMosaic Idealize.ShloMosaic.TcCoe Idealize.SL.Sem
open Idealize.ShloMosaic.Tactic Cert.Experts

/-! ## Stores of 512 rows, read at a row -/

/-- A row inside the last store is that store's. -/
theorem canon_inside (o : ℕ) (inb : ∀ a : Fin 2, ![o, 0] a + ![512, 1024] a ≤ S2048x1024.size a) (w : Vec Ideal S512x1024 .f32)
    (L : List (View.Piece (Elt Ideal) S2048x1024 .f32)) (s : Fin 2048) (r : Fin 512) (d : Fin 1024) (hs : s.val = o + r.val) :
    View.canon (Val := Elt Ideal) (e := .f32) (⟨Rect.unit (s := S2048x1024) ![o, 0] ![512, 1024] inb, w⟩ :: L) (ix2 s d) = w (ix2 r d) := by
  have h : (ix2 s d : S2048x1024.Idx) = (Rect.unit (s := S2048x1024) ![o, 0] ![512, 1024] inb).emb (ix2 r d) := by
    funext a
    fin_cases a
    · exact Fin.ext (by show s.val = o + 1 * r.val; omega)
    · exact Fin.ext (by show d.val = 0 + 1 * d.val; omega)
  exact (congrArg (View.canon (Val := Elt Ideal) (e := .f32) (⟨Rect.unit (s := S2048x1024) ![o, 0] ![512, 1024] inb, w⟩ :: L)) h).trans
    (View.canon_cons_emb (Val := Elt Ideal) (e := .f32) (Rect.unit (s := S2048x1024) ![o, 0] ![512, 1024] inb) w L (ix2 r d))

/-- A row outside the last store is the earlier stores'. -/
theorem canon_outside (o : ℕ) (inb : ∀ a : Fin 2, ![o, 0] a + ![512, 1024] a ≤ S2048x1024.size a) (w : Vec Ideal S512x1024 .f32)
    (L : List (View.Piece (Elt Ideal) S2048x1024 .f32)) (s : Fin 2048) (d : Fin 1024) (hs : s.val < o ∨ o + 512 ≤ s.val) :
    View.canon (Val := Elt Ideal) (e := .f32) (⟨Rect.unit (s := S2048x1024) ![o, 0] ![512, 1024] inb, w⟩ :: L) (ix2 s d)
      = View.canon (Val := Elt Ideal) (e := .f32) L (ix2 s d) := by
  refine View.canon_cons_of_not_mem _ L fun hm => ?_
  have h := ((Rect.mem_set_unit (inb := inb)).mp hm) 0
  have h1 : o ≤ s.val := h.1
  have h2 : s.val < o + 512 := h.2
  omega

/-- Rows `o …` of the accumulator, placed. -/
theorem place_rows (o : ℕ) (inb : ∀ a : Fin 2, ![o, 0] a + ![512, 1024] a ≤ S2048x1024.size a) (s : Fin 2048) (r : Fin 512)
    (d : Fin 1024) (hs : s.val = o + r.val) :
    (Rect.unit (s := S2048x1024) ![o, 0] ![512, 1024] inb).idx (ix2 r d) = ix2 s d := by
  funext a
  fin_cases a
  · exact Fin.ext (by show o + 1 * r.val = s.val; omega)
  · exact Fin.ext (by show 0 + 1 * d.val = d.val; omega)

/-- Rows `o …` of an expert's block, placed. -/
theorem place_input (o : ℕ) (inb : ∀ a : Fin 3, ![0, o, 0] a + ![1, 512, 1024] a ≤ S1x2048x1024.size a) (s : Fin 2048) (r : Fin 512)
    (k : Fin 1024) (hs : s.val = o + r.val) :
    (Rect.unit (s := S1x2048x1024) ![0, o, 0] ![1, 512, 1024] inb).idx (ix3 0 r k) = ix3 0 s k := by
  funext a
  fin_cases a
  · rfl
  · exact Fin.ext (by show o + 1 * r.val = s.val; omega)
  · exact Fin.ext (by show 0 + 1 * k.val = k.val; omega)

/-- The part of a row's sum that a slice of 512 columns gives. -/
def mainSum (x0 : Vec Ideal S1x2048x1024 .bf16) (x1 x2 x3 : Vec Ideal S1x1x512x1024 .f32) (s : Fin 2048) (d : Fin 1024) : EReal :=
  ∑ f : Fin 512, gated (∑ k : Fin 1024, x0 (ix3 0 s k) * x1 (ix4 0 0 f k)) (∑ k : Fin 1024, x0 (ix3 0 s k) * x2 (ix4 0 0 f k))
    * x3 (ix4 0 0 f d)

/-- The part of a row's sum that the last slice gives. -/
def tailSum (x0 : Vec Ideal S1x2048x1024 .bf16) (x4 x5 x6 x7 x8 x9 x10 x11 x12 : Vec Ideal S1x1x64x1024 .f32) (s : Fin 2048)
    (d : Fin 1024) : EReal :=
  ∑ f : Fin 192, gated (∑ k : Fin 1024, x0 (ix3 0 s k) * stacked x4 x5 x6 f k) (∑ k : Fin 1024, x0 (ix3 0 s k) * stacked x7 x8 x9 f k)
    * stacked x10 x11 x12 f d

theorem mainPart_rows (o : ℕ) (inb : ∀ a : Fin 3, ![0, o, 0] a + ![1, 512, 1024] a ≤ S1x2048x1024.size a)
    (x0 : Vec Ideal S1x2048x1024 .bf16) (x1 x2 x3 : Vec Ideal S1x1x512x1024 .f32) (acc : Vec Ideal S512x1024 .f32)
    (s : Fin 2048) (r : Fin 512) (d : Fin 1024) (hs : s.val = o + r.val) :
    mainPart (k0_pay23 x1) (k0_pay24 x2) (k0_pay25 x3)
        (View.ld (Val := Elt Ideal) (e' := .bf16) x0 (Rect.unit (s := S1x2048x1024) ![0, o, 0] ![1, 512, 1024] inb)) acc (ix2 r d)
      = acc (ix2 r d) + mainSum x0 x1 x2 x3 s d := by
  rw [mainPart_apply]
  unfold mainSum
  simp only [slice1_apply, slice3_apply, slice2_apply]
  have hx : ∀ k, View.ld (Val := Elt Ideal) (e' := .bf16) x0 (Rect.unit (s := S1x2048x1024) ![0, o, 0] ![1, 512, 1024] inb) (ix3 0 r k)
      = x0 (ix3 0 s k) := fun k => congrArg x0 (place_input o inb s r k hs)
  simp only [hx]

theorem tailPart_rows (o : ℕ) (inb : ∀ a : Fin 3, ![0, o, 0] a + ![1, 512, 1024] a ≤ S1x2048x1024.size a)
    (x0 : Vec Ideal S1x2048x1024 .bf16) (x4 x5 x6 x7 x8 x9 x10 x11 x12 : Vec Ideal S1x1x64x1024 .f32) (acc : Vec Ideal S512x1024 .f32)
    (s : Fin 2048) (r : Fin 512) (d : Fin 1024) (hs : s.val = o + r.val) (hacc : acc (ix2 r d) = 0) :
    tailPart (k0_pay6 x4 x5 x6) (k0_pay7 x7 x8 x9) (k0_pay10 (k0_pay8 x10) (k0_pay9 x11) x12)
        (View.ld (Val := Elt Ideal) (e' := .bf16) x0 (Rect.unit (s := S1x2048x1024) ![0, o, 0] ![1, 512, 1024] inb)) acc (ix2 r d)
      = tailSum x0 x4 x5 x6 x7 x8 x9 x10 x11 x12 s d := by
  rw [tailPart_apply, hacc, zero_add]
  unfold tailSum
  simp only [last1_apply, last3_apply, last2_apply]
  have hx : ∀ k, View.ld (Val := Elt Ideal) (e' := .bf16) x0 (Rect.unit (s := S1x2048x1024) ![0, o, 0] ![1, 512, 1024] inb) (ix3 0 r k)
      = x0 (ix3 0 s k) := fun k => congrArg x0 (place_input o inb s r k hs)
  simp only [hx]

/-! ## A point that adds a slice -/

/-- The accumulator after a slice: four stores of 512 rows. -/
def mainScratch (x0 : Vec Ideal S1x2048x1024 .bf16) (x1 x2 x3 : Vec Ideal S1x1x512x1024 .f32) (xs0 : Vec Ideal S2048x1024 .f32) :
    Vec Ideal S2048x1024 .f32 :=
  View.canon (Val := Elt Ideal) (e := .f32)
    [⟨Rect.unit (s := S2048x1024) ![1536, 0] ![512, 1024] inb_S2048x1024_S512x1024_1536_0,
        mainPart (k0_pay23 x1) (k0_pay24 x2) (k0_pay25 x3)
          (View.ld (Val := Elt Ideal) (e' := .bf16) x0 (Rect.unit (s := S1x2048x1024) ![0, 1536, 0] ![1, 512, 1024] inb_S1x2048x1024_S1x512x1024_0_1536_0))
          (View.ld (Val := Elt Ideal) (e' := .f32) xs0 (Rect.unit (s := S2048x1024) ![1536, 0] ![512, 1024] inb_S2048x1024_S512x1024_1536_0))⟩,
      ⟨Rect.unit (s := S2048x1024) ![1024, 0] ![512, 1024] inb_S2048x1024_S512x1024_1024_0,
        mainPart (k0_pay23 x1) (k0_pay24 x2) (k0_pay25 x3)
          (View.ld (Val := Elt Ideal) (e' := .bf16) x0 (Rect.unit (s := S1x2048x1024) ![0, 1024, 0] ![1, 512, 1024] inb_S1x2048x1024_S1x512x1024_0_1024_0))
          (View.ld (Val := Elt Ideal) (e' := .f32) xs0 (Rect.unit (s := S2048x1024) ![1024, 0] ![512, 1024] inb_S2048x1024_S512x1024_1024_0))⟩,
      ⟨Rect.unit (s := S2048x1024) ![512, 0] ![512, 1024] inb_S2048x1024_S512x1024_512_0,
        mainPart (k0_pay23 x1) (k0_pay24 x2) (k0_pay25 x3)
          (View.ld (Val := Elt Ideal) (e' := .bf16) x0 (Rect.unit (s := S1x2048x1024) ![0, 512, 0] ![1, 512, 1024] inb_S1x2048x1024_S1x512x1024_0_512_0))
          (View.ld (Val := Elt Ideal) (e' := .f32) xs0 (Rect.unit (s := S2048x1024) ![512, 0] ![512, 1024] inb_S2048x1024_S512x1024_512_0))⟩,
      ⟨Rect.unit (s := S2048x1024) ![0, 0] ![512, 1024] inb_S2048x1024_S512x1024_0_0,
        mainPart (k0_pay23 x1) (k0_pay24 x2) (k0_pay25 x3)
          (View.ld (Val := Elt Ideal) (e' := .bf16) x0 (Rect.unit (s := S1x2048x1024) ![0, 0, 0] ![1, 512, 1024] inb_S1x2048x1024_S1x512x1024_0_0_0))
          (View.ld (Val := Elt Ideal) (e' := .f32) xs0 (Rect.unit (s := S2048x1024) ![0, 0] ![512, 1024] inb_S2048x1024_S512x1024_0_0))⟩]

theorem mainScratch_apply (x0 : Vec Ideal S1x2048x1024 .bf16) (x1 x2 x3 : Vec Ideal S1x1x512x1024 .f32) (xs0 : Vec Ideal S2048x1024 .f32)
    (s : Fin 2048) (d : Fin 1024) :
    mainScratch x0 x1 x2 x3 xs0 (ix2 s d) = xs0 (ix2 s d) + mainSum x0 x1 x2 x3 s d := by
  have hl : ∀ (o : ℕ) (inb : ∀ a : Fin 2, ![o, 0] a + ![512, 1024] a ≤ S2048x1024.size a) (r : Fin 512), s.val = o + r.val →
      View.ld (Val := Elt Ideal) (e' := .f32) xs0 (Rect.unit (s := S2048x1024) ![o, 0] ![512, 1024] inb) (ix2 r d) = xs0 (ix2 s d) :=
    fun o inb r hs => congrArg xs0 (place_rows o inb s r d hs)
  have hs := s.isLt
  unfold mainScratch
  by_cases h3 : 1536 ≤ s.val
  · have hr : s.val = 1536 + (⟨s.val - 1536, by omega⟩ : Fin 512).val := by show s.val = 1536 + (s.val - 1536); omega
    rw [canon_inside 1536 _ _ _ s _ d hr, mainPart_rows 1536 _ x0 x1 x2 x3 _ s _ d hr, hl 1536 _ _ hr]
  rw [canon_outside 1536 _ _ _ s d (by omega)]
  by_cases h2 : 1024 ≤ s.val
  · have hr : s.val = 1024 + (⟨s.val - 1024, by omega⟩ : Fin 512).val := by show s.val = 1024 + (s.val - 1024); omega
    rw [canon_inside 1024 _ _ _ s _ d hr, mainPart_rows 1024 _ x0 x1 x2 x3 _ s _ d hr, hl 1024 _ _ hr]
  rw [canon_outside 1024 _ _ _ s d (by omega)]
  by_cases h1 : 512 ≤ s.val
  · have hr : s.val = 512 + (⟨s.val - 512, by omega⟩ : Fin 512).val := by show s.val = 512 + (s.val - 512); omega
    rw [canon_inside 512 _ _ _ s _ d hr, mainPart_rows 512 _ x0 x1 x2 x3 _ s _ d hr, hl 512 _ _ hr]
  rw [canon_outside 512 _ _ _ s d (by omega)]
  have hr : s.val = 0 + (⟨s.val, by omega⟩ : Fin 512).val := by show s.val = 0 + s.val; omega
  rw [canon_inside 0 _ _ _ s _ d hr, mainPart_rows 0 _ x0 x1 x2 x3 _ s _ d hr, hl 0 _ _ hr]

/-! ## The first point of an expert -/

/-- The accumulator set to zero. -/
def zeroed : List (View.Piece (Elt Ideal) S2048x1024 .f32) :=
  [⟨Rect.unit (s := S2048x1024) ![0, 0] ![2048, 1024] inb_S2048x1024_S2048x1024_0_0, k0_pay5 (F := Ideal)⟩]

theorem zeroed_apply (s : Fin 2048) (d : Fin 1024) : View.canon (Val := Elt Ideal) (e := .f32) zeroed (ix2 s d) = 0 := by
  unfold zeroed
  rw [View.canon_unit_zero (by funext a; fin_cases a <;> rfl)]
  exact zero_apply s d

/-- … then the last slice's sums of rows 0 … 511 stored over it. -/
def tail1 (x0 : Vec Ideal S1x2048x1024 .bf16) (x4 x5 x6 x7 x8 x9 x10 x11 x12 : Vec Ideal S1x1x64x1024 .f32) :
    List (View.Piece (Elt Ideal) S2048x1024 .f32) :=
  ⟨Rect.unit (s := S2048x1024) ![0, 0] ![512, 1024] inb_S2048x1024_S512x1024_0_0,
    tailPart (k0_pay6 x4 x5 x6) (k0_pay7 x7 x8 x9) (k0_pay10 (k0_pay8 x10) (k0_pay9 x11) x12)
      (View.ld (Val := Elt Ideal) (e' := .bf16) x0 (Rect.unit (s := S1x2048x1024) ![0, 0, 0] ![1, 512, 1024] inb_S1x2048x1024_S1x512x1024_0_0_0))
      (fun j => View.canon (Val := Elt Ideal) (e := .f32) zeroed ((Rect.unit (s := S2048x1024) ![0, 0] ![512, 1024] inb_S2048x1024_S512x1024_0_0).idx j))⟩
    :: zeroed

/-- … then the last slice's sums of rows 512 … 1023 stored over it. -/
def tail2 (x0 : Vec Ideal S1x2048x1024 .bf16) (x4 x5 x6 x7 x8 x9 x10 x11 x12 : Vec Ideal S1x1x64x1024 .f32) :
    List (View.Piece (Elt Ideal) S2048x1024 .f32) :=
  ⟨Rect.unit (s := S2048x1024) ![512, 0] ![512, 1024] inb_S2048x1024_S512x1024_512_0,
    tailPart (k0_pay6 x4 x5 x6) (k0_pay7 x7 x8 x9) (k0_pay10 (k0_pay8 x10) (k0_pay9 x11) x12)
      (View.ld (Val := Elt Ideal) (e' := .bf16) x0 (Rect.unit (s := S1x2048x1024) ![0, 512, 0] ![1, 512, 1024] inb_S1x2048x1024_S1x512x1024_0_512_0))
      (fun j => View.canon (Val := Elt Ideal) (e := .f32) (tail1 x0 x4 x5 x6 x7 x8 x9 x10 x11 x12) ((Rect.unit (s := S2048x1024) ![512, 0] ![512, 1024] inb_S2048x1024_S512x1024_512_0).idx j))⟩
    :: (tail1 x0 x4 x5 x6 x7 x8 x9 x10 x11 x12)

/-- … then the last slice's sums of rows 1024 … 1535 stored over it. -/
def tail3 (x0 : Vec Ideal S1x2048x1024 .bf16) (x4 x5 x6 x7 x8 x9 x10 x11 x12 : Vec Ideal S1x1x64x1024 .f32) :
    List (View.Piece (Elt Ideal) S2048x1024 .f32) :=
  ⟨Rect.unit (s := S2048x1024) ![1024, 0] ![512, 1024] inb_S2048x1024_S512x1024_1024_0,
    tailPart (k0_pay6 x4 x5 x6) (k0_pay7 x7 x8 x9) (k0_pay10 (k0_pay8 x10) (k0_pay9 x11) x12)
      (View.ld (Val := Elt Ideal) (e' := .bf16) x0 (Rect.unit (s := S1x2048x1024) ![0, 1024, 0] ![1, 512, 1024] inb_S1x2048x1024_S1x512x1024_0_1024_0))
      (fun j => View.canon (Val := Elt Ideal) (e := .f32) (tail2 x0 x4 x5 x6 x7 x8 x9 x10 x11 x12) ((Rect.unit (s := S2048x1024) ![1024, 0] ![512, 1024] inb_S2048x1024_S512x1024_1024_0).idx j))⟩
    :: (tail2 x0 x4 x5 x6 x7 x8 x9 x10 x11 x12)

/-- … then the last slice's sums of rows 1536 … 2047 stored over it. -/
def tail4 (x0 : Vec Ideal S1x2048x1024 .bf16) (x4 x5 x6 x7 x8 x9 x10 x11 x12 : Vec Ideal S1x1x64x1024 .f32) :
    List (View.Piece (Elt Ideal) S2048x1024 .f32) :=
  ⟨Rect.unit (s := S2048x1024) ![1536, 0] ![512, 1024] inb_S2048x1024_S512x1024_1536_0,
    tailPart (k0_pay6 x4 x5 x6) (k0_pay7 x7 x8 x9) (k0_pay10 (k0_pay8 x10) (k0_pay9 x11) x12)
      (View.ld (Val := Elt Ideal) (e' := .bf16) x0 (Rect.unit (s := S1x2048x1024) ![0, 1536, 0] ![1, 512, 1024] inb_S1x2048x1024_S1x512x1024_0_1536_0))
      (fun j => View.canon (Val := Elt Ideal) (e := .f32) (tail3 x0 x4 x5 x6 x7 x8 x9 x10 x11 x12) ((Rect.unit (s := S2048x1024) ![1536, 0] ![512, 1024] inb_S2048x1024_S512x1024_1536_0).idx j))⟩
    :: (tail3 x0 x4 x5 x6 x7 x8 x9 x10 x11 x12)

theorem below1 (x0 : Vec Ideal S1x2048x1024 .bf16) (x4 x5 x6 x7 x8 x9 x10 x11 x12 : Vec Ideal S1x1x64x1024 .f32)
    (s : Fin 2048) (d : Fin 1024) (hs : 512 ≤ s.val) :
    View.canon (Val := Elt Ideal) (e := .f32) (tail1 x0 x4 x5 x6 x7 x8 x9 x10 x11 x12) (ix2 s d) = 0 :=
  (canon_outside 0 _ _ _ s d (by omega)).trans (zeroed_apply s d)

theorem below2 (x0 : Vec Ideal S1x2048x1024 .bf16) (x4 x5 x6 x7 x8 x9 x10 x11 x12 : Vec Ideal S1x1x64x1024 .f32)
    (s : Fin 2048) (d : Fin 1024) (hs : 1024 ≤ s.val) :
    View.canon (Val := Elt Ideal) (e := .f32) (tail2 x0 x4 x5 x6 x7 x8 x9 x10 x11 x12) (ix2 s d) = 0 :=
  (canon_outside 512 _ _ _ s d (by omega)).trans (below1 _ _ _ _ _ _ _ _ _ _ s d (by omega))

theorem below3 (x0 : Vec Ideal S1x2048x1024 .bf16) (x4 x5 x6 x7 x8 x9 x10 x11 x12 : Vec Ideal S1x1x64x1024 .f32)
    (s : Fin 2048) (d : Fin 1024) (hs : 1536 ≤ s.val) :
    View.canon (Val := Elt Ideal) (e := .f32) (tail3 x0 x4 x5 x6 x7 x8 x9 x10 x11 x12) (ix2 s d) = 0 :=
  (canon_outside 1024 _ _ _ s d (by omega)).trans (below2 _ _ _ _ _ _ _ _ _ _ s d (by omega))

theorem tailScratch_apply (x0 : Vec Ideal S1x2048x1024 .bf16) (x4 x5 x6 x7 x8 x9 x10 x11 x12 : Vec Ideal S1x1x64x1024 .f32)
    (s : Fin 2048) (d : Fin 1024) :
    View.canon (Val := Elt Ideal) (e := .f32) (tail4 x0 x4 x5 x6 x7 x8 x9 x10 x11 x12) (ix2 s d)
      = tailSum x0 x4 x5 x6 x7 x8 x9 x10 x11 x12 s d := by
  have hs := s.isLt
  by_cases h3 : 1536 ≤ s.val
  · have hr : s.val = 1536 + (⟨s.val - 1536, by omega⟩ : Fin 512).val := by show s.val = 1536 + (s.val - 1536); omega
    exact (canon_inside 1536 _ _ _ s _ d hr).trans (tailPart_rows 1536 _ _ _ _ _ _ _ _ _ _ _ _ s _ d hr
      ((congrArg _ (place_rows 1536 _ s _ d hr)).trans (below3 _ _ _ _ _ _ _ _ _ _ s d h3)))
  refine (canon_outside 1536 _ _ _ s d (by omega)).trans ?_
  by_cases h2 : 1024 ≤ s.val
  · have hr : s.val = 1024 + (⟨s.val - 1024, by omega⟩ : Fin 512).val := by show s.val = 1024 + (s.val - 1024); omega
    exact (canon_inside 1024 _ _ _ s _ d hr).trans (tailPart_rows 1024 _ _ _ _ _ _ _ _ _ _ _ _ s _ d hr
      ((congrArg _ (place_rows 1024 _ s _ d hr)).trans (below2 _ _ _ _ _ _ _ _ _ _ s d h2)))
  refine (canon_outside 1024 _ _ _ s d (by omega)).trans ?_
  by_cases h1 : 512 ≤ s.val
  · have hr : s.val = 512 + (⟨s.val - 512, by omega⟩ : Fin 512).val := by show s.val = 512 + (s.val - 512); omega
    exact (canon_inside 512 _ _ _ s _ d hr).trans (tailPart_rows 512 _ _ _ _ _ _ _ _ _ _ _ _ s _ d hr
      ((congrArg _ (place_rows 512 _ s _ d hr)).trans (below1 _ _ _ _ _ _ _ _ _ _ s d h1)))
  refine (canon_outside 512 _ _ _ s d (by omega)).trans ?_
  have hr : s.val = 0 + (⟨s.val, by omega⟩ : Fin 512).val := by show s.val = 0 + s.val; omega
  exact (canon_inside 0 _ _ _ s _ d hr).trans (tailPart_rows 0 _ _ _ _ _ _ _ _ _ _ _ _ s _ d hr
    ((congrArg _ (place_rows 0 _ s _ d hr)).trans (zeroed_apply s d)))

/-- The accumulator after the first point of an expert. -/
theorem first_apply (c : Dev nD) (i : grid0.Coords) (arg2 : Memref sig .tc .vmem S1x2048x1024 .bf16) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x1x512x1024 .f32) (harg5 : arg5.IsWhole) (arg6 : Memref sig .tc .vmem S1x1x64x1024 .f32) (harg6 : arg6.IsWhole) (arg7 : Memref sig .tc .vmem S1x1x64x1024 .f32) (harg7 : arg7.IsWhole) (arg8 : Memref sig .tc .vmem S1x1x64x1024 .f32) (harg8 : arg8.IsWhole) (arg9 : Memref sig .tc .vmem S1x1x64x1024 .f32) (harg9 : arg9.IsWhole) (arg10 : Memref sig .tc .vmem S1x1x64x1024 .f32) (harg10 : arg10.IsWhole) (arg11 : Memref sig .tc .vmem S1x1x64x1024 .f32) (harg11 : arg11.IsWhole) (arg12 : Memref sig .tc .vmem S1x1x64x1024 .f32) (harg12 : arg12.IsWhole) (arg13 : Memref sig .tc .vmem S1x1x64x1024 .f32) (harg13 : arg13.IsWhole) (arg14 : Memref sig .tc .vmem S1x1x64x1024 .f32) (harg14 : arg14.IsWhole) (arg15 : Memref sig .tc .vmem S1x2048x1 .f32) (harg15 : arg15.IsWhole) (arg16 : Memref sig .tc .vmem S1x2048x1024 .bf16) (harg16 : arg16.IsWhole) (arg17 : Memref sig .tc .vmem S2048x1024 .f32) (harg17 : arg17.IsWhole) (hc0 : cond0_0 i) (hc1 : ¬cond0_1 i) (hc2 : ¬cond0_2 i)
    (x0 : Vec Ideal S1x2048x1024 .bf16) (x1 : Vec Ideal S1x1x512x1024 .f32) (x2 : Vec Ideal S1x1x512x1024 .f32) (x3 : Vec Ideal S1x1x512x1024 .f32) (x4 : Vec Ideal S1x1x64x1024 .f32) (x5 : Vec Ideal S1x1x64x1024 .f32) (x6 : Vec Ideal S1x1x64x1024 .f32) (x7 : Vec Ideal S1x1x64x1024 .f32) (x8 : Vec Ideal S1x1x64x1024 .f32) (x9 : Vec Ideal S1x1x64x1024 .f32) (x10 : Vec Ideal S1x1x64x1024 .f32) (x11 : Vec Ideal S1x1x64x1024 .f32) (x12 : Vec Ideal S1x1x64x1024 .f32) (x13 : Vec Ideal S1x2048x1 .f32) (s : Fin 2048) (d : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 (ix2 s d)
      = tailSum x0 x4 x5 x6 x7 x8 x9 x10 x11 x12 s d := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13)]
  unfold kernelRun0_A
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rw [View.ld_unit_zero (S := S1x1x64x1024) (by decide), View.ld_unit_zero (S := S1x1x64x1024) (by decide), View.ld_unit_zero (S := S1x1x64x1024) (by decide), View.ld_unit_zero (S := S1x1x64x1024) (by decide), View.ld_unit_zero (S := S1x1x64x1024) (by decide), View.ld_unit_zero (S := S1x1x64x1024) (by decide), View.ld_unit_zero (S := S1x1x64x1024) (by decide), View.ld_unit_zero (S := S1x1x64x1024) (by decide), View.ld_unit_zero (S := S1x1x64x1024) (by decide)]
  rw [tail0_eq, tail1_eq, tail2_eq, tail3_eq]
  exact tailScratch_apply x0 x4 x5 x6 x7 x8 x9 x10 x11 x12 s d

/-- The accumulator after a further point. -/
theorem next_apply (c : Dev nD) (i : grid0.Coords) (arg2 : Memref sig .tc .vmem S1x2048x1024 .bf16) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x1x512x1024 .f32) (harg5 : arg5.IsWhole) (arg6 : Memref sig .tc .vmem S1x1x64x1024 .f32) (harg6 : arg6.IsWhole) (arg7 : Memref sig .tc .vmem S1x1x64x1024 .f32) (harg7 : arg7.IsWhole) (arg8 : Memref sig .tc .vmem S1x1x64x1024 .f32) (harg8 : arg8.IsWhole) (arg9 : Memref sig .tc .vmem S1x1x64x1024 .f32) (harg9 : arg9.IsWhole) (arg10 : Memref sig .tc .vmem S1x1x64x1024 .f32) (harg10 : arg10.IsWhole) (arg11 : Memref sig .tc .vmem S1x1x64x1024 .f32) (harg11 : arg11.IsWhole) (arg12 : Memref sig .tc .vmem S1x1x64x1024 .f32) (harg12 : arg12.IsWhole) (arg13 : Memref sig .tc .vmem S1x1x64x1024 .f32) (harg13 : arg13.IsWhole) (arg14 : Memref sig .tc .vmem S1x1x64x1024 .f32) (harg14 : arg14.IsWhole) (arg15 : Memref sig .tc .vmem S1x2048x1 .f32) (harg15 : arg15.IsWhole) (arg16 : Memref sig .tc .vmem S1x2048x1024 .bf16) (harg16 : arg16.IsWhole) (arg17 : Memref sig .tc .vmem S2048x1024 .f32) (harg17 : arg17.IsWhole) (hc0 : ¬cond0_0 i) (hc1 : cond0_1 i) (hc2 : ¬cond0_2 i)
    (x0 : Vec Ideal S1x2048x1024 .bf16) (x1 : Vec Ideal S1x1x512x1024 .f32) (x2 : Vec Ideal S1x1x512x1024 .f32) (x3 : Vec Ideal S1x1x512x1024 .f32) (x4 : Vec Ideal S1x1x64x1024 .f32) (x5 : Vec Ideal S1x1x64x1024 .f32) (x6 : Vec Ideal S1x1x64x1024 .f32) (x7 : Vec Ideal S1x1x64x1024 .f32) (x8 : Vec Ideal S1x1x64x1024 .f32) (x9 : Vec Ideal S1x1x64x1024 .f32) (x10 : Vec Ideal S1x1x64x1024 .f32) (x11 : Vec Ideal S1x1x64x1024 .f32) (x12 : Vec Ideal S1x1x64x1024 .f32) (x13 : Vec Ideal S1x2048x1 .f32) (xs0 : Vec Ideal S2048x1024 .f32) (s : Fin 2048) (d : Fin 1024) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0 (ix2 s d)
      = xs0 (ix2 s d) + mainSum x0 x1 x2 x3 s d := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0)]
  unfold kernelRun0_B
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rw [View.ld_unit_zero (S := S1x1x512x1024) (by decide), View.ld_unit_zero (S := S1x1x512x1024) (by decide), View.ld_unit_zero (S := S1x1x512x1024) (by decide)]
  rw [main3_eq, main2_eq, main1_eq, main0_eq]
  exact mainScratch_apply x0 x1 x2 x3 xs0 s d

/-- The accumulator after the last point of an expert. -/
theorem last_apply (c : Dev nD) (i : grid0.Coords) (arg2 : Memref sig .tc .vmem S1x2048x1024 .bf16) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x1x512x1024 .f32) (harg5 : arg5.IsWhole) (arg6 : Memref sig .tc .vmem S1x1x64x1024 .f32) (harg6 : arg6.IsWhole) (arg7 : Memref sig .tc .vmem S1x1x64x1024 .f32) (harg7 : arg7.IsWhole) (arg8 : Memref sig .tc .vmem S1x1x64x1024 .f32) (harg8 : arg8.IsWhole) (arg9 : Memref sig .tc .vmem S1x1x64x1024 .f32) (harg9 : arg9.IsWhole) (arg10 : Memref sig .tc .vmem S1x1x64x1024 .f32) (harg10 : arg10.IsWhole) (arg11 : Memref sig .tc .vmem S1x1x64x1024 .f32) (harg11 : arg11.IsWhole) (arg12 : Memref sig .tc .vmem S1x1x64x1024 .f32) (harg12 : arg12.IsWhole) (arg13 : Memref sig .tc .vmem S1x1x64x1024 .f32) (harg13 : arg13.IsWhole) (arg14 : Memref sig .tc .vmem S1x1x64x1024 .f32) (harg14 : arg14.IsWhole) (arg15 : Memref sig .tc .vmem S1x2048x1 .f32) (harg15 : arg15.IsWhole) (arg16 : Memref sig .tc .vmem S1x2048x1024 .bf16) (harg16 : arg16.IsWhole) (arg17 : Memref sig .tc .vmem S2048x1024 .f32) (harg17 : arg17.IsWhole) (hc0 : ¬cond0_0 i) (hc1 : cond0_1 i) (hc2 : cond0_2 i)
    (x0 : Vec Ideal S1x2048x1024 .bf16) (x1 : Vec Ideal S1x1x512x1024 .f32) (x2 : Vec Ideal S1x1x512x1024 .f32) (x3 : Vec Ideal S1x1x512x1024 .f32) (x4 : Vec Ideal S1x1x64x1024 .f32) (x5 : Vec Ideal S1x1x64x1024 .f32) (x6 : Vec Ideal S1x1x64x1024 .f32) (x7 : Vec Ideal S1x1x64x1024 .f32) (x8 : Vec Ideal S1x1x64x1024 .f32) (x9 : Vec Ideal S1x1x64x1024 .f32) (x10 : Vec Ideal S1x1x64x1024 .f32) (x11 : Vec Ideal S1x1x64x1024 .f32) (x12 : Vec Ideal S1x1x64x1024 .f32) (x13 : Vec Ideal S1x2048x1 .f32) (xs0 : Vec Ideal S2048x1024 .f32) (s : Fin 2048) (d : Fin 1024) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0 (ix2 s d)
      = xs0 (ix2 s d) + mainSum x0 x1 x2 x3 s d := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0)]
  unfold kernelRun0_C
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rw [View.ld_unit_zero (S := S1x1x512x1024) (by decide), View.ld_unit_zero (S := S1x1x512x1024) (by decide), View.ld_unit_zero (S := S1x1x512x1024) (by decide)]
  rw [main3_eq, main2_eq, main1_eq, main0_eq]
  exact mainScratch_apply x0 x1 x2 x3 xs0 s d

/-- The output block after the last point of an expert. -/
theorem block_apply (c : Dev nD) (i : grid0.Coords) (arg2 : Memref sig .tc .vmem S1x2048x1024 .bf16) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x1x512x1024 .f32) (harg5 : arg5.IsWhole) (arg6 : Memref sig .tc .vmem S1x1x64x1024 .f32) (harg6 : arg6.IsWhole) (arg7 : Memref sig .tc .vmem S1x1x64x1024 .f32) (harg7 : arg7.IsWhole) (arg8 : Memref sig .tc .vmem S1x1x64x1024 .f32) (harg8 : arg8.IsWhole) (arg9 : Memref sig .tc .vmem S1x1x64x1024 .f32) (harg9 : arg9.IsWhole) (arg10 : Memref sig .tc .vmem S1x1x64x1024 .f32) (harg10 : arg10.IsWhole) (arg11 : Memref sig .tc .vmem S1x1x64x1024 .f32) (harg11 : arg11.IsWhole) (arg12 : Memref sig .tc .vmem S1x1x64x1024 .f32) (harg12 : arg12.IsWhole) (arg13 : Memref sig .tc .vmem S1x1x64x1024 .f32) (harg13 : arg13.IsWhole) (arg14 : Memref sig .tc .vmem S1x1x64x1024 .f32) (harg14 : arg14.IsWhole) (arg15 : Memref sig .tc .vmem S1x2048x1 .f32) (harg15 : arg15.IsWhole) (arg16 : Memref sig .tc .vmem S1x2048x1024 .bf16) (harg16 : arg16.IsWhole) (arg17 : Memref sig .tc .vmem S2048x1024 .f32) (harg17 : arg17.IsWhole) (hc0 : ¬cond0_0 i) (hc1 : cond0_1 i) (hc2 : cond0_2 i)
    (x0 : Vec Ideal S1x2048x1024 .bf16) (x1 : Vec Ideal S1x1x512x1024 .f32) (x2 : Vec Ideal S1x1x512x1024 .f32) (x3 : Vec Ideal S1x1x512x1024 .f32) (x4 : Vec Ideal S1x1x64x1024 .f32) (x5 : Vec Ideal S1x1x64x1024 .f32) (x6 : Vec Ideal S1x1x64x1024 .f32) (x7 : Vec Ideal S1x1x64x1024 .f32) (x8 : Vec Ideal S1x1x64x1024 .f32) (x9 : Vec Ideal S1x1x64x1024 .f32) (x10 : Vec Ideal S1x1x64x1024 .f32) (x11 : Vec Ideal S1x1x64x1024 .f32) (x12 : Vec Ideal S1x1x64x1024 .f32) (x13 : Vec Ideal S1x2048x1 .f32) (xs0 : Vec Ideal S2048x1024 .f32) (s : Fin 2048) (d : Fin 1024) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0 (ix3 0 s d)
      = (xs0 (ix2 s d) + mainSum x0 x1 x2 x3 s d) * x13 (ix3 0 s 0) := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0)]
  unfold kernelRun0_C
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rw [View.ld_unit_zero (S := S1x1x512x1024) (by decide), View.ld_unit_zero (S := S1x1x512x1024) (by decide), View.ld_unit_zero (S := S1x1x512x1024) (by decide)]
  rw [View.ld_unit_zero (S := S1x2048x1) (by decide), View.canon_unit_zero (by decide)]
  rw [main3_eq, main2_eq, main1_eq, main0_eq, gate_apply]
  refine congrArg (· * x13 (ix3 0 s 0)) (Eq.trans (congrArg _ ?_) (mainScratch_apply x0 x1 x2 x3 xs0 s d))
  funext a
  fin_cases a
  · exact Fin.ext (by show 0 + 1 * s.val = s.val; omega)
  · exact Fin.ext (by show 0 + 1 * d.val = d.val; omega)

end Cert.Kernel2Ideal.ExpertsBlock

end
-- ==== Proof.Experts.Slices.lean ====
/- The blocks one grid point of the experts' kernel reads, as entries of the argument arrays: the expert's rows, a slice
   of 512 columns of the weights, the last slice in three pieces of 64, and the gates. -/
module

public import proofs.«01_k».proof.Proof.Experts.Block
public import Idealize.ShloMosaic.Lib.Pipeline.ValueKit.Point

@[expose] public section

set_option maxRecDepth 16384

noncomputable section

namespace Cert.Kernel2Ideal.ExpertsBlock

open Cert.Kernel2Ideal Cert.Kernel2Ideal.Gen Idealize.ShloMosaic Idealize.ShloMosaic.TcCoe Idealize.SL.Sem
open Idealize.ShloMosaic.Tactic Cert.Experts

variable (m : (ℓ : Loc nD τ sig) → Buf (Elt Ideal) ℓ)

/-- Column `512·j + f` of the hidden layer. -/
def mainCol (j : Fin 5) (f : Fin 512) : Fin 2752 := ⟨512 * j.val + f.val, by omega⟩

/-- Column `2560 + f` of the hidden layer, in the last slice. -/
def tailCol (f : Fin 192) : Fin 2752 := ⟨2560 + f.val, by omega⟩

/-- Column `2560 + 64·p + f` of the hidden layer. -/
def pieceCol (p : Fin 3) (f : Fin 64) : Fin 2752 := ⟨2560 + 64 * p.val + f.val, by omega⟩

/-- The expert of a point. -/
def expertOf (t : Fin cfg0.N) : Fin 16 := ⟨t.val / 6, by have : t.val < 96 := lt_of_lt_of_eq t.isLt N_0; omega⟩

/-- Blocks of 64 rows of the three pieces, stacked, are the columns of the last slice. -/
theorem stacked_eq (y0 y1 y2 : Vec Ideal S1x1x64x1024 .f32) (g : Fin 2752 → Fin 1024 → EReal)
    (h0 : ∀ f k, y0 (ix4 0 0 f k) = g (pieceCol 0 f) k) (h1 : ∀ f k, y1 (ix4 0 0 f k) = g (pieceCol 1 f) k)
    (h2 : ∀ f k, y2 (ix4 0 0 f k) = g (pieceCol 2 f) k) (f : Fin 192) (k : Fin 1024) :
    stacked y0 y1 y2 f k = g (tailCol f) k := by
  unfold stacked
  split_ifs with c0 c1
  · rw [h0]; exact congrArg (fun a => g a k) (Fin.ext (by simp only [pieceCol, tailCol, Fin.val_zero]))
  · rw [h1]; exact congrArg (fun a => g a k) (Fin.ext (by simp only [pieceCol, tailCol, Fin.val_one]; omega))
  · rw [h2]; exact congrArg (fun a => g a k) (Fin.ext (by simp only [pieceCol, tailCol, Fin.val_two]; omega))

theorem idx0 : ∀ t : Fin cfg0.N, win0_0.index t = ![t.val / 6, 0, 0] := (by decide +kernel : ∀ t : Fin grid0.N, win0_0.index t = ![t.val / 6, 0, 0])
theorem idx1 : ∀ t : Fin cfg0.N, 1 ≤ t.val % 6 → win0_1.index t = ![0, t.val / 6, t.val % 6 - 1, 0] :=
  (by decide +kernel : ∀ t : Fin grid0.N, 1 ≤ t.val % 6 → win0_1.index t = ![0, t.val / 6, t.val % 6 - 1, 0])
theorem idx2 : ∀ t : Fin cfg0.N, 1 ≤ t.val % 6 → win0_2.index t = ![0, t.val / 6, t.val % 6 - 1, 0] :=
  (by decide +kernel : ∀ t : Fin grid0.N, 1 ≤ t.val % 6 → win0_2.index t = ![0, t.val / 6, t.val % 6 - 1, 0])
theorem idx3 : ∀ t : Fin cfg0.N, 1 ≤ t.val % 6 → win0_3.index t = ![0, t.val / 6, t.val % 6 - 1, 0] :=
  (by decide +kernel : ∀ t : Fin grid0.N, 1 ≤ t.val % 6 → win0_3.index t = ![0, t.val / 6, t.val % 6 - 1, 0])
theorem idx4 : ∀ t : Fin cfg0.N, win0_4.index t = ![0, t.val / 6, 40, 0] := (by decide +kernel : ∀ t : Fin grid0.N, win0_4.index t = ![0, t.val / 6, 40, 0])
theorem idx5 : ∀ t : Fin cfg0.N, win0_5.index t = ![0, t.val / 6, 41, 0] := (by decide +kernel : ∀ t : Fin grid0.N, win0_5.index t = ![0, t.val / 6, 41, 0])
theorem idx6 : ∀ t : Fin cfg0.N, win0_6.index t = ![0, t.val / 6, 42, 0] := (by decide +kernel : ∀ t : Fin grid0.N, win0_6.index t = ![0, t.val / 6, 42, 0])
theorem idx7 : ∀ t : Fin cfg0.N, win0_7.index t = ![0, t.val / 6, 40, 0] := (by decide +kernel : ∀ t : Fin grid0.N, win0_7.index t = ![0, t.val / 6, 40, 0])
theorem idx8 : ∀ t : Fin cfg0.N, win0_8.index t = ![0, t.val / 6, 41, 0] := (by decide +kernel : ∀ t : Fin grid0.N, win0_8.index t = ![0, t.val / 6, 41, 0])
theorem idx9 : ∀ t : Fin cfg0.N, win0_9.index t = ![0, t.val / 6, 42, 0] := (by decide +kernel : ∀ t : Fin grid0.N, win0_9.index t = ![0, t.val / 6, 42, 0])
theorem idx10 : ∀ t : Fin cfg0.N, win0_10.index t = ![0, t.val / 6, 40, 0] := (by decide +kernel : ∀ t : Fin grid0.N, win0_10.index t = ![0, t.val / 6, 40, 0])
theorem idx11 : ∀ t : Fin cfg0.N, win0_11.index t = ![0, t.val / 6, 41, 0] := (by decide +kernel : ∀ t : Fin grid0.N, win0_11.index t = ![0, t.val / 6, 41, 0])
theorem idx12 : ∀ t : Fin cfg0.N, win0_12.index t = ![0, t.val / 6, 42, 0] := (by decide +kernel : ∀ t : Fin grid0.N, win0_12.index t = ![0, t.val / 6, 42, 0])
theorem idx13 : ∀ t : Fin cfg0.N, win0_13.index t = ![t.val / 6, 0, 0] := (by decide +kernel : ∀ t : Fin grid0.N, win0_13.index t = ![t.val / 6, 0, 0])
theorem idx14 : ∀ t : Fin cfg0.N, win0_14.index t = ![t.val / 6, 0, 0] := (by decide +kernel : ∀ t : Fin grid0.N, win0_14.index t = ![t.val / 6, 0, 0])

theorem rows_apply (c : Dev nD) (t : Fin cfg0.N) (s : Fin 2048) (k : Fin 1024) :
    iblk m c 0 t (ix3 0 s k) = m ((c : Thread nD τ).loc main_arg0) (ix3 (expertOf t) s k) := by
  blk_ext! [iblk, V, idx0 t] <;> simp only [expertOf] <;> omega

theorem gates_apply (c : Dev nD) (t : Fin cfg0.N) (s : Fin 2048) :
    iblk m c 13 t (ix3 0 s 0) = m ((c : Thread nD τ).loc main_arg4) (ix3 (expertOf t) s 0) := by
  blk_ext! [iblk, V, idx13 t] <;> simp only [expertOf] <;> omega

theorem slice1_main (c : Dev nD) (t : Fin cfg0.N) (j : Fin 5) (hj : t.val % 6 = j.val + 1) (f : Fin 512) (k : Fin 1024) :
    X0_1 m c t (ix4 0 0 f k) = m ((c : Thread nD τ).loc main_arg1) (ix4 0 (expertOf t) k (mainCol j f)) := by
  unfold X0_1 Pipeline.Window.fill
  rw [dif_pos (moved0_1 t _)]
  blk_ext! [iblk, V, idx1 t (by omega)] <;> simp only [expertOf, mainCol] <;> omega

theorem slice2_main (c : Dev nD) (t : Fin cfg0.N) (j : Fin 5) (hj : t.val % 6 = j.val + 1) (f : Fin 512) (k : Fin 1024) :
    X0_2 m c t (ix4 0 0 f k) = m ((c : Thread nD τ).loc main_arg2) (ix4 0 (expertOf t) k (mainCol j f)) := by
  unfold X0_2 Pipeline.Window.fill
  rw [dif_pos (moved0_2 t _)]
  blk_ext! [iblk, V, idx2 t (by omega)] <;> simp only [expertOf, mainCol] <;> omega

theorem slice3_main (c : Dev nD) (t : Fin cfg0.N) (j : Fin 5) (hj : t.val % 6 = j.val + 1) (f : Fin 512) (k : Fin 1024) :
    X0_3 m c t (ix4 0 0 f k) = m ((c : Thread nD τ).loc main_arg3) (ix4 0 (expertOf t) (mainCol j f) k) := by
  unfold X0_3 Pipeline.Window.fill
  rw [dif_pos (moved0_3 t _)]
  blk_ext! [iblk, V, idx3 t (by omega)] <;> simp only [expertOf, mainCol] <;> omega

theorem piece4_apply (c : Dev nD) (t : Fin cfg0.N) (f : Fin 64) (k : Fin 1024) :
    iblk m c 4 t (ix4 0 0 f k) = m ((c : Thread nD τ).loc main_arg1) (ix4 0 (expertOf t) k (pieceCol 0 f)) := by
  blk_ext! [iblk, V, idx4 t] <;> simp only [expertOf, pieceCol] <;> omega

theorem piece5_apply (c : Dev nD) (t : Fin cfg0.N) (f : Fin 64) (k : Fin 1024) :
    iblk m c 5 t (ix4 0 0 f k) = m ((c : Thread nD τ).loc main_arg1) (ix4 0 (expertOf t) k (pieceCol 1 f)) := by
  blk_ext! [iblk, V, idx5 t] <;> simp only [expertOf, pieceCol] <;> omega

theorem piece6_apply (c : Dev nD) (t : Fin cfg0.N) (f : Fin 64) (k : Fin 1024) :
    iblk m c 6 t (ix4 0 0 f k) = m ((c : Thread nD τ).loc main_arg1) (ix4 0 (expertOf t) k (pieceCol 2 f)) := by
  blk_ext! [iblk, V, idx6 t] <;> simp only [expertOf, pieceCol] <;> omega

theorem piece7_apply (c : Dev nD) (t : Fin cfg0.N) (f : Fin 64) (k : Fin 1024) :
    iblk m c 7 t (ix4 0 0 f k) = m ((c : Thread nD τ).loc main_arg2) (ix4 0 (expertOf t) k (pieceCol 0 f)) := by
  blk_ext! [iblk, V, idx7 t] <;> simp only [expertOf, pieceCol] <;> omega

theorem piece8_apply (c : Dev nD) (t : Fin cfg0.N) (f : Fin 64) (k : Fin 1024) :
    iblk m c 8 t (ix4 0 0 f k) = m ((c : Thread nD τ).loc main_arg2) (ix4 0 (expertOf t) k (pieceCol 1 f)) := by
  blk_ext! [iblk, V, idx8 t] <;> simp only [expertOf, pieceCol] <;> omega

theorem piece9_apply (c : Dev nD) (t : Fin cfg0.N) (f : Fin 64) (k : Fin 1024) :
    iblk m c 9 t (ix4 0 0 f k) = m ((c : Thread nD τ).loc main_arg2) (ix4 0 (expertOf t) k (pieceCol 2 f)) := by
  blk_ext! [iblk, V, idx9 t] <;> simp only [expertOf, pieceCol] <;> omega

theorem piece10_apply (c : Dev nD) (t : Fin cfg0.N) (f : Fin 64) (k : Fin 1024) :
    iblk m c 10 t (ix4 0 0 f k) = m ((c : Thread nD τ).loc main_arg3) (ix4 0 (expertOf t) (pieceCol 0 f) k) := by
  blk_ext! [iblk, V, idx10 t] <;> simp only [expertOf, pieceCol] <;> omega

theorem piece11_apply (c : Dev nD) (t : Fin cfg0.N) (f : Fin 64) (k : Fin 1024) :
    iblk m c 11 t (ix4 0 0 f k) = m ((c : Thread nD τ).loc main_arg3) (ix4 0 (expertOf t) (pieceCol 1 f) k) := by
  blk_ext! [iblk, V, idx11 t] <;> simp only [expertOf, pieceCol] <;> omega

theorem piece12_apply (c : Dev nD) (t : Fin cfg0.N) (f : Fin 64) (k : Fin 1024) :
    iblk m c 12 t (ix4 0 0 f k) = m ((c : Thread nD τ).loc main_arg3) (ix4 0 (expertOf t) (pieceCol 2 f) k) := by
  blk_ext! [iblk, V, idx12 t] <;> simp only [expertOf, pieceCol] <;> omega

end Cert.Kernel2Ideal.ExpertsBlock

end
-- ==== Proof.Experts.Array.lean ====
/- The experts' result array: every row of every expert is the sum over the whole hidden layer, times the row's gate. -/
module

public import proofs.«01_k».proof.Proof.Experts.Slices

@[expose] public section

set_option maxRecDepth 16384

noncomputable section

namespace Cert.Kernel2Ideal.ExpertsBlock

open Cert.Kernel2Ideal Cert.Kernel2Ideal.Gen Idealize.ShloMosaic Idealize.ShloMosaic.TcCoe Idealize.SL.Sem
open Idealize.ShloMosaic.Tactic Cert.Experts

/-! ## The sum over the hidden layer -/

/-- What column `f` of the hidden layer of expert `e` gives to entry `d` of row `s`. -/
def column (x : Vec Ideal S16x2048x1024 .bf16) (w1 w3 : Vec Ideal S2x16x1024x2752 .f32) (w2 : Vec Ideal S2x16x2752x1024 .f32)
    (e : Fin 16) (s : Fin 2048) (d : Fin 1024) (f : Fin 2752) : EReal :=
  gated (∑ k : Fin 1024, x (ix3 e s k) * w1 (ix4 0 e k f)) (∑ k : Fin 1024, x (ix3 e s k) * w3 (ix4 0 e k f)) * w2 (ix4 0 e f d)

/-- The result array. -/
def result (x : Vec Ideal S16x2048x1024 .bf16) (w1 w3 : Vec Ideal S2x16x1024x2752 .f32) (w2 : Vec Ideal S2x16x2752x1024 .f32)
    (g : Vec Ideal S16x2048x1 .f32) : Vec Ideal S16x2048x1024 .bf16 :=
  fun i => (∑ f : Fin 2752, column x w1 w3 w2 (i 0) (i 1) (i 2) f) * g (ix3 (i 0) (i 1) 0)

/-- Slice `j` of a sum over the hidden layer (nothing from the fifth on). -/
def sliceSum (g : Fin 2752 → EReal) (j : ℕ) : EReal :=
  if h : j < 5 then ∑ f : Fin 512, g (mainCol ⟨j, h⟩ f) else 0

/-- The last slice of a sum over the hidden layer. -/
def lastSum (g : Fin 2752 → EReal) : EReal := ∑ f : Fin 192, g (tailCol f)

/-- The last slice first, then the five others: the whole sum. -/
theorem sum_slices (g : Fin 2752 → EReal) : lastSum g + ∑ j ∈ Finset.range 5, sliceSum g j = ∑ f, g f := by
  have h1 : (∑ f, g f) = ∑ f : Fin (2560 + 192), g f := rfl
  have h2 : (∑ j ∈ Finset.range 5, sliceSum g j) = ∑ j : Fin 5, ∑ f : Fin 512, g (mainCol j f) := by
    rw [← Fin.sum_univ_eq_sum_range]
    exact Finset.sum_congr rfl fun j _ => dif_pos j.isLt
  have h3 : (∑ j : Fin 5, ∑ f : Fin 512, g (mainCol j f)) = ∑ i : Fin 2560, g (Fin.castAdd 192 i) := by
    rw [← Fintype.sum_prod_type']
    refine Fintype.sum_equiv (finProdFinEquiv (m := 5) (n := 512)) _ _ fun p => congrArg g (Fin.ext ?_)
    show 512 * p.1.val + p.2.val = p.2.val + 512 * p.1.val
    omega
  rw [h1, Fin.sum_univ_add, h2, h3, add_comm]
  rfl

/-! ## The accumulator along the points of an expert -/

variable (m : (ℓ : Loc nD τ sig) → Buf (Elt Ideal) ℓ)

/-- `column` over the argument arrays. -/
abbrev columnAt (c : Dev nD) (e : Fin 16) (s : Fin 2048) (d : Fin 1024) : Fin 2752 → EReal :=
  column (m ((c : Thread nD τ).loc main_arg0)) (m ((c : Thread nD τ).loc main_arg1)) (m ((c : Thread nD τ).loc main_arg2))
    (m ((c : Thread nD τ).loc main_arg3)) e s d

/-- The last slice's sum from a point's blocks. -/
theorem tailSum_eq (c : Dev nD) (t : Fin cfg0.N) (s : Fin 2048) (d : Fin 1024) :
    tailSum (iblk m c 0 t) (iblk m c 4 t) (iblk m c 5 t) (iblk m c 6 t) (iblk m c 7 t) (iblk m c 8 t) (iblk m c 9 t)
        (iblk m c 10 t) (iblk m c 11 t) (iblk m c 12 t) s d
      = lastSum (columnAt m c (expertOf t) s d) := by
  have h1 : ∀ f k, stacked (iblk m c 4 t) (iblk m c 5 t) (iblk m c 6 t) f k
      = m ((c : Thread nD τ).loc main_arg1) (ix4 0 (expertOf t) k (tailCol f)) :=
    stacked_eq _ _ _ (fun f k => m ((c : Thread nD τ).loc main_arg1) (ix4 0 (expertOf t) k f))
      (piece4_apply m c t) (piece5_apply m c t) (piece6_apply m c t)
  have h3 : ∀ f k, stacked (iblk m c 7 t) (iblk m c 8 t) (iblk m c 9 t) f k
      = m ((c : Thread nD τ).loc main_arg2) (ix4 0 (expertOf t) k (tailCol f)) :=
    stacked_eq _ _ _ (fun f k => m ((c : Thread nD τ).loc main_arg2) (ix4 0 (expertOf t) k f))
      (piece7_apply m c t) (piece8_apply m c t) (piece9_apply m c t)
  have h2 : ∀ f k, stacked (iblk m c 10 t) (iblk m c 11 t) (iblk m c 12 t) f k
      = m ((c : Thread nD τ).loc main_arg3) (ix4 0 (expertOf t) (tailCol f) k) :=
    stacked_eq _ _ _ (fun f k => m ((c : Thread nD τ).loc main_arg3) (ix4 0 (expertOf t) f k))
      (piece10_apply m c t) (piece11_apply m c t) (piece12_apply m c t)
  unfold tailSum lastSum columnAt column
  simp only [h1, h2, h3, rows_apply]

/-- A further slice's sum from a point's blocks. -/
theorem mainSum_eq (c : Dev nD) (t : Fin cfg0.N) (j : ℕ) (hj : j < 5) (ht : t.val % 6 = j + 1) (s : Fin 2048) (d : Fin 1024) :
    mainSum (iblk m c 0 t) (X0_1 m c t) (X0_2 m c t) (X0_3 m c t) s d = sliceSum (columnAt m c (expertOf t) s d) j := by
  have h1 := slice1_main m c t ⟨j, hj⟩ ht
  have h3 := slice2_main m c t ⟨j, hj⟩ ht
  have h2 := slice3_main m c t ⟨j, hj⟩ ht
  unfold mainSum sliceSum columnAt column
  rw [dif_pos hj]
  simp only [h1, h2, h3, rows_apply]

/-- Before an expert's last point the accumulator holds the last slice's sum and those of the slices taken so far. -/
theorem scratch_eq (c : Dev nD) (s : Fin 2048) (d : Fin 1024) : ∀ (f : ℕ), f < 5 → ∀ t : Fin cfg0.N, t.val % 6 = f →
    (outsAt0 m c t.val t.isLt).2 (ix2 s d)
      = lastSum (columnAt m c (expertOf t) s d) + ∑ j ∈ Finset.range f, sliceSum (columnAt m c (expertOf t) s d) j := by
  intro f
  induction f with
  | zero =>
    intro _ t ht
    rw [outsAt0_A m c t ht (by omega) (by omega)]
    dsimp only
    rw [first_apply, tailSum_eq, Finset.range_zero, Finset.sum_empty, add_zero]
  | succ f ih =>
    intro hf t ht
    have hp : t.val - 1 < cfg0.N := Nat.lt_of_le_of_lt (Nat.sub_le _ _) t.isLt
    have he : expertOf ⟨t.val - 1, hp⟩ = expertOf t := Fin.ext (by show (t.val - 1) / 6 = t.val / 6; omega)
    have h := ih (by omega) ⟨t.val - 1, hp⟩ (by show (t.val - 1) % 6 = f; omega)
    rw [he] at h
    rw [outsAt0_B m c t (by omega) (by omega) (by omega)]
    dsimp only
    rw [next_apply, mainSum_eq m c t f (by omega) ht, Finset.sum_range_succ, ← add_assoc]
    exact congrArg (· + _) h

/-- THE RESULT ARRAY after the run. -/
theorem array_eq (c : Dev nD) :
    (dats m 0 c).arrAt 14 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 14 _ (by decide +kernel) fun t hf y => ?_
  have ht : t.val % 6 = 5 := (flush0_14 t).mp hf
  blk_simp
  rw [after0_14, outsAt0_C m c t (by omega) (by omega) ht]
  dsimp only
  have hy : ∃ (s : Fin 2048) (d : Fin 1024), y = ix3 0 s d :=
    ⟨⟨(y 1).val, (y 1).isLt⟩, ⟨(y 2).val, (y 2).isLt⟩, funext fun a => by
      fin_cases a
      · exact Fin.ext (by have : (y 0).val < 1 := (y 0).isLt; show (y 0).val = 0; omega)
      · rfl
      · rfl⟩
  obtain ⟨s, d, rfl⟩ := hy
  have hp : t.val - 1 < cfg0.N := Nat.lt_of_le_of_lt (Nat.sub_le _ _) t.isLt
  have he : expertOf ⟨t.val - 1, hp⟩ = expertOf t := Fin.ext (by show (t.val - 1) / 6 = t.val / 6; omega)
  have h := scratch_eq m c s d 4 (by omega) ⟨t.val - 1, hp⟩ (by show (t.val - 1) % 6 = 4; omega)
  rw [he] at h
  have e14 : ((cfg0.win 14).blk t).view.emb (ix3 0 s d) = ix3 (expertOf t) s d := by
    blk_ext [idx14 t] <;> simp only [expertOf] <;> omega
  refine Eq.trans ?_ (congrArg _ e14).symm
  refine (block_apply _ _ _ _ _ _ _ _ _ _ _ _ _ _ _ _ _ _ _ _ _ _ _ _ _ _ _ _ _ _ _ _ _ _ _ _ _ _ _ _ _ _ _ _ _ _ _ _ _ _ _ _ _ _).trans ?_
  rw [mainSum_eq m c t 4 (by omega) ht, gates_apply]
  refine congrArg (· * _) ?_
  refine (congrArg (· + _) h).trans ?_
  rw [add_assoc, ← Finset.sum_range_succ, sum_slices]
  rfl

end Cert.Kernel2Ideal.ExpertsBlock

end
-- ==== Proof.Experts.Equation.lean ====
/- The reference experts read at an index, and the equation: the reference's array is the kernel's. -/
module

public import proofs.«01_k».proof.Proof.Experts.Array
public import proofs.«01_k».proof.Proof.Gen.Reference2Ideal.Read
public import Idealize.ShloMosaic.Lib.Pointwise

@[expose] public section

set_option maxRecDepth 16384

noncomputable section

namespace Cert.Reference2Ideal.ExpertsReference

open Cert.Reference2Ideal Cert.Reference2Ideal.Gen Cert.Reference2Ideal.Read Idealize.ShloMosaic
open Idealize.ShloMosaic.Tactic Cert.Experts Cert.Kernel2Ideal.ExpertsBlock

variable (x : Vec Ideal S16x2048x1024 .bf16) (w1 w3 : Vec Ideal S2x16x1024x2752 .f32) (w2 : Vec Ideal S2x16x2752x1024 .f32)
  (g : Vec Ideal S16x2048x1 .f32)

/-! ## The weights of the first layer of the two -/

theorem gateWeight_eq (e : Fin 16) (k : Fin 1024) (f : Fin 2752) :
    val_main_v2 (F := Ideal) w1 (ix3 e k f) = w1 (ix4 0 e k f) := by
  rewrite [val_main_v2_apply, val_main_v1_apply]
  refine congrArg w1 (funext fun a => Fin.ext ?_)
  have he := e.isLt
  have hk := k.isLt
  have hf := f.isLt
  fin_cases a <;> dsimp <;> omega

theorem upWeight_eq (e : Fin 16) (k : Fin 1024) (f : Fin 2752) :
    val_main_v6 (F := Ideal) w3 (ix3 e k f) = w3 (ix4 0 e k f) := by
  rewrite [val_main_v6_apply, val_main_v5_apply]
  refine congrArg w3 (funext fun a => Fin.ext ?_)
  have he := e.isLt
  have hk := k.isLt
  have hf := f.isLt
  fin_cases a <;> dsimp <;> omega

theorem downWeight_eq (e : Fin 16) (f : Fin 2752) (k : Fin 1024) :
    val_main_v10 (F := Ideal) w2 (ix3 e f k) = w2 (ix4 0 e f k) := by
  rewrite [val_main_v10_apply, val_main_v9_apply]
  refine congrArg w2 (funext fun a => Fin.ext ?_)
  have he := e.isLt
  have hk := k.isLt
  have hf := f.isLt
  fin_cases a <;> dsimp <;> omega

/-! ## The hidden layer -/

theorem gateProduct_eq (e : Fin 16) (s : Fin 2048) (f : Fin 2752) :
    val_main_v3 (F := Ideal) x w1 (ix3 e s f) = ∑ k : Fin 1024, x (ix3 e s k) * w1 (ix4 0 e k f) := by
  rewrite [val_main_v3_apply]
  refine Finset.sum_congr rfl fun k _ => ?_
  have hl : lidx_main_v3 (ix3 e s f) k = ix3 e s k := by funext a; fin_cases a <;> rfl
  have hr : ridx_main_v3 (ix3 e s f) k = ix3 e k f := by funext a; fin_cases a <;> rfl
  rewrite [hl, hr, val_main_v0_apply, gateWeight_eq]
  rfl

theorem upProduct_eq (e : Fin 16) (s : Fin 2048) (f : Fin 2752) :
    val_main_v7 (F := Ideal) x w3 (ix3 e s f) = ∑ k : Fin 1024, x (ix3 e s k) * w3 (ix4 0 e k f) := by
  rewrite [val_main_v7_apply]
  refine Finset.sum_congr rfl fun k _ => ?_
  have hl : lidx_main_v7 (ix3 e s f) k = ix3 e s k := by funext a; fin_cases a <;> rfl
  have hr : ridx_main_v7 (ix3 e s f) k = ix3 e k f := by funext a; fin_cases a <;> rfl
  rewrite [hl, hr, val_main_v0_apply, upWeight_eq]
  rfl

/-- The hidden layer at a row and a column: the gated product of the row's two products. -/
theorem hidden_eq (e : Fin 16) (s : Fin 2048) (f : Fin 2752) :
    val_main_v8 (F := Ideal) x w1 w3 (ix3 e s f)
      = gated (∑ k : Fin 1024, x (ix3 e s k) * w1 (ix4 0 e k f)) (∑ k : Fin 1024, x (ix3 e s k) * w3 (ix4 0 e k f)) := by
  rewrite [val_main_v8_apply, val_main_v4_apply, val_main_call0_v5_apply, val_main_call0_v4_apply, val_main_call0_cst_0_apply,
    val_main_call0_v3_apply, val_main_call0_v2_apply, val_main_call0_cst_apply, val_main_call0_v1_apply, val_main_call0_v0_apply,
    upProduct_eq, gateProduct_eq]
  generalize (∑ k : Fin 1024, x (ix3 e s k) * w1 (ix4 0 e k f)) = a
  generalize (∑ k : Fin 1024, x (ix3 e s k) * w3 (ix4 0 e k f)) = b
  show a * Ideal.div (Ideal.ofBits .f32 0x3F800000#32) (Ideal.ofBits .f32 0x3F800000#32 + Ideal.exp (-a)) * b = gated a b
  rw [Ideal.ofBits_one_f32]
  rfl

/-! ## The result -/

/-- The reference's array is `result`. -/
theorem equation : val_main_v14 (F := Ideal) x w1 w3 w2 g = result x w1 w3 w2 g := by
  funext i
  have hi : ∃ (e : Fin 16) (s : Fin 2048) (d : Fin 1024), i = ix3 e s d :=
    ⟨⟨(i 0).val, (i 0).isLt⟩, ⟨(i 1).val, (i 1).isLt⟩, ⟨(i 2).val, (i 2).isLt⟩, funext fun a => by fin_cases a <;> rfl⟩
  obtain ⟨e, s, d, rfl⟩ := hi
  have hg : idx_main_v12 (ix3 e s d) = ix3 e s 0 := by funext a; fin_cases a <;> rfl
  have h : val_main_v11 (F := Ideal) x w1 w3 w2 (ix3 e s d) = ∑ f : Fin 2752, column x w1 w3 w2 e s d f := by
    rewrite [val_main_v11_apply]
    refine Finset.sum_congr rfl fun f _ => ?_
    have hl : lidx_main_v11 (ix3 e s d) f = ix3 e s f := by funext a; fin_cases a <;> rfl
    have hr : ridx_main_v11 (ix3 e s d) f = ix3 e f d := by funext a; fin_cases a <;> rfl
    rewrite [hl, hr, hidden_eq, downWeight_eq]
    rfl
  rewrite [val_main_v14_apply, val_main_v13_apply, val_main_v12_apply, h, hg]
  rfl

end Cert.Reference2Ideal.ExpertsReference

end
-- ==== Proof.Experts.Claim.lean ====
/- The experts' value claim: both programs run, and leave the same array. -/
module

public import proofs.«01_k».proof.Defs
public import proofs.«01_k».proof.Proof.Experts.Equation
public import proofs.«01_k».proof.Proof.Gen.Kernel2Ideal.Value
public import proofs.«01_k».proof.Proof.Gen.Reference2Ideal.Run

@[expose] public section

set_option maxRecDepth 16384

noncomputable section

namespace Cert.Experts

open Idealize.ShloMosaic Idealize.ShloMosaic.TcCoe Idealize.SL.Sem Cert.Kernel2Ideal.ExpertsBlock

/-- The experts' kernel and their reference, from the same arguments, end with the same array. -/
theorem algebraic : Cert.algebraic_Kernel2Ideal_Reference2Ideal := by
  intro m g m' g' hp hargs
  refine ⟨fun c => result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4)), ?_, ?_⟩
  · refine (θ_run Cert.Kernel2Ideal.defs _ _).mono (fun r h c => ?_) (Cert.Kernel2Ideal.Value.run_blocks m g)
    exact ⟨(h c).1.trans (array_eq m c), (h c).2⟩
  · refine (θ_run Cert.Reference2Ideal.defs _ _).mono (fun r h c => ?_) (Cert.Reference2Ideal.Value.run m' g')
    refine ⟨(h c).1.trans ?_, (h c).2⟩
    obtain ⟨h0, h1, h2, h3, h4⟩ := hargs c
    rw [Cert.Reference2Ideal.Read.val_main_v14_eq, h0, h1, h2, h3, h4]
    exact Cert.Reference2Ideal.ExpertsReference.equation _ _ _ _ _

end Cert.Experts

end
-- ==== Proof.Inproj.Step.lean ====
/- The values one grid point of the input projection computes: the normalized and modulated rows, their products with a
   slice of 512 columns of the weights, and the gates, the activated columns and the heads' lanes made of the products. -/
module

public import proofs.«01_k».proof.Proof.Gen.Kernel3Ideal.Value
public import proofs.«01_k».proof.Proof.Experts.Gate
public import Idealize.ShloMosaic.Lib.Pointwise
public import Idealize.ShloMosaic.Lib.KernelVsHost
public import Idealize.ShloMosaic.Lib.Pipeline.ValueKit.Tiles

@[expose] public section

set_option maxRecDepth 16384

noncomputable section

namespace Cert.Kernel3Ideal.InprojBlock

open Cert.Kernel3Ideal Cert.Kernel3Ideal.Gen Idealize.ShloMosaic Idealize.ShloMosaic.TcCoe Idealize.SL.Sem
open Idealize.ShloMosaic.Tactic Cert.Experts

/-- A row's entry, normalized by its root mean square, weighted, scaled and shifted. -/
def modulated (x g sc sh : Fin 1024 → EReal) (k : Fin 1024) : EReal :=
  x k * Ideal.rsqrt (Ideal.div (∑ i : Fin 1024, x i * x i) (Ideal.ofBits .f32 0x44800000#32) + Ideal.ofBits .f32 0x358637BD#32) * g k
    * (1 + sc k) + sh k

/-- The activation of the second gate's columns. -/
def activated (a : EReal) : EReal :=
  Ideal.ofBits .f32 0x3F000000#32 * a
    * (1 + Ideal.tanh (Ideal.ofBits .f32 0x3F4C422A#32 * (a + Ideal.ofBits .f32 0x3D372713#32 * (a * a * a))))

/-- Lane `l + 8`, around the end. -/
def laneUp (l : Fin 128) : Fin 128 := ⟨(l.val + 8) % 128, Nat.mod_lt _ (by norm_num)⟩

/-- Lane `l − 8`, around the end. -/
def laneDown (l : Fin 128) : Fin 128 := ⟨(l.val + 120) % 128, Nat.mod_lt _ (by norm_num)⟩

/-- A head's lane rotated with the lanes 8 above and 8 below it. -/
def turned (t c u v : Fin 128 → EReal) (l : Fin 128) : EReal := t l * c l + t (laneUp l) * u l + t (laneDown l) * v l

/-- Lane `l` of a head whose columns start at `o`. -/
def laneCol (o : ℕ) (ho : o + 128 ≤ 512) (l : Fin 128) : Fin 512 := ⟨o + l.val, by omega⟩

theorem half16 : Ideal.ofBits .bf16 0x3F00#16 = ((1 / 2 : ℝ) : EReal) := by
  simp [Ideal.ofBits, Ideal.ieee, -EReal.coe_mul]; norm_num

/-- The block of a rotated head whose columns start at `o`. -/
def rotatedHead (o : ℕ) (h : S512x512.Slices ![0, o] S512x128) (a : FVec Ideal S512x512 .f32) (c u v : FVec Ideal S512x128 .f32) :
    FVec Ideal S1x512x128 .bf16 :=
  shapeCast S1x512x128
    (truncf (F := Ideal) (φ := .f32) .bf16
      (mulf (addf (addf (mulf (extractStridedSlice S512x128 ![0, o] a h) c)
          (mulf (dynamicRotate 1 120#32 none (extractStridedSlice S512x128 ![0, o] a h) rotates_S512x128_d1) u))
        (mulf (dynamicRotate 1 8#32 none (extractStridedSlice S512x128 ![0, o] a h) rotates_S512x128_d1) v))
      (broadcast S512x128 (Scalar.ofBits (F := Ideal) .f32 0x3F800000#32))) bitsLt_bf16_f32)
    shapeCasts_S512x128_S1x512x128

/-- The block of a head kept as it is, whose columns start at `o`. -/
def plainHead (o : ℕ) (h : S512x512.Slices ![0, o] S512x128) (a : FVec Ideal S512x512 .f32) : FVec Ideal S1x512x128 .bf16 :=
  shapeCast S1x512x128
    (truncf (F := Ideal) (φ := .f32) .bf16 (extractStridedSlice S512x128 ![0, o] a h) bitsLt_bf16_f32) shapeCasts_S512x128_S1x512x128

theorem product_apply (h : FVec Ideal S512x1024 .bf16) (w : Vec Ideal S1x1024x512 .bf16) (s j : Fin 512) :
    k0_pay12 h w (ix2 s j) = ∑ k : Fin 1024, h (ix2 s k) * w (ix3 0 k j) := by
  pointwise [k0_pay12]

theorem rows_apply (x : Vec Ideal S512x1024 .f32) (g : Vec Ideal S1x1024 .f32) (sc sh : Vec Ideal S1x1x1024 .f32) (s : Fin 512)
    (k : Fin 1024) :
    k0_pay2 x g sc sh (ix2 s k)
      = modulated (fun i => x (ix2 s i)) (fun i => g (ix2 0 i)) (fun i => sc (ix3 0 0 i)) (fun i => sh (ix3 0 0 i)) k := by
  pointwise [k0_pay2]
  rfl

theorem gate_apply (h : FVec Ideal S512x1024 .bf16) (w : Vec Ideal S1x1024x512 .bf16) (s j : Fin 512) :
    k0_pay13 h w (ix2 s j) = Ideal.logistic (k0_pay12 h w (ix2 s j)) := by
  rw [← half_tanh, ← half16]
  rfl

theorem activated_apply (h : FVec Ideal S512x1024 .bf16) (w : Vec Ideal S1x1024x512 .bf16) (s j : Fin 512) :
    k0_pay64 h w (ix2 s j) = activated (k0_pay12 h w (ix2 s j)) := by
  unfold activated
  rw [← Ideal.ofBits_one_f32]
  rfl

theorem slice_apply (o : ℕ) (ho : o + 128 ≤ 512) (h : S512x512.Slices ![0, o] S512x128) (a : FVec Ideal S512x512 .f32) (s : Fin 512)
    (l : Fin 128) : extractStridedSlice S512x128 ![0, o] a h (ix2 s l) = a (ix2 s (laneCol o ho l)) := by
  refine congrArg a (funext fun b => ?_)
  fin_cases b
  · exact Fin.ext (by show 0 + s.val = s.val; omega)
  · rfl

theorem rotate_up (t : FVec Ideal S512x128 .f32) (s : Fin 512) (l : Fin 128) :
    dynamicRotate 1 120#32 none t rotates_S512x128_d1 (ix2 s l) = t (ix2 s (laneUp l)) := by
  refine dynamicRotate_apply (s := S512x128) 1 120#32 t rotates_S512x128_d1 (ix2 s l) (ix2 s (laneUp l)) fun b => ?_
  have hl := l.isLt
  fin_cases b
  · rfl
  · show (l.val + 8) % 128 = (l.val + 128 - 120 % 128) % 128; omega

theorem rotate_down (t : FVec Ideal S512x128 .f32) (s : Fin 512) (l : Fin 128) :
    dynamicRotate 1 8#32 none t rotates_S512x128_d1 (ix2 s l) = t (ix2 s (laneDown l)) := by
  refine dynamicRotate_apply (s := S512x128) 1 8#32 t rotates_S512x128_d1 (ix2 s l) (ix2 s (laneDown l)) fun b => ?_
  have hl := l.isLt
  fin_cases b
  · rfl
  · show (l.val + 120) % 128 = (l.val + 128 - 8 % 128) % 128; omega

theorem lift_apply (t : FVec Ideal S512x128 .bf16) (s : Fin 512) (l : Fin 128) :
    shapeCast S1x512x128 t shapeCasts_S512x128_S1x512x128 (ix3 0 s l) = t (ix2 s l) := by
  pointwise []

theorem rotatedHead_apply (o : ℕ) (ho : o + 128 ≤ 512) (h : S512x512.Slices ![0, o] S512x128) (a : FVec Ideal S512x512 .f32)
    (c u v : FVec Ideal S512x128 .f32) (s : Fin 512) (l : Fin 128) :
    rotatedHead o h a c u v (ix3 0 s l)
      = turned (fun l => a (ix2 s (laneCol o ho l))) (fun l => c (ix2 s l)) (fun l => u (ix2 s l)) (fun l => v (ix2 s l)) l := by
  unfold rotatedHead
  refine (lift_apply _ s l).trans ?_
  show (extractStridedSlice S512x128 ![0, o] a h (ix2 s l) * c (ix2 s l)
      + dynamicRotate 1 120#32 none (extractStridedSlice S512x128 ![0, o] a h) rotates_S512x128_d1 (ix2 s l) * u (ix2 s l)
      + dynamicRotate 1 8#32 none (extractStridedSlice S512x128 ![0, o] a h) rotates_S512x128_d1 (ix2 s l) * v (ix2 s l))
      * Ideal.ofBits .f32 0x3F800000#32 = _
  rw [Ideal.ofBits_one_f32, mul_one, rotate_up, rotate_down]
  simp only [slice_apply o ho]
  rfl

theorem plainHead_apply (o : ℕ) (ho : o + 128 ≤ 512) (h : S512x512.Slices ![0, o] S512x128) (a : FVec Ideal S512x512 .f32)
    (s : Fin 512) (l : Fin 128) : plainHead o h a (ix3 0 s l) = a (ix2 s (laneCol o ho l)) :=
  (lift_apply _ s l).trans (slice_apply o ho h a s l)

end Cert.Kernel3Ideal.InprojBlock

end
-- ==== Proof.Inproj.Block.lean ====
/- The two output blocks of one grid point of the input projection, entry by entry: nine stores of 512 columns, and the
   24 heads. -/
module

public import proofs.«01_k».proof.Proof.Inproj.Step
public import Idealize.ShloMosaic.Lib.Pipeline.Value

@[expose] public section

set_option maxRecDepth 16384

noncomputable section

namespace Cert.Kernel3Ideal.InprojBlock

open Cert.Kernel3Ideal Cert.Kernel3Ideal.Gen Idealize.ShloMosaic Idealize.ShloMosaic.TcCoe Idealize.SL.Sem
open Idealize.ShloMosaic.Tactic Cert.Experts

/-- The part of the weights' columns from `o`. -/
theorem columns_inb (o : ℕ) (ho : o + 512 ≤ 7680) (a : Fin 3) : ![0, 0, o] a + S1x1024x512.size a ≤ S1x1024x7680.size a := by
  fin_cases a
  · show 0 + 1 ≤ 1; omega
  · show 0 + 1024 ≤ 1024; omega
  · exact ho

/-- A row of the block against a column of the weights. -/
def entry (x0 : Vec Ideal S512x1024 .f32) (x1 : Vec Ideal S1x1024 .f32) (x2 x3 : Vec Ideal S1x1x1024 .f32)
    (x4 : Vec Ideal S1x1024x7680 .bf16) (s : Fin 512) (j : Fin 7680) : EReal :=
  ∑ k : Fin 1024, modulated (fun i => x0 (ix2 s i)) (fun i => x1 (ix2 0 i)) (fun i => x3 (ix3 0 0 i)) (fun i => x2 (ix3 0 0 i)) k
    * x4 (ix3 0 k j)

/-- The products with the columns from `o`, at column `o + j`. -/
theorem entry_eq (x0 : Vec Ideal S512x1024 .f32) (x1 : Vec Ideal S1x1024 .f32) (x2 x3 : Vec Ideal S1x1x1024 .f32)
    (x4 : Vec Ideal S1x1024x7680 .bf16) (o : ℕ) (inb : ∀ a : Fin 3, ![0, 0, o] a + S1x1024x512.size a ≤ S1x1024x7680.size a)
    (s j : Fin 512) (c : Fin 7680) (hc : c.val = o + j.val) :
    k0_pay12 (k0_pay2 (View.ld x0 r0_0) (View.ld x1 r0_1) (View.ld x3 r0_2) (View.ld x2 r0_2))
        (View.ld (Val := Elt Ideal) (e' := .bf16) x4 (Rect.unit (s := S1x1024x7680) ![0, 0, o] S1x1024x512.size inb)) (ix2 s j)
      = entry x0 x1 x2 x3 x4 s c := by
  rw [product_apply]
  unfold entry
  refine Finset.sum_congr rfl fun k _ => ?_
  have h0 : ∀ i, View.ld (Val := Elt Ideal) (e' := .f32) x0 r0_0 (ix2 s i) = x0 (ix2 s i) := fun i => by
    refine congrArg x0 (funext fun a => ?_)
    fin_cases a
    · exact Fin.ext (by show 0 + 1 * s.val = s.val; omega)
    · exact Fin.ext (by show 0 + 1 * i.val = i.val; omega)
  have h1 : ∀ i, View.ld (Val := Elt Ideal) (e' := .f32) x1 r0_1 (ix2 0 i) = x1 (ix2 0 i) := fun i => by
    refine congrArg x1 (funext fun a => ?_)
    fin_cases a
    · rfl
    · exact Fin.ext (by show 0 + 1 * i.val = i.val; omega)
  have h2 : ∀ (x : Vec Ideal S1x1x1024 .f32) (i : Fin 1024),
      View.ld (Val := Elt Ideal) (e' := .f32) x r0_2 (ix3 0 0 i) = x (ix3 0 0 i) := fun x i => by
    refine congrArg x (funext fun a => ?_)
    fin_cases a
    · rfl
    · rfl
    · exact Fin.ext (by show 0 + 1 * i.val = i.val; omega)
  have h4 : View.ld (Val := Elt Ideal) (e' := .bf16) x4 (Rect.unit (s := S1x1024x7680) ![0, 0, o] S1x1024x512.size inb) (ix3 0 k j)
      = x4 (ix3 0 k c) := by
    refine congrArg x4 (funext fun a => ?_)
    fin_cases a
    · rfl
    · exact Fin.ext (by show 0 + 1 * k.val = k.val; omega)
    · exact Fin.ext (by show o + 1 * j.val = c.val; omega)
  rw [rows_apply, h4]
  simp only [h0, h1]
  exact congrArg₂ (fun p q => modulated (fun i => x0 (ix2 s i)) (fun i => x1 (ix2 0 i)) p q k * x4 (ix3 0 k c)) (funext (h2 x3)) (funext (h2 x2))

/-! ## The gates, the plain columns and the activated ones -/

/-- The column of the weights behind a column of the block. -/
def source (j : Fin 4608) : Fin 7680 := if h : j.val < 3072 then ⟨4608 + j.val, by omega⟩ else ⟨j.val, by omega⟩

/-- Column `j` of the first output block made of its product. -/
def shaped (j : Fin 4608) (a : EReal) : EReal := if j.val < 3072 then Ideal.logistic a else if j.val < 3584 then a else activated a

/-- The first output block. -/
def other (x0 : Vec Ideal S512x1024 .f32) (x1 : Vec Ideal S1x1024 .f32) (x2 x3 : Vec Ideal S1x1x1024 .f32)
    (x4 : Vec Ideal S1x1024x7680 .bf16) (y : S512x4608.Idx) : EReal :=
  shaped (y 1) (entry x0 x1 x2 x3 x4 (y 0) (source (y 1)))

section Pieces

variable (x0 : Vec Ideal S512x1024 .f32) (x1 : Vec Ideal S1x1024 .f32) (x2 x3 : Vec Ideal S1x1x1024 .f32)
  (x4 : Vec Ideal S1x1024x7680 .bf16)

theorem gate_piece (o o' : ℕ) (ho : o + 512 ≤ 3072) (ho' : o' = 4608 + o)
    (inb : ∀ a : Fin 3, ![0, 0, o'] a + S1x1024x512.size a ≤ S1x1024x7680.size a)
    (inb' : ∀ a : Fin 2, ![0, o] a + S512x512.size a ≤ S512x4608.size a) (y : S512x512.Idx) :
    k0_pay13 (k0_pay2 (View.ld x0 r0_0) (View.ld x1 r0_1) (View.ld x3 r0_2) (View.ld x2 r0_2))
        (View.ld (Val := Elt Ideal) (e' := .bf16) x4 (Rect.unit (s := S1x1024x7680) ![0, 0, o'] S1x1024x512.size inb)) y
      = other x0 x1 x2 x3 x4 ((Rect.unit (s := S512x4608) ![0, o] S512x512.size inb').emb y) := by
  obtain ⟨s, j, rfl⟩ : ∃ s j, y = ix2 s j := ⟨y 0, y 1, by funext a; fin_cases a <;> rfl⟩
  have hj := j.isLt
  have h1 : ((Rect.unit (s := S512x4608) ![0, o] S512x512.size inb').emb (ix2 s j) 1).val = o + j.val := by
    show o + 1 * j.val = _; omega
  have h0 : (Rect.unit (s := S512x4608) ![0, o] S512x512.size inb').emb (ix2 s j) 0 = s := Fin.ext (by show 0 + 1 * s.val = _; omega)
  have hs : (source ((Rect.unit (s := S512x4608) ![0, o] S512x512.size inb').emb (ix2 s j) 1)).val = o' + j.val := by
    unfold source; rw [dif_pos (by omega)]; show 4608 + _ = _; omega
  unfold other shaped
  rw [if_pos (by omega), h0, gate_apply, entry_eq x0 x1 x2 x3 x4 o' inb s j _ hs]

theorem plain_piece (inb : ∀ a : Fin 3, ![0, 0, 3072] a + S1x1024x512.size a ≤ S1x1024x7680.size a)
    (inb' : ∀ a : Fin 2, ![0, 3072] a + S512x512.size a ≤ S512x4608.size a) (y : S512x512.Idx) :
    k0_pay12 (k0_pay2 (View.ld x0 r0_0) (View.ld x1 r0_1) (View.ld x3 r0_2) (View.ld x2 r0_2))
        (View.ld (Val := Elt Ideal) (e' := .bf16) x4 (Rect.unit (s := S1x1024x7680) ![0, 0, 3072] S1x1024x512.size inb)) y
      = other x0 x1 x2 x3 x4 ((Rect.unit (s := S512x4608) ![0, 3072] S512x512.size inb').emb y) := by
  obtain ⟨s, j, rfl⟩ : ∃ s j, y = ix2 s j := ⟨y 0, y 1, by funext a; fin_cases a <;> rfl⟩
  have hj := j.isLt
  have h1 : ((Rect.unit (s := S512x4608) ![0, 3072] S512x512.size inb').emb (ix2 s j) 1).val = 3072 + j.val := by
    show 3072 + 1 * j.val = _; omega
  have h0 : (Rect.unit (s := S512x4608) ![0, 3072] S512x512.size inb').emb (ix2 s j) 0 = s := Fin.ext (by show 0 + 1 * s.val = _; omega)
  have hs : (source ((Rect.unit (s := S512x4608) ![0, 3072] S512x512.size inb').emb (ix2 s j) 1)).val = 3072 + j.val := by
    unfold source; rw [dif_neg (by omega)]; exact h1
  unfold other shaped
  rw [if_neg (by omega), if_pos (by omega), h0, entry_eq x0 x1 x2 x3 x4 3072 inb s j _ hs]

theorem activated_piece (o : ℕ) (ho : 3584 ≤ o) (ho' : o + 512 ≤ 4608)
    (inb : ∀ a : Fin 3, ![0, 0, o] a + S1x1024x512.size a ≤ S1x1024x7680.size a)
    (inb' : ∀ a : Fin 2, ![0, o] a + S512x512.size a ≤ S512x4608.size a) (y : S512x512.Idx) :
    k0_pay64 (k0_pay2 (View.ld x0 r0_0) (View.ld x1 r0_1) (View.ld x3 r0_2) (View.ld x2 r0_2))
        (View.ld (Val := Elt Ideal) (e' := .bf16) x4 (Rect.unit (s := S1x1024x7680) ![0, 0, o] S1x1024x512.size inb)) y
      = other x0 x1 x2 x3 x4 ((Rect.unit (s := S512x4608) ![0, o] S512x512.size inb').emb y) := by
  obtain ⟨s, j, rfl⟩ : ∃ s j, y = ix2 s j := ⟨y 0, y 1, by funext a; fin_cases a <;> rfl⟩
  have hj := j.isLt
  have h1 : ((Rect.unit (s := S512x4608) ![0, o] S512x512.size inb').emb (ix2 s j) 1).val = o + j.val := by
    show o + 1 * j.val = _; omega
  have h0 : (Rect.unit (s := S512x4608) ![0, o] S512x512.size inb').emb (ix2 s j) 0 = s := Fin.ext (by show 0 + 1 * s.val = _; omega)
  have hs : (source ((Rect.unit (s := S512x4608) ![0, o] S512x512.size inb').emb (ix2 s j) 1)).val = o + j.val := by
    unfold source; rw [dif_neg (by omega)]; exact h1
  unfold other shaped
  rw [if_neg (by omega), if_neg (by omega), h0, activated_apply, entry_eq x0 x1 x2 x3 x4 o inb s j _ hs]

variable (x5 x6 x7 : Vec Ideal S512x128 .f32)

theorem out8_eq (y : S512x4608.Idx) : out0_8 x0 x1 x2 x3 x4 x5 x6 x7 y = other x0 x1 x2 x3 x4 y := by
  unfold out0_8
  refine View.canon_apply_of_pieces (Val := Elt Ideal) (e := .bf16) (other x0 x1 x2 x3 x4) _ ?_ y (cover0_8 _ _ _ _ _ _ _ _ _ y)
  rw [List.forall_mem_cons, List.forall_mem_cons, List.forall_mem_cons, List.forall_mem_cons, List.forall_mem_cons,
    List.forall_mem_cons, List.forall_mem_cons, List.forall_mem_cons, List.forall_mem_cons]
  exact ⟨activated_piece x0 x1 x2 x3 x4 4096 (by norm_num) (by norm_num) inb_S1x1024x7680_S1x1024x512_0_0_4096 inb_S512x4608_S512x512_0_4096,
    activated_piece x0 x1 x2 x3 x4 3584 (by norm_num) (by norm_num) inb_S1x1024x7680_S1x1024x512_0_0_3584 inb_S512x4608_S512x512_0_3584,
    plain_piece x0 x1 x2 x3 x4 inb_S1x1024x7680_S1x1024x512_0_0_3072 inb_S512x4608_S512x512_0_3072,
    gate_piece x0 x1 x2 x3 x4 2560 7168 (by norm_num) rfl inb_S1x1024x7680_S1x1024x512_0_0_7168 inb_S512x4608_S512x512_0_2560,
    gate_piece x0 x1 x2 x3 x4 2048 6656 (by norm_num) rfl inb_S1x1024x7680_S1x1024x512_0_0_6656 inb_S512x4608_S512x512_0_2048,
    gate_piece x0 x1 x2 x3 x4 1536 6144 (by norm_num) rfl inb_S1x1024x7680_S1x1024x512_0_0_6144 inb_S512x4608_S512x512_0_1536,
    gate_piece x0 x1 x2 x3 x4 1024 5632 (by norm_num) rfl inb_S1x1024x7680_S1x1024x512_0_0_5632 inb_S512x4608_S512x512_0_1024,
    gate_piece x0 x1 x2 x3 x4 512 5120 (by norm_num) rfl inb_S1x1024x7680_S1x1024x512_0_0_5120 inb_S512x4608_S512x512_0_512,
    gate_piece x0 x1 x2 x3 x4 0 4608 (by norm_num) rfl inb_S1x1024x7680_S1x1024x512_0_0_4608 inb_S512x4608_S512x512_0_0,
    fun p hp => absurd hp List.not_mem_nil⟩

/-! ## The heads -/

/-- Column of the weights behind lane `l` of head `h`. -/
def headCol (h : Fin 24) (l : Fin 128) : Fin 7680 := ⟨128 * h.val + l.val, by omega⟩

/-- The second output block. -/
def heads (y : S24x512x128.Idx) : EReal :=
  if (y 0).val < 16 then
    turned (fun l => entry x0 x1 x2 x3 x4 (y 1) (headCol (y 0) l)) (fun l => x5 (ix2 (y 1) l)) (fun l => x6 (ix2 (y 1) l))
      (fun l => x7 (ix2 (y 1) l)) (y 2)
  else entry x0 x1 x2 x3 x4 (y 1) (headCol (y 0) (y 2))

/-- A table of the rotation, whole. -/
theorem table_apply (x : Vec Ideal S512x128 .f32) (s : Fin 512) (l : Fin 128) :
    k0_pay15 (View.ld (Val := Elt Ideal) (e' := .f32) x r0_17) (ix2 s l) = x (ix2 s l) := by
  have h : k0_pay15 (View.ld (Val := Elt Ideal) (e' := .f32) x r0_17) (ix2 s l) = View.ld (Val := Elt Ideal) (e' := .f32) x r0_17 (ix2 s l) := by
    pointwise [k0_pay15]
  rw [h]
  refine congrArg x (funext fun a => ?_)
  fin_cases a
  · exact Fin.ext (by show 0 + 1 * s.val = s.val; omega)
  · exact Fin.ext (by show 0 + 1 * l.val = l.val; omega)

theorem rotated_piece (o w n : ℕ) (hn : n < 16) (ho : o + 128 ≤ 512) (hw : w + o = 128 * n) (h : S512x512.Slices ![0, o] S512x128)
    (inb : ∀ a : Fin 3, ![0, 0, w] a + S1x1024x512.size a ≤ S1x1024x7680.size a)
    (inb' : ∀ a : Fin 3, ![n, 0, 0] a + S1x512x128.size a ≤ S24x512x128.size a) (y : S1x512x128.Idx) :
    rotatedHead o h (k0_pay12 (k0_pay2 (View.ld x0 r0_0) (View.ld x1 r0_1) (View.ld x3 r0_2) (View.ld x2 r0_2))
        (View.ld (Val := Elt Ideal) (e' := .bf16) x4 (Rect.unit (s := S1x1024x7680) ![0, 0, w] S1x1024x512.size inb)))
        (k0_pay15 (View.ld x5 r0_17)) (k0_pay15 (View.ld x6 r0_17)) (k0_pay15 (View.ld x7 r0_17)) y
      = heads x0 x1 x2 x3 x4 x5 x6 x7 ((Rect.unit (s := S24x512x128) ![n, 0, 0] S1x512x128.size inb').emb y) := by
  obtain ⟨s, l, rfl⟩ : ∃ s l, y = ix3 0 s l :=
    ⟨y 1, y 2, by funext a; fin_cases a; exacts [Fin.ext (by have := (y 0).isLt; show (y 0).val = 0; change (y 0).val < 1 at this; omega), rfl, rfl]⟩
  have e : (Rect.unit (s := S24x512x128) ![n, 0, 0] S1x512x128.size inb').emb (ix3 0 s l) = ix3 ⟨n, by omega⟩ s l := by
    funext a
    fin_cases a
    · exact Fin.ext (by show n + 1 * 0 = n; omega)
    · exact Fin.ext (by show 0 + 1 * s.val = s.val; omega)
    · exact Fin.ext (by show 0 + 1 * l.val = l.val; omega)
  rw [e, rotatedHead_apply o ho]
  show _ = if n < 16 then _ else _
  rw [if_pos hn]
  simp only [table_apply]
  refine congrArg (fun f => turned f _ _ _ l) (funext fun l' => ?_)
  exact entry_eq x0 x1 x2 x3 x4 w inb s _ _ (by show 128 * n + l'.val = w + (o + l'.val); omega)

theorem plain_head_piece (o w n : ℕ) (hn : 16 ≤ n) (hn' : n < 24) (ho : o + 128 ≤ 512) (hw : w + o = 128 * n)
    (h : S512x512.Slices ![0, o] S512x128)
    (inb : ∀ a : Fin 3, ![0, 0, w] a + S1x1024x512.size a ≤ S1x1024x7680.size a)
    (inb' : ∀ a : Fin 3, ![n, 0, 0] a + S1x512x128.size a ≤ S24x512x128.size a) (y : S1x512x128.Idx) :
    plainHead o h (k0_pay12 (k0_pay2 (View.ld x0 r0_0) (View.ld x1 r0_1) (View.ld x3 r0_2) (View.ld x2 r0_2))
        (View.ld (Val := Elt Ideal) (e' := .bf16) x4 (Rect.unit (s := S1x1024x7680) ![0, 0, w] S1x1024x512.size inb))) y
      = heads x0 x1 x2 x3 x4 x5 x6 x7 ((Rect.unit (s := S24x512x128) ![n, 0, 0] S1x512x128.size inb').emb y) := by
  obtain ⟨s, l, rfl⟩ : ∃ s l, y = ix3 0 s l :=
    ⟨y 1, y 2, by funext a; fin_cases a; exacts [Fin.ext (by have := (y 0).isLt; show (y 0).val = 0; change (y 0).val < 1 at this; omega), rfl, rfl]⟩
  have e : (Rect.unit (s := S24x512x128) ![n, 0, 0] S1x512x128.size inb').emb (ix3 0 s l) = ix3 ⟨n, hn'⟩ s l := by
    funext a
    fin_cases a
    · exact Fin.ext (by show n + 1 * 0 = n; omega)
    · exact Fin.ext (by show 0 + 1 * s.val = s.val; omega)
    · exact Fin.ext (by show 0 + 1 * l.val = l.val; omega)
  rw [e, plainHead_apply o ho]
  show _ = if n < 16 then _ else _
  rw [if_neg (by omega)]
  exact entry_eq x0 x1 x2 x3 x4 w inb s _ _ (by show 128 * n + l.val = w + (o + l.val); omega)

theorem out9_eq (y : S24x512x128.Idx) : out0_9 x0 x1 x2 x3 x4 x5 x6 x7 y = heads x0 x1 x2 x3 x4 x5 x6 x7 y := by
  unfold out0_9
  refine View.canon_apply_of_pieces (Val := Elt Ideal) (e := .bf16) (heads x0 x1 x2 x3 x4 x5 x6 x7) _ ?_ y
    (cover0_9 _ _ _ _ _ _ _ _ _ _ _ _ _ _ _ _ _ _ _ _ _ _ _ _ y)
  iterate 24 rw [List.forall_mem_cons]
  exact ⟨plain_head_piece x0 x1 x2 x3 x4 x5 x6 x7 384 2560 23 (by norm_num) (by norm_num) (by norm_num) rfl slices_S512x512_o0_384_S512x128 inb_S1x1024x7680_S1x1024x512_0_0_2560 inb_S24x512x128_S1x512x128_23_0_0,
    plain_head_piece x0 x1 x2 x3 x4 x5 x6 x7 256 2560 22 (by norm_num) (by norm_num) (by norm_num) rfl slices_S512x512_o0_256_S512x128 inb_S1x1024x7680_S1x1024x512_0_0_2560 inb_S24x512x128_S1x512x128_22_0_0,
    plain_head_piece x0 x1 x2 x3 x4 x5 x6 x7 128 2560 21 (by norm_num) (by norm_num) (by norm_num) rfl slices_S512x512_o0_128_S512x128 inb_S1x1024x7680_S1x1024x512_0_0_2560 inb_S24x512x128_S1x512x128_21_0_0,
    plain_head_piece x0 x1 x2 x3 x4 x5 x6 x7 0 2560 20 (by norm_num) (by norm_num) (by norm_num) rfl slices_S512x512_o0_0_S512x128 inb_S1x1024x7680_S1x1024x512_0_0_2560 inb_S24x512x128_S1x512x128_20_0_0,
    plain_head_piece x0 x1 x2 x3 x4 x5 x6 x7 384 2048 19 (by norm_num) (by norm_num) (by norm_num) rfl slices_S512x512_o0_384_S512x128 inb_S1x1024x7680_S1x1024x512_0_0_2048 inb_S24x512x128_S1x512x128_19_0_0,
    plain_head_piece x0 x1 x2 x3 x4 x5 x6 x7 256 2048 18 (by norm_num) (by norm_num) (by norm_num) rfl slices_S512x512_o0_256_S512x128 inb_S1x1024x7680_S1x1024x512_0_0_2048 inb_S24x512x128_S1x512x128_18_0_0,
    plain_head_piece x0 x1 x2 x3 x4 x5 x6 x7 128 2048 17 (by norm_num) (by norm_num) (by norm_num) rfl slices_S512x512_o0_128_S512x128 inb_S1x1024x7680_S1x1024x512_0_0_2048 inb_S24x512x128_S1x512x128_17_0_0,
    plain_head_piece x0 x1 x2 x3 x4 x5 x6 x7 0 2048 16 (by norm_num) (by norm_num) (by norm_num) rfl slices_S512x512_o0_0_S512x128 inb_S1x1024x7680_S1x1024x512_0_0_2048 inb_S24x512x128_S1x512x128_16_0_0,
    rotated_piece x0 x1 x2 x3 x4 x5 x6 x7 384 1536 15 (by norm_num) (by norm_num) rfl slices_S512x512_o0_384_S512x128 inb_S1x1024x7680_S1x1024x512_0_0_1536 inb_S24x512x128_S1x512x128_15_0_0,
    rotated_piece x0 x1 x2 x3 x4 x5 x6 x7 256 1536 14 (by norm_num) (by norm_num) rfl slices_S512x512_o0_256_S512x128 inb_S1x1024x7680_S1x1024x512_0_0_1536 inb_S24x512x128_S1x512x128_14_0_0,
    rotated_piece x0 x1 x2 x3 x4 x5 x6 x7 128 1536 13 (by norm_num) (by norm_num) rfl slices_S512x512_o0_128_S512x128 inb_S1x1024x7680_S1x1024x512_0_0_1536 inb_S24x512x128_S1x512x128_13_0_0,
    rotated_piece x0 x1 x2 x3 x4 x5 x6 x7 0 1536 12 (by norm_num) (by norm_num) rfl slices_S512x512_o0_0_S512x128 inb_S1x1024x7680_S1x1024x512_0_0_1536 inb_S24x512x128_S1x512x128_12_0_0,
    rotated_piece x0 x1 x2 x3 x4 x5 x6 x7 384 1024 11 (by norm_num) (by norm_num) rfl slices_S512x512_o0_384_S512x128 inb_S1x1024x7680_S1x1024x512_0_0_1024 inb_S24x512x128_S1x512x128_11_0_0,
    rotated_piece x0 x1 x2 x3 x4 x5 x6 x7 256 1024 10 (by norm_num) (by norm_num) rfl slices_S512x512_o0_256_S512x128 inb_S1x1024x7680_S1x1024x512_0_0_1024 inb_S24x512x128_S1x512x128_10_0_0,
    rotated_piece x0 x1 x2 x3 x4 x5 x6 x7 128 1024 9 (by norm_num) (by norm_num) rfl slices_S512x512_o0_128_S512x128 inb_S1x1024x7680_S1x1024x512_0_0_1024 inb_S24x512x128_S1x512x128_9_0_0,
    rotated_piece x0 x1 x2 x3 x4 x5 x6 x7 0 1024 8 (by norm_num) (by norm_num) rfl slices_S512x512_o0_0_S512x128 inb_S1x1024x7680_S1x1024x512_0_0_1024 inb_S24x512x128_S1x512x128_8_0_0,
    rotated_piece x0 x1 x2 x3 x4 x5 x6 x7 384 512 7 (by norm_num) (by norm_num) rfl slices_S512x512_o0_384_S512x128 inb_S1x1024x7680_S1x1024x512_0_0_512 inb_S24x512x128_S1x512x128_7_0_0,
    rotated_piece x0 x1 x2 x3 x4 x5 x6 x7 256 512 6 (by norm_num) (by norm_num) rfl slices_S512x512_o0_256_S512x128 inb_S1x1024x7680_S1x1024x512_0_0_512 inb_S24x512x128_S1x512x128_6_0_0,
    rotated_piece x0 x1 x2 x3 x4 x5 x6 x7 128 512 5 (by norm_num) (by norm_num) rfl slices_S512x512_o0_128_S512x128 inb_S1x1024x7680_S1x1024x512_0_0_512 inb_S24x512x128_S1x512x128_5_0_0,
    rotated_piece x0 x1 x2 x3 x4 x5 x6 x7 0 512 4 (by norm_num) (by norm_num) rfl slices_S512x512_o0_0_S512x128 inb_S1x1024x7680_S1x1024x512_0_0_512 inb_S24x512x128_S1x512x128_4_0_0,
    rotated_piece x0 x1 x2 x3 x4 x5 x6 x7 384 0 3 (by norm_num) (by norm_num) rfl slices_S512x512_o0_384_S512x128 inb_S1x1024x7680_S1x1024x512_0_0_0 inb_S24x512x128_S1x512x128_3_0_0,
    rotated_piece x0 x1 x2 x3 x4 x5 x6 x7 256 0 2 (by norm_num) (by norm_num) rfl slices_S512x512_o0_256_S512x128 inb_S1x1024x7680_S1x1024x512_0_0_0 inb_S24x512x128_S1x512x128_2_0_0,
    rotated_piece x0 x1 x2 x3 x4 x5 x6 x7 128 0 1 (by norm_num) (by norm_num) rfl slices_S512x512_o0_128_S512x128 inb_S1x1024x7680_S1x1024x512_0_0_0 inb_S24x512x128_S1x512x128_1_0_0,
    rotated_piece x0 x1 x2 x3 x4 x5 x6 x7 0 0 0 (by norm_num) (by norm_num) rfl slices_S512x512_o0_0_S512x128 inb_S1x1024x7680_S1x1024x512_0_0_0 inb_S24x512x128_S1x512x128_0_0_0,
    fun p hp => absurd hp List.not_mem_nil⟩

end Pieces

end Cert.Kernel3Ideal.InprojBlock

end
-- ==== Proof.Inproj.Tables.lean ====
/- The three tables of the rotation, lane by lane: the cosine, minus the sine and the sine of the row's angle on the lanes
   that rotate, and what leaves the other lanes as they are. -/
module

public import proofs.«01_k».proof.Proof.Inproj.Block
public import Idealize.ShloMosaic.Lib.Pipeline.ValueKit.Point

@[expose] public section

set_option maxRecDepth 16384

noncomputable section

namespace Cert.Kernel3Ideal.InprojBlock

open Cert.Kernel3Ideal Cert.Kernel3Ideal.Gen Idealize.ShloMosaic Idealize.ShloMosaic.TcCoe Idealize.SL.Sem
open Idealize.ShloMosaic.Tactic Cert.Experts

/-- The eight frequencies. -/
def freqs : FVec Ideal S8 .f32 :=
  Host.powf (broadcastInDim S8 ![] bcast_S_S8 (constant (F := Ideal) S_ .f32 0x48F42400#32))
    (Host.divf (Host.negf (addf (broadcastInDim S8 ![] bcast_S_S8 (constant (F := Ideal) S_ .f32 0x00000000#32))
        (mulf (broadcastInDim S8 ![] bcast_S_S8 (constant (F := Ideal) S_ .f32 0x40000000#32)) (sitofp .f32 (iotaInDim S8 32 0)))))
      (broadcastInDim S8 ![] bcast_S_S8 (constant (F := Ideal) S_ .f32 0x41800000#32)))

/-- The frequency each lane takes. -/
def laneIds : S128.Idx → BitVec 32 :=
  select (constantI S128 1 0#1) (addi (fun i => lit0 (S128.rowMajor i)) (broadcastInDim S128 ![] bcast_S_S128 (constantI S_ 32 8#32)))
    (fun i => lit0 (S128.rowMajor i))

/-- The frequencies, lane by lane. -/
def laneFreqs : FVec Ideal S128 .f32 :=
  Host.gather gather_S8_S128x1_S128_n_0_n_n_0_1_1 freqs (broadcastInDim S128x1 ![0] bcast_S128_S128x1_0 laneIds)

/-- The angles, row by row and lane by lane. -/
def angles (p : Vec Ideal S8x2048 .i32) : FVec Ideal S16384x128 .f32 :=
  mulf (broadcastInDim S16384x128 ![0, 1] bcast_S16384x1_S16384x128_0_1 (shapeCast S16384x1 (sitofp (F := Ideal) .f32 p) shapeCasts_S8x2048_S16384x1))
    (broadcastInDim S16384x128 ![0, 1] bcast_S1x128_S16384x128_0_1 (broadcastInDim S1x128 ![1] bcast_S128_S1x128_1 laneFreqs))

/-- The lanes of a pair's first half, and of its second. -/
def firstLanes : S1x128.Idx → BitVec 1 := broadcastInDim S1x128 ![1] bcast_S128_S1x128_1 fun i => lit1 (S128.rowMajor i)
def secondLanes : S1x128.Idx → BitVec 1 := broadcastInDim S1x128 ![1] bcast_S128_S1x128_1 fun i => lit2 (S128.rowMajor i)

/-- A table: `x` on the lanes of `b`, the literal `w` on the others. -/
def onLanes (b : S1x128.Idx → BitVec 1) (x : FVec Ideal S16384x128 .f32) (w : BitVec 32) : FVec Ideal S16384x128 .f32 :=
  select (broadcastInDim S16384x128 ![0, 1] bcast_S1x128_S16384x128_0_1 b) x
    (broadcastInDim S16384x128 ![] bcast_S_S16384x128 (constant (F := Ideal) S_ .f32 w))

variable (m : (ℓ : Loc nD τ sig) → Buf (Elt Ideal) ℓ)

theorem cosTable_eq (c : Dev nD) :
    V m c main_v26 = onLanes (ori firstLanes secondLanes) (Host.cos (angles (m ((c : Thread nD τ).loc main_arg5)))) 0x3F800000#32 := rfl

theorem negSinTable_eq (c : Dev nD) :
    V m c main_v28 = onLanes firstLanes (Host.negf (Host.sin (angles (m ((c : Thread nD τ).loc main_arg5))))) 0x00000000#32 := rfl

theorem sinTable_eq (c : Dev nD) :
    V m c main_v29 = onLanes secondLanes (Host.sin (angles (m ((c : Thread nD τ).loc main_arg5)))) 0x00000000#32 := rfl

/-! ## At a row and a lane -/

/-- Frequency `l mod 8`. -/
def freqOf (l : Fin 128) : Fin 8 := ⟨l.val % 8, Nat.mod_lt _ (by norm_num)⟩

/-- The angle of a position at a frequency. -/
def angle (p : BitVec 32) (f : Fin 8) : EReal := FloatOps.sitofp (F := Ideal) .f32 p * freqs (ix1 f)

theorem laneIds_apply (l : Fin 128) : laneIds (ix1 l) = BitVec.ofNat 32 (l.val % 8) := by
  show lit0 (S128.rowMajor (ix1 l)) = _
  revert l
  decide +kernel

theorem laneFreqs_apply (l : Fin 128) : laneFreqs (ix1 l) = freqs (ix1 (freqOf l)) := by
  refine congrArg freqs (funext fun a => Fin.ext ?_)
  fin_cases a
  revert l
  decide +kernel

theorem firstLanes_apply (l : Fin 128) : firstLanes (ix2 0 l) = if l.val % 64 < 8 then 1#1 else 0#1 := by
  show lit1 (S128.rowMajor (ix1 l)) = _
  revert l
  decide +kernel

theorem secondLanes_apply (l : Fin 128) : secondLanes (ix2 0 l) = if 8 ≤ l.val % 64 ∧ l.val % 64 < 16 then 1#1 else 0#1 := by
  show lit2 (S128.rowMajor (ix1 l)) = _
  revert l
  decide +kernel

theorem onLanes_apply (b : S1x128.Idx → BitVec 1) (x : FVec Ideal S16384x128 .f32) (w : BitVec 32) (r : Fin 16384) (l : Fin 128) :
    onLanes b x w (ix2 r l) = if b (ix2 0 l) = 1#1 then x (ix2 r l) else Ideal.ofBits .f32 w := by
  pointwise [onLanes]
  rfl

/-- The position behind a row. -/
def positionOf (r : Fin 16384) : S8x2048.Idx := ix2 ⟨r.val / 2048, by omega⟩ ⟨r.val % 2048, Nat.mod_lt _ (by norm_num)⟩

theorem angles_apply (p : Vec Ideal S8x2048 .i32) (r : Fin 16384) (l : Fin 128) :
    angles p (ix2 r l) = angle (p (positionOf r)) (freqOf l) := by
  unfold angle
  rw [← laneFreqs_apply]
  pointwise [angles]
  rfl

/-- The tables at a row and a lane. -/
def cosAt (p : Vec Ideal S8x2048 .i32) (r : Fin 16384) (l : Fin 128) : EReal :=
  if l.val % 64 < 16 then Ideal.cos (angle (p (positionOf r)) (freqOf l)) else 1
def negSinAt (p : Vec Ideal S8x2048 .i32) (r : Fin 16384) (l : Fin 128) : EReal :=
  if l.val % 64 < 8 then -Ideal.sin (angle (p (positionOf r)) (freqOf l)) else 0
def sinAt (p : Vec Ideal S8x2048 .i32) (r : Fin 16384) (l : Fin 128) : EReal :=
  if 8 ≤ l.val % 64 ∧ l.val % 64 < 16 then Ideal.sin (angle (p (positionOf r)) (freqOf l)) else 0

theorem cosTable_apply (c : Dev nD) (r : Fin 16384) (l : Fin 128) :
    V m c main_v26 (ix2 r l) = cosAt (m ((c : Thread nD τ).loc main_arg5)) r l := by
  have hb : ori firstLanes secondLanes (ix2 0 l) = if l.val % 64 < 16 then 1#1 else 0#1 := by
    show firstLanes (ix2 0 l) ||| secondLanes (ix2 0 l) = _
    rw [firstLanes_apply, secondLanes_apply]
    split_ifs <;> first | rfl | omega
  have hx : Host.cos (angles (m ((c : Thread nD τ).loc main_arg5))) (ix2 r l) = Ideal.cos (angles (m ((c : Thread nD τ).loc main_arg5)) (ix2 r l)) := rfl
  rw [cosTable_eq, onLanes_apply, hb, hx, angles_apply, Ideal.ofBits_one_f32]
  unfold cosAt
  by_cases h : l.val % 64 < 16
  · rw [if_pos h, if_pos h]; rfl
  · rw [if_neg h, if_neg h]; rfl

theorem negSinTable_apply (c : Dev nD) (r : Fin 16384) (l : Fin 128) :
    V m c main_v28 (ix2 r l) = negSinAt (m ((c : Thread nD τ).loc main_arg5)) r l := by
  have hx : Host.negf (Host.sin (angles (m ((c : Thread nD τ).loc main_arg5)))) (ix2 r l)
      = -Ideal.sin (angles (m ((c : Thread nD τ).loc main_arg5)) (ix2 r l)) := rfl
  rw [negSinTable_eq, onLanes_apply, firstLanes_apply, hx, angles_apply, Ideal.ofBits_zero_f32]
  unfold negSinAt
  by_cases h : l.val % 64 < 8
  · rw [if_pos h, if_pos h]; rfl
  · rw [if_neg h, if_neg h]; rfl

theorem sinTable_apply (c : Dev nD) (r : Fin 16384) (l : Fin 128) :
    V m c main_v29 (ix2 r l) = sinAt (m ((c : Thread nD τ).loc main_arg5)) r l := by
  have hx : Host.sin (angles (m ((c : Thread nD τ).loc main_arg5))) (ix2 r l)
      = Ideal.sin (angles (m ((c : Thread nD τ).loc main_arg5)) (ix2 r l)) := rfl
  rw [sinTable_eq, onLanes_apply, secondLanes_apply, hx, angles_apply, Ideal.ofBits_zero_f32]
  unfold sinAt
  by_cases h : 8 ≤ l.val % 64 ∧ l.val % 64 < 16
  · rw [if_pos h, if_pos h]; rfl
  · rw [if_neg h, if_neg h]; rfl

end Cert.Kernel3Ideal.InprojBlock

end
-- ==== Proof.Inproj.Array.lean ====
/- The two result arrays of the input projection: the gates, the plain and the activated columns; and the heads, those of
   the queries and of the keys rotated by their rows' positions. -/
module

public import proofs.«01_k».proof.Proof.Inproj.Tables

@[expose] public section

set_option maxRecDepth 16384

noncomputable section

namespace Cert.Kernel3Ideal.InprojBlock

open Cert.Kernel3Ideal Cert.Kernel3Ideal.Gen Idealize.ShloMosaic Idealize.ShloMosaic.TcCoe Idealize.SL.Sem
open Idealize.ShloMosaic.Tactic Cert.Experts

/-- The batch of a row. -/
def batchOf (r : Fin 16384) : Fin 8 := ⟨r.val / 2048, by omega⟩

/-- A row, normalized and modulated, against a column of the weights. -/
def product (x : Vec Ideal S16384x1024 .f32) (g : Vec Ideal S1024 .f32) (sh sc : Vec Ideal S8x1024 .f32) (w : Vec Ideal S2x1024x7680 .f32)
    (r : Fin 16384) (j : Fin 7680) : EReal :=
  ∑ k : Fin 1024, modulated (fun i => x (ix2 r i)) (fun i => g (ix1 i)) (fun i => sc (ix2 (batchOf r) i)) (fun i => sh (ix2 (batchOf r) i)) k
    * w (ix3 0 k j)

/-- The first result array. -/
def otherResult (x : Vec Ideal S16384x1024 .f32) (g : Vec Ideal S1024 .f32) (sh sc : Vec Ideal S8x1024 .f32) (w : Vec Ideal S2x1024x7680 .f32) :
    Vec Ideal S16384x4608 .bf16 :=
  fun i => shaped (i 1) (product x g sh sc w (i 0) (source (i 1)))

/-- The second result array. -/
def headsResult (x : Vec Ideal S16384x1024 .f32) (g : Vec Ideal S1024 .f32) (sh sc : Vec Ideal S8x1024 .f32) (w : Vec Ideal S2x1024x7680 .f32)
    (p : Vec Ideal S8x2048 .i32) : Vec Ideal S24x16384x128 .bf16 :=
  fun i => if (i 0).val < 16 then
      turned (fun l => product x g sh sc w (i 1) (headCol (i 0) l)) (cosAt p (i 1)) (negSinAt p (i 1)) (sinAt p (i 1)) (i 2)
    else product x g sh sc w (i 1) (headCol (i 0) (i 2))

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val / 4, 0, 0] := (by decide +kernel : ∀ t : Fin grid0.N, win0_2.index t = ![t.val / 4, 0, 0])
theorem idx3 : ∀ t : Fin cfg0.N, win0_3.index t = ![t.val / 4, 0, 0] := (by decide +kernel : ∀ t : Fin grid0.N, win0_3.index t = ![t.val / 4, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![0, t.val, 0] := (by decide +kernel : ∀ t : Fin grid0.N, win0_9.index t = ![0, t.val, 0])

/-- Row `s` of a point's block. -/
def rowAt (t : Fin cfg0.N) (s : Fin 512) : Fin 16384 := ⟨t.val * 512 + s.val, by have : t.val < 32 := lt_of_lt_of_eq t.isLt N_0; omega⟩

theorem x_apply (c : Dev nD) (t : Fin cfg0.N) (s : Fin 512) (k : Fin 1024) :
    iblk m c 0 t (ix2 s k) = m ((c : Thread nD τ).loc main_arg0) (ix2 (rowAt t s) k) := by
  blk_ext! [iblk, V, idx0 t] <;> simp only [rowAt] <;> omega

theorem gainTable_eq (c : Dev nD) :
    V m c main_v30 = (shapeCast _ (m ((c : Thread nD τ).loc main_arg1) : Vec Ideal S1024 .f32) shapeCasts_S1024_S1x1024 : Vec Ideal S1x1024 .f32) := rfl
theorem shiftTable_eq (c : Dev nD) :
    V m c main_v31 = (shapeCast _ (m ((c : Thread nD τ).loc main_arg2) : Vec Ideal S8x1024 .f32) shapeCasts_S8x1024_S8x1x1024 : Vec Ideal S8x1x1024 .f32) := rfl
theorem scaleTable_eq (c : Dev nD) :
    V m c main_v32 = (shapeCast _ (m ((c : Thread nD τ).loc main_arg3) : Vec Ideal S8x1024 .f32) shapeCasts_S8x1024_S8x1x1024 : Vec Ideal S8x1x1024 .f32) := rfl

theorem gainCast_apply (x : Vec Ideal S1024 .f32) (i : S1x1024.Idx) :
    (shapeCast _ x shapeCasts_S1024_S1x1024 : Vec Ideal S1x1024 .f32) i = x (ix1 ⟨(i 1).val, (i 1).isLt⟩) := by
  refine shapeCast_apply x _ i _ ?_
  have h0 : (i 0).val < 1 := (i 0).isLt
  rewrite [Shape.rowMajor_val_two, Shape.rowMajor_val_one]
  show (i 1).val = (i 0).val * 1024 + (i 1).val
  omega

theorem batchCast_apply (x : Vec Ideal S8x1024 .f32) (i : S8x1x1024.Idx) :
    (shapeCast _ x shapeCasts_S8x1024_S8x1x1024 : Vec Ideal S8x1x1024 .f32) i = x (ix2 ⟨(i 0).val, (i 0).isLt⟩ ⟨(i 2).val, (i 2).isLt⟩) := by
  refine shapeCast_apply x _ i _ ?_
  have h1 : (i 1).val < 1 := (i 1).isLt
  rewrite [Shape.rowMajor_val_three, Shape.rowMajor_val_two]
  show (i 0).val * 1024 + (i 2).val = ((i 0).val * 1 + (i 1).val) * 1024 + (i 2).val
  omega

theorem g_apply (c : Dev nD) (t : Fin cfg0.N) (k : Fin 1024) :
    iblk m c 1 t (ix2 0 k) = m ((c : Thread nD τ).loc main_arg1) (ix1 k) := by
  refine (congrFun (gainTable_eq m c) _).trans ((gainCast_apply _ _).trans ?_)
  blk_ext [idx1 t]

theorem sh_apply (c : Dev nD) (t : Fin cfg0.N) (s : Fin 512) (k : Fin 1024) :
    iblk m c 2 t (ix3 0 0 k) = m ((c : Thread nD τ).loc main_arg2) (ix2 (batchOf (rowAt t s)) k) := by
  refine (congrFun (shiftTable_eq m c) _).trans ((batchCast_apply _ _).trans ?_)
  blk_ext [idx2 t] <;> simp only [batchOf, rowAt] <;> omega

theorem sc_apply (c : Dev nD) (t : Fin cfg0.N) (s : Fin 512) (k : Fin 1024) :
    iblk m c 3 t (ix3 0 0 k) = m ((c : Thread nD τ).loc main_arg3) (ix2 (batchOf (rowAt t s)) k) := by
  refine (congrFun (scaleTable_eq m c) _).trans ((batchCast_apply _ _).trans ?_)
  blk_ext [idx3 t] <;> simp only [batchOf, rowAt] <;> omega

theorem w_apply (c : Dev nD) (t : Fin cfg0.N) (k : Fin 1024) (j : Fin 7680) :
    iblk m c 4 t (ix3 0 k j) = m ((c : Thread nD τ).loc main_arg4) (ix3 0 k j) := by
  blk_ext! [iblk, V, idx4 t]

theorem cos_apply (c : Dev nD) (t : Fin cfg0.N) (s : Fin 512) (l : Fin 128) :
    iblk m c 5 t (ix2 s l) = cosAt (m ((c : Thread nD τ).loc main_arg5)) (rowAt t s) l := by
  rw [← cosTable_apply]
  blk_ext! [iblk, idx5 t] <;> simp only [rowAt] <;> omega

theorem negSin_apply (c : Dev nD) (t : Fin cfg0.N) (s : Fin 512) (l : Fin 128) :
    iblk m c 6 t (ix2 s l) = negSinAt (m ((c : Thread nD τ).loc main_arg5)) (rowAt t s) l := by
  rw [← negSinTable_apply]
  blk_ext! [iblk, idx6 t] <;> simp only [rowAt] <;> omega

theorem sin_apply (c : Dev nD) (t : Fin cfg0.N) (s : Fin 512) (l : Fin 128) :
    iblk m c 7 t (ix2 s l) = sinAt (m ((c : Thread nD τ).loc main_arg5)) (rowAt t s) l := by
  rw [← sinTable_apply]
  blk_ext! [iblk, idx7 t] <;> simp only [rowAt] <;> omega

/-- The products over the argument arrays. -/
abbrev productAt (c : Dev nD) : Fin 16384 → Fin 7680 → EReal :=
  product (m ((c : Thread nD τ).loc main_arg0)) (m ((c : Thread nD τ).loc main_arg1)) (m ((c : Thread nD τ).loc main_arg2))
    (m ((c : Thread nD τ).loc main_arg3)) (m ((c : Thread nD τ).loc main_arg4))

/-- A block's entry, its five blocks read where they lie in five arrays. -/
theorem entry_congr {x0 : Vec Ideal S512x1024 .f32} {x1 : Vec Ideal S1x1024 .f32} {x2 x3 : Vec Ideal S1x1x1024 .f32} {x4 : Vec Ideal S1x1024x7680 .bf16}
    {x : Vec Ideal S16384x1024 .f32} {g : Vec Ideal S1024 .f32} {sh sc : Vec Ideal S8x1024 .f32} {w : Vec Ideal S2x1024x7680 .f32}
    {s : Fin 512} {r : Fin 16384} (h0 : ∀ k, x0 (ix2 s k) = x (ix2 r k)) (h1 : ∀ k, x1 (ix2 0 k) = g (ix1 k))
    (h2 : ∀ k, x2 (ix3 0 0 k) = sh (ix2 (batchOf r) k)) (h3 : ∀ k, x3 (ix3 0 0 k) = sc (ix2 (batchOf r) k))
    (h4 : ∀ (k : Fin 1024) (j : Fin 7680), x4 (ix3 0 k j) = w (ix3 0 k j)) (j : Fin 7680) :
    entry x0 x1 x2 x3 x4 s j = product x g sh sc w r j := by
  unfold product entry
  refine Finset.sum_congr rfl fun k _ => congrArg₂ (· * ·) ?_ (h4 k j)
  rw [funext h0, funext h1, funext h2, funext h3]

/-- A block's heads, likewise. -/
theorem heads_congr {x0 : Vec Ideal S512x1024 .f32} {x1 : Vec Ideal S1x1024 .f32} {x2 x3 : Vec Ideal S1x1x1024 .f32} {x4 : Vec Ideal S1x1024x7680 .bf16}
    {x5 x6 x7 : Vec Ideal S512x128 .f32} {x : Vec Ideal S16384x1024 .f32} {g : Vec Ideal S1024 .f32} {sh sc : Vec Ideal S8x1024 .f32}
    {w : Vec Ideal S2x1024x7680 .f32} {p : Vec Ideal S8x2048 .i32} {s : Fin 512} {r : Fin 16384}
    (he : ∀ j, entry x0 x1 x2 x3 x4 s j = product x g sh sc w r j) (h5 : ∀ l, x5 (ix2 s l) = cosAt p r l)
    (h6 : ∀ l, x6 (ix2 s l) = negSinAt p r l) (h7 : ∀ l, x7 (ix2 s l) = sinAt p r l) (h : Fin 24) (l : Fin 128) :
    heads x0 x1 x2 x3 x4 x5 x6 x7 (ix3 h s l) = headsResult x g sh sc w p (ix3 h r l) := by
  show (if h.val < 16 then turned (fun l => entry x0 x1 x2 x3 x4 s (headCol h l)) (fun l => x5 (ix2 s l)) (fun l => x6 (ix2 s l)) (fun l => x7 (ix2 s l)) l
      else entry x0 x1 x2 x3 x4 s (headCol h l))
    = if h.val < 16 then turned (fun l => product x g sh sc w r (headCol h l)) (cosAt p r) (negSinAt p r) (sinAt p r) l
      else product x g sh sc w r (headCol h l)
  rw [funext h5, funext h6, funext h7, he]
  simp only [he]

theorem entry_at (c : Dev nD) (t : Fin cfg0.N) (s : Fin 512) (j : Fin 7680) :
    entry (iblk m c 0 t) (iblk m c 1 t) (iblk m c 2 t) (iblk m c 3 t) (iblk m c 4 t) s j = productAt m c (rowAt t s) j :=
  entry_congr (x_apply m c t s) (g_apply m c t) (sh_apply m c t s) (sc_apply m c t s) (w_apply m c t) j

/-- THE FIRST RESULT ARRAY after the run. -/
theorem array8_eq (c : Dev nD) :
    (dats m 0 c).arrAt 8 cfg0.N
      = otherResult (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 8 _ (by decide +kernel) fun t hf y => ?_
  blk_simp
  rw [after0_8]
  obtain ⟨s, j, rfl⟩ : ∃ (s : Fin 512) (j : Fin 4608), y = ix2 s j :=
    ⟨⟨(y 0).val, (y 0).isLt⟩, ⟨(y 1).val, (y 1).isLt⟩, funext fun a => by fin_cases a <;> rfl⟩
  refine (out8_eq _ _ _ _ _ _ _ _ (ix2 s j)).trans ?_
  have e8 : ((cfg0.win 8).blk t).view.emb (ix2 s j) = ix2 (rowAt t s) j := by
    blk_ext [idx8 t] <;> simp only [rowAt] <;> omega
  refine Eq.trans ?_ (congrArg (otherResult _ _ _ _ _) e8).symm
  exact congrArg (shaped j) (entry_at m c t s (source j))

/-- THE SECOND RESULT ARRAY after the run. -/
theorem array9_eq (c : Dev nD) :
    (dats m 0 c).arrAt 9 cfg0.N
      = headsResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  obtain ⟨h, s, l, rfl⟩ : ∃ (h : Fin 24) (s : Fin 512) (l : Fin 128), y = ix3 h s l :=
    ⟨⟨(y 0).val, (y 0).isLt⟩, ⟨(y 1).val, (y 1).isLt⟩, ⟨(y 2).val, (y 2).isLt⟩, funext fun a => by fin_cases a <;> rfl⟩
  refine (out9_eq _ _ _ _ _ _ _ _ (ix3 h s l)).trans ?_
  have e9 : ((cfg0.win 9).blk t).view.emb (ix3 h s l) = ix3 h (rowAt t s) l := by
    blk_ext [idx9 t] <;> simp only [rowAt] <;> omega
  refine Eq.trans ?_ (congrArg (headsResult _ _ _ _ _ _) e9).symm
  exact heads_congr (entry_at m c t s) (cos_apply m c t s) (negSin_apply m c t s) (sin_apply m c t s) h l

end Cert.Kernel3Ideal.InprojBlock

end
-- ==== Proof.Inproj.Pieces.lean ====
/- Three pieces side by side, read at an index in each of them; and the three such layouts of the reference. -/
module

public import proofs.«01_k».proof.Proof.Gen.Reference3Ideal.Read
public import proofs.«01_k».proof.Proof.Inproj.Array
public import Idealize.ShloMosaic.Lib.Pointwise

@[expose] public section

set_option maxRecDepth 16384

noncomputable section

namespace Cert.Reference3Ideal.InprojReference

open Cert.Reference3Ideal Cert.Reference3Ideal.Gen Cert.Reference3Ideal.Read Idealize.ShloMosaic
open Idealize.ShloMosaic.Tactic Cert.Experts

section Three

variable {α : Type} {t s₀ s₁ s₂ : Shape} (a : Fin t.rank) (x₀ : s₀.Idx → α) (x₁ : s₁.Idx → α) (x₂ : s₂.Idx → α)
  (h : Shape.Concatenates [s₀, s₁, s₂] t a) (j : t.Idx)

theorem three_left (hr : s₀.rank = t.rank) (i : s₀.Idx) (hi : ∀ b : Fin s₀.rank, b.cast hr ≠ a → (i b).val = (j (b.cast hr)).val)
    (ha : (i (a.cast hr.symm)).val = (j a).val) :
    concatenate t a [⟨s₀, x₀⟩, ⟨s₁, x₁⟩, ⟨s₂, x₂⟩] h j = x₀ i :=
  concatenate_apply_piece a [⟨s₀, x₀⟩, ⟨s₁, x₁⟩, ⟨s₂, x₂⟩] h j 0 (Nat.zero_lt_succ _) s₀ x₀ rfl hr 0 rfl i hi (by rw [Nat.zero_add]; exact ha)

theorem three_mid (hr : s₁.rank = t.rank) (hr0 : s₀.rank = t.rank) (i : s₁.Idx)
    (hi : ∀ b : Fin s₁.rank, b.cast hr ≠ a → (i b).val = (j (b.cast hr)).val)
    (ha : s₀.size (a.cast hr0.symm) + (i (a.cast hr.symm)).val = (j a).val) :
    concatenate t a [⟨s₀, x₀⟩, ⟨s₁, x₁⟩, ⟨s₂, x₂⟩] h j = x₁ i :=
  concatenate_apply_piece a [⟨s₀, x₀⟩, ⟨s₁, x₁⟩, ⟨s₂, x₂⟩] h j 1 (Nat.succ_lt_succ (Nat.zero_lt_succ _)) s₁ x₁ rfl hr (s₀.size (a.cast hr0.symm))
    (by simp [hr0]) i hi ha

theorem three_right (hr : s₂.rank = t.rank) (hr0 : s₀.rank = t.rank) (hr1 : s₁.rank = t.rank) (i : s₂.Idx)
    (hi : ∀ b : Fin s₂.rank, b.cast hr ≠ a → (i b).val = (j (b.cast hr)).val)
    (ha : s₀.size (a.cast hr0.symm) + s₁.size (a.cast hr1.symm) + (i (a.cast hr.symm)).val = (j a).val) :
    concatenate t a [⟨s₀, x₀⟩, ⟨s₁, x₁⟩, ⟨s₂, x₂⟩] h j = x₂ i :=
  concatenate_apply_piece a [⟨s₀, x₀⟩, ⟨s₁, x₁⟩, ⟨s₂, x₂⟩] h j 2 (Nat.succ_lt_succ (Nat.succ_lt_succ (Nat.zero_lt_succ _))) s₂ x₂ rfl hr
    (s₀.size (a.cast hr0.symm) + s₁.size (a.cast hr1.symm)) (by simp [hr0, hr1]) i hi ha

end Three

/-- The three pieces of the first result side by side. -/
theorem pieces_apply (a : FVec Ideal S8x2048x3072 .f32) (b : FVec Ideal S8x2048x512 .f32) (c : FVec Ideal S8x2048x1024 .f32)
    (q : Fin 8) (s : Fin 2048) (j : Fin 4608) :
    concatenate S8x2048x4608 2 [⟨S8x2048x3072, a⟩, ⟨S8x2048x512, b⟩, ⟨S8x2048x1024, c⟩]
        concatenates_S8x2048x3072_S8x2048x512_S8x2048x1024_S8x2048x4608_d2 (ix3 q s j)
      = if h : j.val < 3072 then a (ix3 q s ⟨j.val, h⟩) else if h' : j.val < 3584 then b (ix3 q s ⟨j.val - 3072, by omega⟩)
        else c (ix3 q s ⟨j.val - 3584, by omega⟩) := by
  have hj := j.isLt
  split_ifs with h h'
  · exact three_left (t := S8x2048x4608) 2 a b c _ _ rfl (ix3 q s ⟨j.val, h⟩)
      (fun b hb => by fin_cases b <;> first | rfl | exact absurd rfl hb) rfl
  · exact three_mid (t := S8x2048x4608) 2 a b c _ _ rfl rfl (ix3 q s ⟨j.val - 3072, by omega⟩)
      (fun b hb => by fin_cases b <;> first | rfl | exact absurd rfl hb) (by show 3072 + (j.val - 3072) = j.val; omega)
  · exact three_right (t := S8x2048x4608) 2 a b c _ _ rfl rfl rfl (ix3 q s ⟨j.val - 3584, by omega⟩)
      (fun b hb => by fin_cases b <;> first | rfl | exact absurd rfl hb) (by show 3072 + 512 + (j.val - 3584) = j.val; omega)

/-- A head's half: its two turned pieces and the rest. -/
theorem half_apply (a b : FVec Ideal S8x2048x8x2x8 .f32) (c : FVec Ideal S8x2048x8x2x48 .f32)
    (q : Fin 8) (s : Fin 2048) (h : Fin 8) (o : Fin 2) (l : Fin 64) :
    concatenate S8x2048x8x2x64 4 [⟨S8x2048x8x2x8, a⟩, ⟨S8x2048x8x2x8, b⟩, ⟨S8x2048x8x2x48, c⟩]
        concatenates_S8x2048x8x2x8_S8x2048x8x2x8_S8x2048x8x2x48_S8x2048x8x2x64_d4 (ix5 q s h o l)
      = if hl : l.val < 8 then a (ix5 q s h o ⟨l.val, hl⟩) else if hl' : l.val < 16 then b (ix5 q s h o ⟨l.val - 8, by omega⟩)
        else c (ix5 q s h o ⟨l.val - 16, by omega⟩) := by
  have hl0 := l.isLt
  split_ifs with hl hl'
  · exact three_left (t := S8x2048x8x2x64) 4 a b c _ _ rfl (ix5 q s h o ⟨l.val, hl⟩)
      (fun b hb => by fin_cases b <;> first | rfl | exact absurd rfl hb) rfl
  · exact three_mid (t := S8x2048x8x2x64) 4 a b c _ _ rfl rfl (ix5 q s h o ⟨l.val - 8, by omega⟩)
      (fun b hb => by fin_cases b <;> first | rfl | exact absurd rfl hb) (by show 8 + (l.val - 8) = l.val; omega)
  · exact three_right (t := S8x2048x8x2x64) 4 a b c _ _ rfl rfl rfl (ix5 q s h o ⟨l.val - 16, by omega⟩)
      (fun b hb => by fin_cases b <;> first | rfl | exact absurd rfl hb) (by show 8 + 8 + (l.val - 16) = l.val; omega)

/-- The heads of the queries, of the keys and of the values one after the other. -/
theorem groups_apply (a b c : FVec Ideal S8x2048x8x128 .f32) (q : Fin 8) (s : Fin 2048) (h : Fin 24) (l : Fin 128) :
    concatenate S8x2048x24x128 2 [⟨S8x2048x8x128, a⟩, ⟨S8x2048x8x128, b⟩, ⟨S8x2048x8x128, c⟩]
        concatenates_S8x2048x8x128_S8x2048x8x128_S8x2048x8x128_S8x2048x24x128_d2 (ix4 q s h l)
      = if hh : h.val < 8 then a (ix4 q s ⟨h.val, hh⟩ l) else if hh' : h.val < 16 then b (ix4 q s ⟨h.val - 8, by omega⟩ l)
        else c (ix4 q s ⟨h.val - 16, by omega⟩ l) := by
  have hh0 := h.isLt
  split_ifs with hh hh'
  · exact three_left (t := S8x2048x24x128) 2 a b c _ _ rfl (ix4 q s ⟨h.val, hh⟩ l)
      (fun b hb => by fin_cases b <;> first | rfl | exact absurd rfl hb) rfl
  · exact three_mid (t := S8x2048x24x128) 2 a b c _ _ rfl rfl (ix4 q s ⟨h.val - 8, by omega⟩ l)
      (fun b hb => by fin_cases b <;> first | rfl | exact absurd rfl hb) (by show 8 + (h.val - 8) = h.val; omega)
  · exact three_right (t := S8x2048x24x128) 2 a b c _ _ rfl rfl rfl (ix4 q s ⟨h.val - 16, by omega⟩ l)
      (fun b hb => by fin_cases b <;> first | rfl | exact absurd rfl hb) (by show 8 + 8 + (h.val - 16) = h.val; omega)

end Cert.Reference3Ideal.InprojReference

end
-- ==== Proof.Inproj.Rows.lean ====
/- The reference input projection read at an index: its normalized rows, their products with the weights, and the first
   result. -/
module

public import proofs.«01_k».proof.Proof.Inproj.Array
public import proofs.«01_k».proof.Proof.Inproj.Pieces
public import Idealize.ShloMosaic.Lib.Pointwise

@[expose] public section

set_option maxRecDepth 16384

noncomputable section

namespace Cert.Reference3Ideal.InprojReference

open Cert.Reference3Ideal Cert.Reference3Ideal.Gen Cert.Reference3Ideal.Read Idealize.ShloMosaic
open Idealize.ShloMosaic.Tactic Cert.Experts Cert.Kernel3Ideal.InprojBlock

variable (x : Vec Ideal S16384x1024 .f32) (g : Vec Ideal S1024 .f32) (sh sc : Vec Ideal S8x1024 .f32) (w : Vec Ideal S2x1024x7680 .f32)
  (p : Vec Ideal S8x2048 .i32)

/-- A row's place in its batch. -/
def placeOf (r : Fin 16384) : Fin 2048 := ⟨r.val % 2048, Nat.mod_lt _ (by norm_num)⟩

/-! ## The normalized rows -/

theorem row_eq (r : Fin 16384) (k : Fin 1024) : val_main_v18 (F := Ideal) x (ix3 (batchOf r) (placeOf r) k) = x (ix2 r k) := by
  rewrite [val_main_v18_apply]
  refine congrArg x (funext fun a => Fin.ext ?_)
  have hr := r.isLt
  have hk := k.isLt
  fin_cases a <;> dsimp [batchOf, placeOf] <;> omega

theorem scale_eq (r : Fin 16384) :
    val_main_v26 (F := Ideal) x (ix3 (batchOf r) (placeOf r) 0)
      = Ideal.rsqrt (Ideal.div (∑ i : Fin 1024, x (ix2 r i) * x (ix2 r i)) (Ideal.ofBits .f32 0x44800000#32) + Ideal.ofBits .f32 0x358637BD#32) := by
  have h21 : idx_main_v21 (ix3 (batchOf r) (placeOf r) 0) = ix2 (batchOf r) (placeOf r) := by funext a; fin_cases a <;> rfl
  have hs : val_main_v20 (F := Ideal) x (ix2 (batchOf r) (placeOf r)) = ∑ i : Fin 1024, x (ix2 r i) * x (ix2 r i) := by
    rewrite [val_main_v20_apply, val_main_cst_3_apply]
    refine (congrArg₂ (· + ·) Ideal.ofBits_zero_f32 (Finset.sum_congr rfl fun k _ => ?_)).trans (zero_add _)
    have hk : idx_main_v20 (ix2 (batchOf r) (placeOf r)) k = ix3 (batchOf r) (placeOf r) k := by funext a; fin_cases a <;> rfl
    rewrite [hk, val_main_v19_apply, row_eq]
    rfl
  rewrite [val_main_v26_apply, val_main_v25_apply, val_main_v23_apply, val_main_v21_apply, val_main_v22_apply, val_main_v24_apply,
    val_main_cst_4_apply, val_main_cst_5_apply, h21, hs]
  rfl

theorem normalized_eq (r : Fin 16384) (k : Fin 1024) :
    val_main_v39 (F := Ideal) x g sh sc (ix3 (batchOf r) (placeOf r) k)
      = modulated (fun i => x (ix2 r i)) (fun i => g (ix1 i)) (fun i => sc (ix2 (batchOf r) i)) (fun i => sh (ix2 (batchOf r) i)) k := by
  have h27 : idx_main_v27 (ix3 (batchOf r) (placeOf r) k) = ix3 (batchOf r) (placeOf r) 0 := by funext a; fin_cases a <;> rfl
  have h29 : idx_main_v29 (idx_main_v30 (ix3 (batchOf r) (placeOf r) k)) = ix1 k := by funext a; fin_cases a; rfl
  have h32 : idx_main_v32 (idx_main_v35 (ix3 (batchOf r) (placeOf r) k)) = ix2 (batchOf r) k := by funext a; fin_cases a <;> rfl
  have h37 : idx_main_v37 (idx_main_v38 (ix3 (batchOf r) (placeOf r) k)) = ix2 (batchOf r) k := by funext a; fin_cases a <;> rfl
  have h1 : val_main_v33 (F := Ideal) (idx_main_v35 (ix3 (batchOf r) (placeOf r) k)) = (1 : EReal) := by
    rewrite [val_main_v33_apply, val_main_cst_6_apply]
    exact Ideal.ofBits_one_f32
  rewrite [val_main_v39_apply, val_main_v36_apply, val_main_v31_apply, val_main_v28_apply, val_main_v27_apply, h27, scale_eq, row_eq,
    val_main_v30_apply, val_main_v29_apply, h29, val_main_v35_apply, val_main_v34_apply, h1, val_main_v32_apply, h32,
    val_main_v38_apply, val_main_v37_apply, h37]
  rfl

/-! ## The products -/

theorem weight_eq (k : Fin 1024) (j : Fin 7680) : val_main_v41 (F := Ideal) w (ix2 k j) = w (ix3 0 k j) := by
  rewrite [val_main_v41_apply, val_main_v40_apply]
  refine congrArg w (funext fun a => Fin.ext ?_)
  have hk := k.isLt
  have hj := j.isLt
  fin_cases a <;> dsimp <;> omega

theorem product_eq (r : Fin 16384) (j : Fin 7680) :
    val_main_v42 (F := Ideal) x g sh sc w (ix3 (batchOf r) (placeOf r) j) = product x g sh sc w r j := by
  rewrite [val_main_v42_apply]
  refine Finset.sum_congr rfl fun k _ => ?_
  have hl : lidx_main_v42 (ix3 (batchOf r) (placeOf r) j) k = ix3 (batchOf r) (placeOf r) k := by funext a; fin_cases a <;> rfl
  have hr : ridx_main_v42 (ix3 (batchOf r) (placeOf r) j) k = ix2 k j := by funext a; fin_cases a <;> rfl
  rewrite [hl, hr, normalized_eq, weight_eq]
  rfl

/-! ## The first result -/

theorem gates_eq (r : Fin 16384) (j : Fin 3072) :
    val_main_v91 (F := Ideal) x g sh sc w (ix3 (batchOf r) (placeOf r) j) = Ideal.logistic (product x g sh sc w r ⟨4608 + j.val, by omega⟩) := by
  have h : val_main_v48 (F := Ideal) x g sh sc w (ix3 (batchOf r) (placeOf r) j) = product x g sh sc w r ⟨4608 + j.val, by omega⟩ := by
    rewrite [val_main_v48_apply, ← product_eq]
    refine congrArg _ (funext fun a => ?_)
    fin_cases a <;> rfl
  rewrite [val_main_v91_apply, val_main_v90_apply, val_main_v89_apply, val_main_v88_apply, val_main_v87_apply, val_main_v86_apply, h,
    val_main_cst_7_apply, val_main_cst_8_apply]
  generalize product x g sh sc w r ⟨4608 + j.val, by omega⟩ = a
  show Ideal.div (Ideal.ofBits .f32 0x3F800000#32) (Ideal.ofBits .f32 0x3F800000#32 + Ideal.exp (-a)) = Ideal.logistic a
  rw [Ideal.ofBits_one_f32]
  rfl

theorem plain_eq (r : Fin 16384) (j : Fin 512) :
    val_main_v46 (F := Ideal) x g sh sc w (ix3 (batchOf r) (placeOf r) j) = product x g sh sc w r ⟨3072 + j.val, by omega⟩ := by
  rewrite [val_main_v46_apply, ← product_eq]
  refine congrArg _ (funext fun a => ?_)
  fin_cases a <;> rfl

theorem activated_eq (r : Fin 16384) (j : Fin 1024) :
    val_main_v104 (F := Ideal) x g sh sc w (ix3 (batchOf r) (placeOf r) j) = activated (product x g sh sc w r ⟨3584 + j.val, by omega⟩) := by
  have h : val_main_v47 (F := Ideal) x g sh sc w (ix3 (batchOf r) (placeOf r) j) = product x g sh sc w r ⟨3584 + j.val, by omega⟩ := by
    rewrite [val_main_v47_apply, ← product_eq]
    refine congrArg _ (funext fun a => ?_)
    fin_cases a <;> rfl
  rewrite [val_main_v104_apply, val_main_v103_apply, val_main_v102_apply, val_main_v101_apply, val_main_v100_apply, val_main_v99_apply,
    val_main_v98_apply, val_main_v97_apply, val_main_v96_apply, val_main_v95_apply, val_main_v94_apply, val_main_v93_apply,
    val_main_v92_apply, h, val_main_cst_9_apply, val_main_cst_10_apply, val_main_cst_11_apply, val_main_cst_12_apply]
  generalize product x g sh sc w r ⟨3584 + j.val, by omega⟩ = a
  show a * (Ideal.ofBits .f32 0x3F000000#32 * (Ideal.ofBits .f32 0x3F800000#32
      + Ideal.tanh (Ideal.ofBits .f32 0x3F4C422A#32 * (a + Ideal.ofBits .f32 0x3D372713#32 * (a * a * a))))) = activated a
  rw [Ideal.ofBits_one_f32, ← mul_assoc, mul_comm a]
  rfl

/-- The reference's first array is `otherResult`. -/
theorem other_equation : val_main_v109 (F := Ideal) x g sh sc w = otherResult x g sh sc w := by
  funext i
  obtain ⟨r, j, rfl⟩ : ∃ (r : Fin 16384) (j : Fin 4608), i = ix2 r j :=
    ⟨⟨(i 0).val, (i 0).isLt⟩, ⟨(i 1).val, (i 1).isLt⟩, funext fun a => by fin_cases a <;> rfl⟩
  have hi : idx_main_v108 (ix2 r j) = ix3 (batchOf r) (placeOf r) j := by
    funext a
    refine Fin.ext ?_
    have hr := r.isLt
    have hj := j.isLt
    fin_cases a <;> dsimp [batchOf, placeOf] <;> omega
  rewrite [val_main_v109_apply, val_main_v108_apply, hi]
  refine (pieces_apply _ _ _ (batchOf r) (placeOf r) j).trans ?_
  show _ = shaped j (product x g sh sc w r (source j))
  unfold shaped source
  by_cases h : j.val < 3072
  · rw [dif_pos h, dif_pos h, if_pos h, gates_eq]
  · rw [dif_neg h, dif_neg h, if_neg h]
    by_cases h' : j.val < 3584
    · rw [dif_pos h', if_pos h', plain_eq]
      exact congrArg (product x g sh sc w r) (Fin.ext (by show 3072 + (j.val - 3072) = j.val; omega))
    · rw [dif_neg h', if_neg h', activated_eq]
      exact congrArg (fun t => activated (product x g sh sc w r t)) (Fin.ext (by show 3584 + (j.val - 3584) = j.val; omega))

end Cert.Reference3Ideal.InprojReference

end
-- ==== Proof.Inproj.Equation.lean ====
/- The reference's rotation read at an index, and the equations: the reference's two arrays are the kernel's. -/
module

public import proofs.«01_k».proof.Proof.Inproj.Rows

@[expose] public section

set_option maxRecDepth 16384

noncomputable section

namespace Cert.Reference3Ideal.InprojReference

open Cert.Reference3Ideal Cert.Reference3Ideal.Gen Cert.Reference3Ideal.Read Idealize.ShloMosaic
open Idealize.ShloMosaic.Tactic Cert.Experts Cert.Kernel3Ideal.InprojBlock

variable (x : Vec Ideal S16384x1024 .f32) (g : Vec Ideal S1024 .f32) (sh sc : Vec Ideal S8x1024 .f32) (w : Vec Ideal S2x1024x7680 .f32)
  (p : Vec Ideal S8x2048 .i32)

/-! ## The angles -/

theorem freqs_eq : val_main_v9 (F := Ideal) = freqs := rfl

theorem angle_eq (r : Fin 16384) (f : Fin 8) :
    val_main_v15 (F := Ideal) p (ix3 (batchOf r) (placeOf r) f) = angle (p (positionOf r)) f := by
  have h1 : idx_main_v11 (idx_main_v13 (ix3 (batchOf r) (placeOf r) f)) = positionOf r := by funext a; fin_cases a <;> rfl
  have h2 : idx_main_v12 (idx_main_v14 (ix3 (batchOf r) (placeOf r) f)) = ix1 f := by funext a; fin_cases a; rfl
  rewrite [val_main_v15_apply, val_main_v13_apply, val_main_v14_apply, val_main_v11_apply, val_main_v12_apply, val_main_v10_apply, h1, h2,
    freqs_eq]
  rfl

theorem cos_eq (r : Fin 16384) (h : Fin 8) (o : Fin 2) (f : Fin 8) :
    val_main_v55 (F := Ideal) p (ix5 (batchOf r) (placeOf r) h o f) = Ideal.cos (angle (p (positionOf r)) f) := by
  have hi : idx_main_v53 (idx_main_v55 (ix5 (batchOf r) (placeOf r) h o f)) = ix3 (batchOf r) (placeOf r) f := by funext a; fin_cases a <;> rfl
  rewrite [val_main_v55_apply, val_main_v53_apply, hi, val_main_v16_apply, angle_eq]
  rfl

theorem sin_eq (r : Fin 16384) (h : Fin 8) (o : Fin 2) (f : Fin 8) :
    val_main_v57 (F := Ideal) p (ix5 (batchOf r) (placeOf r) h o f) = Ideal.sin (angle (p (positionOf r)) f) := by
  have hi : idx_main_v54 (idx_main_v57 (ix5 (batchOf r) (placeOf r) h o f)) = ix3 (batchOf r) (placeOf r) f := by funext a; fin_cases a <;> rfl
  rewrite [val_main_v57_apply, val_main_v54_apply, hi, val_main_v17_apply, angle_eq]
  rfl

/-! ## A head's rotation -/

/-- The kernel's rotation lane by lane: the first eight lanes of a half with the eight after them, these with those, and
    the rest as they are. -/
theorem turned_eq (t : Fin 128 → EReal) (r : Fin 16384) (l : Fin 128) :
    turned t (cosAt p r) (negSinAt p r) (sinAt p r) l
      = if l.val % 64 < 8 then t l * Ideal.cos (angle (p (positionOf r)) (freqOf l)) - t (laneUp l) * Ideal.sin (angle (p (positionOf r)) (freqOf l))
        else if l.val % 64 < 16 then
          t (laneDown l) * Ideal.sin (angle (p (positionOf r)) (freqOf l)) + t l * Ideal.cos (angle (p (positionOf r)) (freqOf l))
        else t l := by
  unfold turned cosAt negSinAt sinAt
  by_cases h : l.val % 64 < 8
  · rw [if_pos h, if_pos h, if_pos (by omega), if_neg (by omega), mul_zero, add_zero, mul_neg, sub_eq_add_neg]
  · rw [if_neg h, if_neg h]
    by_cases h' : l.val % 64 < 16
    · rw [if_pos h', if_pos h', if_pos ⟨by omega, h'⟩, mul_zero, add_zero, add_comm]
    · rw [if_neg h', if_neg h', if_neg (by omega), mul_zero, mul_zero, add_zero, add_zero, mul_one]

/-- Eight heads turned: two pieces of eight lanes a half, by the positions' angles, and the rest. -/
def turnedHeads (f s : FVec Ideal S8x2048x8x2x8 .f32) (rest : FVec Ideal S8x2048x8x2x48 .f32) : FVec Ideal S8x2048x8x128 .f32 :=
  shapeCast _ (concatenate S8x2048x8x2x64 4
    [⟨S8x2048x8x2x8, subf (mulf f (val_main_v55 (F := Ideal) p)) (mulf s (val_main_v57 (F := Ideal) p))⟩,
      ⟨S8x2048x8x2x8, addf (mulf f (val_main_v57 (F := Ideal) p)) (mulf s (val_main_v55 (F := Ideal) p))⟩, ⟨S8x2048x8x2x48, rest⟩]
    concatenates_S8x2048x8x2x8_S8x2048x8x2x8_S8x2048x8x2x48_S8x2048x8x2x64_d4) shapeCasts_S8x2048x8x2x64_S8x2048x8x128

/-- A lane's half, and its place there. -/
def halfOf (l : Fin 128) : Fin 2 := ⟨l.val / 64, by omega⟩
def inHalf (l : Fin 128) : Fin 64 := ⟨l.val % 64, Nat.mod_lt _ (by norm_num)⟩

theorem halves_apply (y : FVec Ideal S8x2048x8x2x64 .f32) (b : Fin 8) (s : Fin 2048) (h : Fin 8) (l : Fin 128) :
    (shapeCast _ y shapeCasts_S8x2048x8x2x64_S8x2048x8x128 : FVec Ideal S8x2048x8x128 .f32) (ix4 b s h l) = y (ix5 b s h (halfOf l) (inHalf l)) := by
  refine shapeCast_apply y _ _ _ ?_
  rewrite [Shape.rowMajor_val_five, Shape.rowMajor_val_four]
  show (((b.val * 2048 + s.val) * 8 + h.val) * 2 + l.val / 64) * 64 + l.val % 64 = ((b.val * 2048 + s.val) * 8 + h.val) * 128 + l.val
  omega

theorem turnedHeads_apply (f s : FVec Ideal S8x2048x8x2x8 .f32) (rest : FVec Ideal S8x2048x8x2x48 .f32) (t : Fin 128 → EReal)
    (r : Fin 16384) (h : Fin 8)
    (hf : ∀ (o : Fin 2) (k : Fin 8), f (ix5 (batchOf r) (placeOf r) h o k) = t ⟨64 * o.val + k.val, by omega⟩)
    (hs : ∀ (o : Fin 2) (k : Fin 8), s (ix5 (batchOf r) (placeOf r) h o k) = t ⟨64 * o.val + k.val + 8, by omega⟩)
    (hr : ∀ (o : Fin 2) (k : Fin 48), rest (ix5 (batchOf r) (placeOf r) h o k) = t ⟨64 * o.val + k.val + 16, by omega⟩) (l : Fin 128) :
    turnedHeads p f s rest (ix4 (batchOf r) (placeOf r) h l) = turned t (cosAt p r) (negSinAt p r) (sinAt p r) l := by
  have hl := l.isLt
  refine (halves_apply _ _ _ _ _).trans ((half_apply _ _ _ _ _ _ _ _).trans ?_)
  rw [turned_eq]
  by_cases h8 : l.val % 64 < 8
  · rw [dif_pos (show (inHalf l).val < 8 from h8), if_pos h8]
    show f _ * val_main_v55 (F := Ideal) p _ - s _ * val_main_v57 (F := Ideal) p _ = _
    rw [hf, hs, cos_eq, sin_eq]
    have e1 : (⟨64 * (halfOf l).val + (inHalf l).val, by simp only [halfOf, inHalf]; omega⟩ : Fin 128) = l :=
      Fin.ext (by simp only [halfOf, inHalf]; omega)
    have e2 : (⟨64 * (halfOf l).val + (inHalf l).val + 8, by simp only [halfOf, inHalf]; omega⟩ : Fin 128) = laneUp l :=
      Fin.ext (by simp only [halfOf, inHalf, laneUp]; omega)
    have e3 : (⟨(inHalf l).val, h8⟩ : Fin 8) = freqOf l := Fin.ext (by simp only [inHalf, freqOf]; omega)
    rw [e1, e2, e3]
  · rw [dif_neg (show ¬(inHalf l).val < 8 from h8), if_neg h8]
    by_cases h16 : l.val % 64 < 16
    · rw [dif_pos (show (inHalf l).val < 16 from h16), if_pos h16]
      show f _ * val_main_v57 (F := Ideal) p _ + s _ * val_main_v55 (F := Ideal) p _ = _
      rw [hf, hs, cos_eq, sin_eq]
      have e1 : (⟨64 * (halfOf l).val + ((inHalf l).val - 8), by simp only [halfOf, inHalf]; omega⟩ : Fin 128) = laneDown l :=
        Fin.ext (by simp only [halfOf, inHalf, laneDown]; omega)
      have e2 : (⟨64 * (halfOf l).val + ((inHalf l).val - 8) + 8, by simp only [halfOf, inHalf]; omega⟩ : Fin 128) = l :=
        Fin.ext (by simp only [halfOf, inHalf]; omega)
      have e3 : (⟨(inHalf l).val - 8, by simp only [inHalf]; omega⟩ : Fin 8) = freqOf l := Fin.ext (by simp only [inHalf, freqOf]; omega)
      rw [e1, e2, e3]
    · rw [dif_neg (show ¬(inHalf l).val < 16 from h16), if_neg h16, hr]
      exact congrArg t (Fin.ext (by simp only [halfOf, inHalf]; omega))

/-! ## The heads -/

theorem queries_at (r : Fin 16384) (h : Fin 8) (o : Fin 2) (l : Fin 64) :
    val_main_v49 (F := Ideal) x g sh sc w (ix5 (batchOf r) (placeOf r) h o l) = product x g sh sc w r ⟨128 * h.val + (64 * o.val + l.val), by omega⟩ := by
  rewrite [val_main_v49_apply, val_main_v43_apply, ← product_eq]
  refine congrArg _ (funext fun a => Fin.ext ?_)
  have hb := (batchOf r).isLt
  have hp := (placeOf r).isLt
  have hh := h.isLt
  have ho := o.isLt
  have hl := l.isLt
  fin_cases a <;> dsimp <;> omega

theorem keys_at (r : Fin 16384) (h : Fin 8) (o : Fin 2) (l : Fin 64) :
    val_main_v67 (F := Ideal) x g sh sc w (ix5 (batchOf r) (placeOf r) h o l)
      = product x g sh sc w r ⟨128 * (h.val + 8) + (64 * o.val + l.val), by omega⟩ := by
  rewrite [val_main_v67_apply, val_main_v44_apply, ← product_eq]
  refine congrArg _ (funext fun a => Fin.ext ?_)
  have hb := (batchOf r).isLt
  have hp := (placeOf r).isLt
  have hh := h.isLt
  have ho := o.isLt
  have hl := l.isLt
  fin_cases a <;> dsimp <;> omega

theorem values_eq (r : Fin 16384) (h : Fin 8) (l : Fin 128) :
    val_main_v85 (F := Ideal) x g sh sc w (ix4 (batchOf r) (placeOf r) h l) = product x g sh sc w r (headCol ⟨h.val + 16, by omega⟩ l) := by
  rewrite [val_main_v85_apply, val_main_v45_apply, ← product_eq]
  refine congrArg _ (funext fun a => Fin.ext ?_)
  have hb := (batchOf r).isLt
  have hp := (placeOf r).isLt
  have hh := h.isLt
  have hl := l.isLt
  fin_cases a <;> dsimp [headCol] <;> omega

theorem queries_eq (r : Fin 16384) (h : Fin 8) (l : Fin 128) :
    val_main_v66 (F := Ideal) x g sh sc w p (ix4 (batchOf r) (placeOf r) h l)
      = turned (fun l => product x g sh sc w r (headCol ⟨h.val, by omega⟩ l)) (cosAt p r) (negSinAt p r) (sinAt p r) l := by
  have e : val_main_v66 (F := Ideal) x g sh sc w p = turnedHeads p (val_main_v50 (F := Ideal) x g sh sc w) (val_main_v51 (F := Ideal) x g sh sc w)
      (val_main_v52 (F := Ideal) x g sh sc w) := rfl
  rewrite [e]
  refine turnedHeads_apply p _ _ _ (fun l => product x g sh sc w r (headCol ⟨h.val, by omega⟩ l)) r h (fun o k => ?_) (fun o k => ?_) (fun o k => ?_) l
  · have hi : idx_main_v50 (ix5 (batchOf r) (placeOf r) h o k) = ix5 (batchOf r) (placeOf r) h o ⟨k.val, by omega⟩ := by funext a; fin_cases a <;> rfl
    rewrite [val_main_v50_apply, hi, queries_at]
    rfl
  · have hi : idx_main_v51 (ix5 (batchOf r) (placeOf r) h o k) = ix5 (batchOf r) (placeOf r) h o ⟨k.val + 8, by omega⟩ := by
      funext a; refine Fin.ext ?_; fin_cases a <;> dsimp <;> omega
    rewrite [val_main_v51_apply, hi, queries_at]
    rfl
  · have hi : idx_main_v52 (ix5 (batchOf r) (placeOf r) h o k) = ix5 (batchOf r) (placeOf r) h o ⟨k.val + 16, by omega⟩ := by
      funext a; refine Fin.ext ?_; fin_cases a <;> dsimp <;> omega
    rewrite [val_main_v52_apply, hi, queries_at]
    rfl

theorem keys_eq (r : Fin 16384) (h : Fin 8) (l : Fin 128) :
    val_main_v84 (F := Ideal) x g sh sc w p (ix4 (batchOf r) (placeOf r) h l)
      = turned (fun l => product x g sh sc w r (headCol ⟨h.val + 8, by omega⟩ l)) (cosAt p r) (negSinAt p r) (sinAt p r) l := by
  have e : val_main_v84 (F := Ideal) x g sh sc w p = turnedHeads p (val_main_v68 (F := Ideal) x g sh sc w) (val_main_v69 (F := Ideal) x g sh sc w)
      (val_main_v70 (F := Ideal) x g sh sc w) := rfl
  rewrite [e]
  refine turnedHeads_apply p _ _ _ (fun l => product x g sh sc w r (headCol ⟨h.val + 8, by omega⟩ l)) r h (fun o k => ?_) (fun o k => ?_) (fun o k => ?_) l
  · have hi : idx_main_v68 (ix5 (batchOf r) (placeOf r) h o k) = ix5 (batchOf r) (placeOf r) h o ⟨k.val, by omega⟩ := by funext a; fin_cases a <;> rfl
    rewrite [val_main_v68_apply, hi, keys_at]
    rfl
  · have hi : idx_main_v69 (ix5 (batchOf r) (placeOf r) h o k) = ix5 (batchOf r) (placeOf r) h o ⟨k.val + 8, by omega⟩ := by
      funext a; refine Fin.ext ?_; fin_cases a <;> dsimp <;> omega
    rewrite [val_main_v69_apply, hi, keys_at]
    rfl
  · have hi : idx_main_v70 (ix5 (batchOf r) (placeOf r) h o k) = ix5 (batchOf r) (placeOf r) h o ⟨k.val + 16, by omega⟩ := by
      funext a; refine Fin.ext ?_; fin_cases a <;> dsimp <;> omega
    rewrite [val_main_v70_apply, hi, keys_at]
    rfl

/-- The reference's second array is `headsResult`. -/
theorem heads_equation : val_main_v111 (F := Ideal) x g sh sc w p = headsResult x g sh sc w p := by
  funext i
  obtain ⟨h, r, l, rfl⟩ : ∃ (h : Fin 24) (r : Fin 16384) (l : Fin 128), i = ix3 h r l :=
    ⟨⟨(i 0).val, (i 0).isLt⟩, ⟨(i 1).val, (i 1).isLt⟩, ⟨(i 2).val, (i 2).isLt⟩, funext fun a => by fin_cases a <;> rfl⟩
  have h110 : idx_main_v110 (ix3 h r l) = ix4 h (batchOf r) (placeOf r) l := by
    funext a
    refine Fin.ext ?_
    have hh := h.isLt
    have hr := r.isLt
    have hl := l.isLt
    fin_cases a <;> dsimp [batchOf, placeOf] <;> omega
  have h107 : idx_main_v107 (ix4 h (batchOf r) (placeOf r) l) = ix4 (batchOf r) (placeOf r) h l := by funext a; fin_cases a <;> rfl
  rewrite [val_main_v111_apply, val_main_v110_apply, h110, val_main_v107_apply, h107]
  refine (groups_apply _ _ _ (batchOf r) (placeOf r) h l).trans ?_
  show _ = if h.val < 16 then turned (fun l => product x g sh sc w r (headCol h l)) (cosAt p r) (negSinAt p r) (sinAt p r) l
    else product x g sh sc w r (headCol h l)
  by_cases h8 : h.val < 8
  · rw [dif_pos h8, if_pos (by omega), queries_eq]
  · rw [dif_neg h8]
    by_cases h16 : h.val < 16
    · have e : (⟨h.val - 8 + 8, by omega⟩ : Fin 24) = h := Fin.ext (by show h.val - 8 + 8 = h.val; omega)
      rw [dif_pos h16, if_pos h16, keys_eq, e]
    · have e : (⟨h.val - 16 + 16, by omega⟩ : Fin 24) = h := Fin.ext (by show h.val - 16 + 16 = h.val; omega)
      rw [dif_neg h16, if_neg h16, values_eq, e]

end Cert.Reference3Ideal.InprojReference

end
-- ==== Proof.Inproj.Claim.lean ====
/- The input projection's value claim: both programs run, and leave the same two arrays. -/
module

public import proofs.«01_k».proof.Defs
public import proofs.«01_k».proof.Proof.Inproj.Equation
public import proofs.«01_k».proof.Proof.Gen.Kernel3Ideal.Value
public import proofs.«01_k».proof.Proof.Gen.Reference3Ideal.Run

@[expose] public section

set_option maxRecDepth 16384

noncomputable section

namespace Cert.Inproj

open Idealize.ShloMosaic Idealize.ShloMosaic.TcCoe Idealize.SL.Sem Cert.Kernel3Ideal.InprojBlock

/-- The input projection's kernel and its reference, from the same arguments, end with the same arrays. -/
theorem algebraic : Cert.algebraic_Kernel3Ideal_Reference3Ideal := by
  intro m g m' g' hp hargs
  refine ⟨fun c => otherResult (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)),
    fun c => headsResult (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)), ?_, ?_⟩
  · refine (θ_run Cert.Kernel3Ideal.defs _ _).mono (fun r h c => ?_) (Cert.Kernel3Ideal.Value.run_blocks m g)
    exact ⟨(h c).1.trans (array8_eq m c), (h c).2.1.trans (array9_eq m c), (h c).2.2⟩
  · refine (θ_run Cert.Reference3Ideal.defs _ _).mono (fun r h c => ?_) (Cert.Reference3Ideal.Value.run m' g')
    refine ⟨(h c).1.trans ?_, (h c).2.1.trans ?_, (h c).2.2⟩
    · obtain ⟨h0, h1, h2, h3, h4, h5⟩ := hargs c
      rw [Cert.Reference3Ideal.Read.val_main_v109_eq, h0, h1, h2, h3, h4]
      exact Cert.Reference3Ideal.InprojReference.other_equation _ _ _ _ _
    · obtain ⟨h0, h1, h2, h3, h4, h5⟩ := hargs c
      rw [Cert.Reference3Ideal.Read.val_main_v111_eq, h0, h1, h2, h3, h4, h5]
      exact Cert.Reference3Ideal.InprojReference.heads_equation _ _ _ _ _ _

end Cert.Inproj

end
-- ==== Proof.Merge.Step.lean ====
/- The values one grid point of the merge computes for 256 rows: the gated sum of the three branches' projections, the
   residual stream, its normalized rows, and the experts' affinities of a row. -/
module

public import proofs.«01_k».proof.Proof.Gen.Kernel4Ideal.Value
public import proofs.«01_k».proof.Proof.Inproj.Array
public import proofs.«01_k».proof.Proof.Attn.Tile
public import Idealize.ShloMosaic.Lib.Pointwise
public import Idealize.ShloMosaic.Lib.KernelVsHost
public import Idealize.ShloMosaic.Lib.Pipeline.ValueKit.Tiles

@[expose] public section

set_option maxRecDepth 16384

noncomputable section

namespace Cert.Kernel4Ideal.MergeBlock

open Cert.Kernel4Ideal Cert.Kernel4Ideal.Gen Idealize.ShloMosaic Idealize.ShloMosaic.TcCoe Idealize.SL.Sem
open Idealize.ShloMosaic.Tactic Cert.Experts
open Cert.Kernel3Ideal.InprojBlock (modulated)

/-- Column `j` of the first, the second, the third gate. -/
def gate0 (j : Fin 1024) : Fin 3072 := ⟨j.val, by omega⟩
def gate1 (j : Fin 1024) : Fin 3072 := ⟨1024 + j.val, by omega⟩
def gate2 (j : Fin 1024) : Fin 3072 := ⟨2048 + j.val, by omega⟩

/-- A row of the three branches, each through its matrix, gated and added up. -/
def merged (a : Fin 1024 → EReal) (b c : Fin 512 → EReal) (g : Fin 3072 → EReal) (pa : Fin 1024 → Fin 1024 → EReal)
    (pb pc : Fin 512 → Fin 1024 → EReal) (j : Fin 1024) : EReal :=
  g (gate0 j) * (∑ k, a k * pa k j) + g (gate1 j) * (∑ k, b k * pb k j) + g (gate2 j) * ∑ k, c k * pc k j

/-- A row of the residual stream. -/
def stream (x gt mg : Fin 1024 → EReal) (wo : Fin 1024 → Fin 1024 → EReal) (j : Fin 1024) : EReal := x j + gt j * ∑ k, mg k * wo k j

/-- A row's score for an expert as the kernel adds it up: the product, the weights' rests and the row's rests. -/
def score (h : Fin 1024 → EReal) (w : Fin 16 → Fin 1024 → EReal) (e : Fin 16) : EReal :=
  (∑ k, w e k * h k) + (∑ k, (w e k - w e k) * h k) + ∑ k, w e k * (h k - h k)

/-- The share of each of sixteen scores. -/
def share (l : Fin 16 → EReal) (e : Fin 16) : EReal :=
  Ideal.div (Ideal.exp (l e - Finset.univ.sup l)) (∑ e, Ideal.exp (l e - Finset.univ.sup l))

/-- A head, and a lane of it, of a column. -/
def headIn (k : Fin 1024) : Fin 8 := ⟨k.val / 128, by omega⟩
def laneIn (k : Fin 1024) : Fin 128 := ⟨k.val % 128, Nat.mod_lt _ (by norm_num)⟩

/-- Eight heads' rows side by side. -/
theorem heads_apply (v : Fin 8 → FVec Ideal S256x128 .bf16) (s : Fin 256) (k : Fin 1024) :
    concatenate S256x1024 1 [⟨S256x128, v 0⟩, ⟨S256x128, v 1⟩, ⟨S256x128, v 2⟩, ⟨S256x128, v 3⟩, ⟨S256x128, v 4⟩, ⟨S256x128, v 5⟩,
        ⟨S256x128, v 6⟩, ⟨S256x128, v 7⟩]
        concatenates_S256x128_S256x128_S256x128_S256x128_S256x128_S256x128_S256x128_S256x128_S256x1024_d1 (ix2 s k)
      = v (headIn k) (ix2 s (laneIn k)) :=
  concatenate_ofFn_apply (t := S256x1024) (s₁ := S256x128) 1 v
    concatenates_S256x128_S256x128_S256x128_S256x128_S256x128_S256x128_S256x128_S256x128_S256x1024_d1 rfl 128 rfl (ix2 s k) (headIn k) rfl
    (ix2 s (laneIn k)) rfl (fun b hb => by fin_cases b <;> first | rfl | exact absurd rfl hb)

theorem flat_apply (x : Vec Ideal S1x256x128 .bf16) (s : Fin 256) (l : Fin 128) :
    (shapeCast S256x128 x shapeCasts_S1x256x128_S256x128 : FVec Ideal S256x128 .bf16) (ix2 s l) = x (ix3 0 s l) := by
  pointwise []

theorem first_apply (v : Fin 8 → Vec Ideal S1x256x128 .bf16) (w : Vec Ideal S1024x1024 .bf16) (s : Fin 256) (j : Fin 1024) :
    k0_pay2 (v 0) (v 1) (v 2) (v 3) (v 4) (v 5) (v 6) (v 7) w (ix2 s j) = ∑ k : Fin 1024, v (headIn k) (ix3 0 s (laneIn k)) * w (ix2 k j) := by
  have e := heads_apply (fun n => shapeCast S256x128 (v n) shapeCasts_S1x256x128_S256x128) s
  have e' : ∀ k, shapeCast S256x128 (v (headIn k)) shapeCasts_S1x256x128_S256x128 (ix2 s (laneIn k)) = v (headIn k) (ix3 0 s (laneIn k)) :=
    fun k => flat_apply _ _ _
  simp only [e'] at e
  simp only [← e]
  unfold k0_pay2
  generalize (concatenate S256x1024 1 _ _ : FVec Ideal S256x1024 .bf16) = q
  pointwise []

theorem second_apply (b : Vec Ideal S256x512 .bf16) (w : Vec Ideal S512x1024 .bf16) (s : Fin 256) (j : Fin 1024) :
    k0_pay3 b w (ix2 s j) = ∑ k : Fin 512, b (ix2 s k) * w (ix2 k j) := by
  pointwise [k0_pay3]

theorem stream_apply (y0 y1 y2 : FVec Ideal S256x1024 .f32) (g0 g1 g2 : Vec Ideal S256x1024 .bf16) (x : Vec Ideal S256x1024 .f32)
    (gt : Vec Ideal S1x1x1024 .f32) (w : Vec Ideal S1024x1024 .bf16) (s : Fin 256) (j : Fin 1024) :
    k0_pay9 y0 y1 y2 g0 g1 g2 x gt w (ix2 s j)
      = stream (fun i => x (ix2 s i)) (fun i => gt (ix3 0 0 i))
          (fun i => g0 (ix2 s i) * y0 (ix2 s i) + g1 (ix2 s i) * y1 (ix2 s i) + g2 (ix2 s i) * y2 (ix2 s i)) (fun k i => w (ix2 k i)) j := by
  pointwise [k0_pay9]
  rfl

/-- The normalized rows of a stream. -/
def normalized (x : FVec Ideal S256x1024 .f32) (g : Vec Ideal S1x1024 .f32) (sc sh : Vec Ideal S1x1x1024 .f32) : FVec Ideal S256x1024 .f32 :=
  k0_pay11 x
    (addf (divf (shapeCast S256x1 (multiReduction .add [1] S256 (mulf x x) 0x00000000#32 reduces_S256x1024_S256 (.inl rfl) rfl) shapeCasts_S256_S256x1)
        (broadcast S256x1 (Scalar.ofBits (F := Ideal) .f32 0x44800000#32))) (broadcast S256x1 (Scalar.ofBits (F := Ideal) .f32 0x358637BD#32)))
    g sc sh

theorem normalized_apply (x : FVec Ideal S256x1024 .f32) (g : Vec Ideal S1x1024 .f32) (sc sh : Vec Ideal S1x1x1024 .f32) (s : Fin 256)
    (k : Fin 1024) :
    normalized x g sc sh (ix2 s k)
      = modulated (fun i => x (ix2 s i)) (fun i => g (ix2 0 i)) (fun i => sc (ix3 0 0 i)) (fun i => sh (ix3 0 0 i)) k := by
  pointwise [normalized, k0_pay11]
  rfl

/-- The scores of the rows for the experts. -/
def scores (h : FVec Ideal S256x1024 .f32) (w : FVec Ideal S16x1024 .f32) : FVec Ideal S16x256 .f32 :=
  have v182 : FVec Ideal S16x1024 .bf16 := truncf .bf16 w bitsLt_bf16_f32
  have v183 : FVec Ideal S16x1024 .f32 := extf .f32 v182 bitsLt_bf16_f32
  have v184 : FVec Ideal S16x1024 .f32 := subf w v183
  have v185 : FVec Ideal S16x1024 .bf16 := truncf .bf16 v184 bitsLt_bf16_f32
  have v186 : FVec Ideal S256x1024 .bf16 := truncf .bf16 h bitsLt_bf16_f32
  have v187 : FVec Ideal S256x1024 .f32 := extf .f32 v186 bitsLt_bf16_f32
  have v188 : FVec Ideal S256x1024 .f32 := subf h v187
  have v189 : FVec Ideal S256x1024 .bf16 := truncf .bf16 v188 bitsLt_bf16_f32
  have v190 : FVec Ideal S32x1024 .bf16 := concatenate S32x1024 0 [⟨S16x1024, v182⟩, ⟨S16x1024, v185⟩] concatenates_S16x1024_S16x1024_S32x1024_d0
  have cst_160 : FVec Ideal S32x256 .f32 := constant S32x256 .f32 0x00000000#32
  have v191 : FVec Ideal S32x256 .f32 := matmul dot_S32x1024_S256x1024_S32x256_1_1_0_0_n_n none v190 v186 cst_160
  have v192 : FVec Ideal S16x256 .f32 := extractStridedSlice S16x256 ![0, 0] v191 slices_S32x256_o0_0_S16x256
  have v193 : FVec Ideal S16x256 .f32 := extractStridedSlice S16x256 ![16, 0] v191 slices_S32x256_o16_0_S16x256
  have v194 : FVec Ideal S16x256 .f32 := addf v192 v193
  have cst_161 : FVec Ideal S16x256 .f32 := constant S16x256 .f32 0x00000000#32
  have v195 : FVec Ideal S16x256 .f32 := matmul dot_S16x1024_S256x1024_S16x256_1_1_0_0_n_n none v182 v189 cst_161
  addf v194 v195

/-- The shares of the scores. -/
def shares (v196 : FVec Ideal S16x256 .f32) : FVec Ideal S16x256 .f32 :=
  have v197 : FVec Ideal S256 .f32 := multiReduction .maximumf [0] S256 v196 0xFF800000#32 reduces_S16x256_S256 (.inl rfl) rfl
  have v198 : FVec Ideal S1x256 .f32 := shapeCast S1x256 v197 shapeCasts_S256_S1x256
  have v199 : FVec Ideal S16x256 .f32 := broadcastTo S16x256 v198 broadcasts_S1x256_S16x256
  have v200 : FVec Ideal S16x256 .f32 := subf v196 v199
  have v201 : FVec Ideal S16x256 .f32 := exp v200
  have v202 : FVec Ideal S256 .f32 := multiReduction .add [0] S256 v201 0x00000000#32 reduces_S16x256_S256 (.inl rfl) rfl
  have v203 : FVec Ideal S1x256 .f32 := shapeCast S1x256 v202 shapeCasts_S256_S1x256
  have v204 : FVec Ideal S16x256 .f32 := broadcastTo S16x256 v203 broadcasts_S1x256_S16x256
  divf v201 v204

theorem affinities_eq (h : FVec Ideal S256x1024 .f32) (w : FVec Ideal S16x1024 .f32) : k0_pay26 h w = shares (scores h w) := rfl

theorem scores_apply (h : FVec Ideal S256x1024 .f32) (w : FVec Ideal S16x1024 .f32) (e : Fin 16) (s : Fin 256) :
    scores h w (ix2 e s) = score (fun k => h (ix2 s k)) (fun e k => w (ix2 e k)) e := by
  pointwise [scores]
  rfl

theorem shares_apply (l : FVec Ideal S16x256 .f32) (e : Fin 16) (s : Fin 256) :
    shares l (ix2 e s) = share (fun e => l (ix2 e s)) e := by
  pointwise [shares]
  rw [Cert.KernelIdeal.AttnBlock.ofBits_neg_inf]
  rfl

end Cert.Kernel4Ideal.MergeBlock

end
-- ==== Proof.Merge.Forms.lean ====
/- The later sub-blocks' values of the merge, each the first sub-block's at its own rows. -/
module

public import proofs.«01_k».proof.Proof.Merge.Step

@[expose] public section

set_option maxRecDepth 16384

noncomputable section

namespace Cert.Kernel4Ideal.MergeBlock

open Cert.Kernel4Ideal Cert.Kernel4Ideal.Gen Idealize.ShloMosaic Idealize.ShloMosaic.TcCoe Idealize.SL.Sem
open Idealize.ShloMosaic.Tactic Cert.Experts

section Projections

variable (v0 v1 v2 v3 v4 v5 v6 v7 : Vec Ideal S1x256x128 .bf16) (w : Vec Ideal S1024x1024 .bf16) (b : Vec Ideal S256x512 .bf16)
  (u : Vec Ideal S512x1024 .bf16)

theorem first2 : k0_pay5 v0 v1 v2 v3 v4 v5 v6 v7 w = k0_pay2 v0 v1 v2 v3 v4 v5 v6 v7 w := rfl
theorem first3 : k0_pay18 (k0_pay13 v0) (k0_pay14 v1) (k0_pay15 v2) (k0_pay16 v3) (k0_pay17 v4) v5 v6 v7 w
    = k0_pay2 v0 v1 v2 v3 v4 v5 v6 v7 w := rfl
theorem first4 : k0_pay32 (k0_pay27 v0) (k0_pay28 v1) (k0_pay29 v2) (k0_pay30 v3) (k0_pay31 v4) v5 v6 v7 w
    = k0_pay2 v0 v1 v2 v3 v4 v5 v6 v7 w := rfl
theorem other1 : k0_pay4 b u = k0_pay3 b u := rfl
theorem other2 : k0_pay7 b (k0_pay6 u) = k0_pay3 b u := rfl
theorem other2' : k0_pay8 b u = k0_pay3 b u := rfl
theorem other3 : k0_pay19 b u = k0_pay3 b u := rfl
theorem other3' : k0_pay20 b u = k0_pay3 b u := rfl
theorem other4 : k0_pay33 b u = k0_pay3 b u := rfl
theorem other4' : k0_pay34 b u = k0_pay3 b u := rfl

end Projections

section Streams

variable (y0 y1 y2 : FVec Ideal S256x1024 .f32) (g0 g1 g2 : Vec Ideal S256x1024 .bf16) (x : Vec Ideal S256x1024 .f32)
  (gt : Vec Ideal S1x1x1024 .f32) (w : Vec Ideal S1024x1024 .bf16) (g : Vec Ideal S1x1024 .f32) (sc sh : Vec Ideal S1x1x1024 .f32)

theorem stream2 : k0_pay22 (k0_pay21 y0 y1 y2 g0 g1 g2) x gt w = k0_pay9 y0 y1 y2 g0 g1 g2 x gt w := rfl
theorem stream3 : k0_pay36 (k0_pay35 y0 y1 y2 g0 g1 g2) x gt w = k0_pay9 y0 y1 y2 g0 g1 g2 x gt w := rfl
theorem stream4 : k0_pay42 x (k0_pay40 gt) (k0_pay41 y0 y1 y2 g0 g1 g2) w = k0_pay9 y0 y1 y2 g0 g1 g2 x gt w := rfl

theorem normal1 : k0_pay11 (k0_pay9 y0 y1 y2 g0 g1 g2 x gt w) (k0_pay10 y0 y1 y2 g0 g1 g2 x gt w) g sc sh
    = normalized (k0_pay9 y0 y1 y2 g0 g1 g2 x gt w) g sc sh := rfl
theorem normal2 : k0_pay23 (k0_pay21 y0 y1 y2 g0 g1 g2) x gt w g sc sh = normalized (k0_pay9 y0 y1 y2 g0 g1 g2 x gt w) g sc sh := rfl
theorem normal3 : k0_pay37 (k0_pay35 y0 y1 y2 g0 g1 g2) x gt w g sc sh = normalized (k0_pay9 y0 y1 y2 g0 g1 g2 x gt w) g sc sh := rfl
theorem normal4 : k0_pay43 x (k0_pay40 gt) (k0_pay41 y0 y1 y2 g0 g1 g2) w g sc sh
    = normalized (k0_pay9 y0 y1 y2 g0 g1 g2 x gt w) g sc sh := rfl

/-- The normalized rows as they are stored. -/
def stored (h : FVec Ideal S256x1024 .f32) : FVec Ideal S256x1024 .bf16 := truncf .bf16 h bitsLt_bf16_f32

theorem stored1 : k0_pay12 (k0_pay9 y0 y1 y2 g0 g1 g2 x gt w) (k0_pay10 y0 y1 y2 g0 g1 g2 x gt w) g sc sh
    = stored (normalized (k0_pay9 y0 y1 y2 g0 g1 g2 x gt w) g sc sh) := rfl
theorem stored2 : k0_pay24 (k0_pay21 y0 y1 y2 g0 g1 g2) x gt w g sc sh = stored (normalized (k0_pay9 y0 y1 y2 g0 g1 g2 x gt w) g sc sh) := rfl
theorem stored3 : k0_pay38 (k0_pay35 y0 y1 y2 g0 g1 g2) x gt w g sc sh = stored (normalized (k0_pay9 y0 y1 y2 g0 g1 g2 x gt w) g sc sh) := rfl
theorem stored4 : k0_pay44 x (k0_pay40 gt) (k0_pay41 y0 y1 y2 g0 g1 g2) w g sc sh
    = stored (normalized (k0_pay9 y0 y1 y2 g0 g1 g2 x gt w) g sc sh) := rfl

end Streams

section Routes

variable (h : FVec Ideal S256x1024 .f32) (w : Vec Ideal S16x1024 .f32)

/-- The rows' shares for the experts. -/
def routed : FVec Ideal S16x256 .f32 := shares (scores h (k0_pay25 w))

theorem routed1 : k0_pay26 h (k0_pay25 w) = routed h w := rfl
theorem routed2 : k0_pay39 h w = routed h w := rfl
theorem routed3 : k0_pay48 h (k0_pay46 w) (k0_pay47 w) = routed h w := rfl
theorem routed4 : k0_pay1 (k0_pay49 h w) (k0_pay50 h w) = routed h w := rfl

theorem routed_apply (e : Fin 16) (s : Fin 256) :
    routed h w (ix2 e s) = share (score (fun k => h (ix2 s k)) (fun e k => w (ix2 e k))) e := by
  have e0 : ∀ e k, k0_pay25 w (ix2 e k) = w (ix2 e k) := fun e k => by pointwise [k0_pay25]
  unfold routed
  rw [shares_apply]
  refine congrArg (fun l => share l e) (funext fun e => ?_)
  rw [scores_apply]
  simp only [e0]

end Routes

end Cert.Kernel4Ideal.MergeBlock

end
-- ==== Proof.Merge.Block.lean ====
/- The three output blocks of one grid point of the merge: four stores of 256 rows each. -/
module

public import proofs.«01_k».proof.Proof.Merge.Forms
public import Idealize.ShloMosaic.Lib.Pipeline.Value

@[expose] public section

set_option maxRecDepth 16384

noncomputable section

namespace Cert.Kernel4Ideal.MergeBlock

open Cert.Kernel4Ideal Cert.Kernel4Ideal.Gen Idealize.ShloMosaic Idealize.ShloMosaic.TcCoe Idealize.SL.Sem
open Idealize.ShloMosaic.Tactic Cert.Experts
open Cert.Kernel3Ideal.InprojBlock (modulated)

/-- Row `o + s` of a block. -/
def rowIn (o : ℕ) (ho : o + 256 ≤ 1024) (s : Fin 256) : Fin 1024 := ⟨o + s.val, by omega⟩

/-- 256 rows of a block of two axes, read at an index. -/
theorem part_apply {n k : ℕ} {e : EltTy} (x : Vec Ideal ⟨2, ![1024, n]⟩ e) (o q : ℕ) (ho : o + 256 ≤ 1024)
    (inb : ∀ a : Fin 2, ![o, q] a + ![256, k] a ≤ (⟨2, ![1024, n]⟩ : Shape).size a) (s : Fin 256) (j : Fin k) (c : Fin n)
    (hc : c.val = q + j.val) :
    View.ld (Val := Elt Ideal) (e' := e) x (Rect.unit (s := ⟨2, ![1024, n]⟩) ![o, q] ![256, k] inb) (ix2 s j) = x (ix2 (rowIn o ho s) c) := by
  refine congrArg x (funext fun a => ?_)
  fin_cases a
  · exact Fin.ext (by show o + 1 * s.val = o + s.val; omega)
  · exact Fin.ext (by show q + 1 * j.val = c.val; omega)

/-- 256 rows of a head. -/
theorem head_apply (x : Vec Ideal S8x1024x128 .bf16) (o : ℕ) (ho : o + 256 ≤ 1024) (n : Fin 8)
    (inb : ∀ a : Fin 3, ![n.val, o, 0] a + ![1, 256, 128] a ≤ S8x1024x128.size a) (s : Fin 256) (l : Fin 128) :
    View.ld (Val := Elt Ideal) (e' := .bf16) x (Rect.unit (s := S8x1024x128) ![n.val, o, 0] ![1, 256, 128] inb) (ix3 0 s l)
      = x (ix3 n (rowIn o ho s) l) := by
  refine congrArg x (funext fun a => ?_)
  fin_cases a
  · exact Fin.ext (by show n.val + 1 * 0 = n.val; omega)
  · exact Fin.ext (by show o + 1 * s.val = o + s.val; omega)
  · exact Fin.ext (by show 0 + 1 * l.val = l.val; omega)

theorem inb_rows (o n q k : ℕ) (ho : o + 256 ≤ 1024) (hq : q + k ≤ n) (a : Fin 2) :
    ![o, q] a + ![256, k] a ≤ (⟨2, ![1024, n]⟩ : Shape).size a := by
  fin_cases a
  · exact ho
  · exact hq

theorem inb_head (o : ℕ) (ho : o + 256 ≤ 1024) (n : Fin 8) (a : Fin 3) : ![n.val, o, 0] a + ![1, 256, 128] a ≤ S8x1024x128.size a := by
  fin_cases a
  · show n.val + 1 ≤ 8; omega
  · exact ho
  · show 0 + 128 ≤ 128; omega

theorem squareWhole (x : Vec Ideal S1024x1024 .bf16) (inb : ∀ a : Fin 2, ![0, 0] a + ![1024, 1024] a ≤ S1024x1024.size a) :
    View.ld (Val := Elt Ideal) (e' := .bf16) x (Rect.unit (s := S1024x1024) ![0, 0] ![1024, 1024] inb) = x :=
  View.ld_unit_zero (S := S1024x1024) (by decide) inb x

theorem lowWhole (x : Vec Ideal S512x1024 .bf16) (inb : ∀ a : Fin 2, ![0, 0] a + ![512, 1024] a ≤ S512x1024.size a) :
    View.ld (Val := Elt Ideal) (e' := .bf16) x (Rect.unit (s := S512x1024) ![0, 0] ![512, 1024] inb) = x :=
  View.ld_unit_zero (S := S512x1024) (by decide) inb x

theorem vectorWhole (x : Vec Ideal S1x1x1024 .f32) (inb : ∀ a : Fin 3, ![0, 0, 0] a + ![1, 1, 1024] a ≤ S1x1x1024.size a) :
    View.ld (Val := Elt Ideal) (e' := .f32) x (Rect.unit (s := S1x1x1024) ![0, 0, 0] ![1, 1, 1024] inb) = x :=
  View.ld_unit_zero (S := S1x1x1024) (by decide) inb x

theorem gainWhole (x : Vec Ideal S1x1024 .f32) (inb : ∀ a : Fin 2, ![0, 0] a + ![1, 1024] a ≤ S1x1024.size a) :
    View.ld (Val := Elt Ideal) (e' := .f32) x (Rect.unit (s := S1x1024) ![0, 0] ![1, 1024] inb) = x :=
  View.ld_unit_zero (S := S1x1024) (by decide) inb x

theorem routerWhole (x : Vec Ideal S16x1024 .f32) (inb : ∀ a : Fin 2, ![0, 0] a + ![16, 1024] a ≤ S16x1024.size a) :
    View.ld (Val := Elt Ideal) (e' := .f32) x (Rect.unit (s := S16x1024) ![0, 0] ![16, 1024] inb) = x :=
  View.ld_unit_zero (S := S16x1024) (by decide) inb x

theorem merge_congr {a b c p q t p' q' t' : EReal} (h : t = t') (hp : p = p') (hq : q = q') :
    a * t + b * p + c * q = a * t' + b * p' + c * q' := by rw [h, hp, hq]

section Rows

variable (x0 : Vec Ideal S8x1024x128 .bf16)
  (x1 : Vec Ideal S1024x512 .bf16)
  (x2 : Vec Ideal S1024x512 .bf16)
  (x3 : Vec Ideal S1024x3072 .bf16)
  (x4 : Vec Ideal S1024x1024 .f32)
  (x5 : Vec Ideal S1024x1024 .bf16)
  (x6 : Vec Ideal S512x1024 .bf16)
  (x7 : Vec Ideal S512x1024 .bf16)
  (x8 : Vec Ideal S1024x1024 .bf16)
  (x9 : Vec Ideal S1x1x1024 .f32)
  (x10 : Vec Ideal S1x1024 .f32)
  (x11 : Vec Ideal S1x1x1024 .f32)
  (x12 : Vec Ideal S1x1x1024 .f32)
  (x13 : Vec Ideal S16x1024 .f32)

/-- A row of the block: its three branches merged. -/
def mergedRow (s : Fin 1024) : Fin 1024 → EReal :=
  merged (fun k => x0 (ix3 (headIn k) s (laneIn k))) (fun k => x1 (ix2 s k)) (fun k => x2 (ix2 s k)) (fun j => x3 (ix2 s j))
    (fun k j => x5 (ix2 k j)) (fun k j => x6 (ix2 k j)) (fun k j => x7 (ix2 k j))

/-- A row of the block: its residual stream. -/
def streamRow (s : Fin 1024) : Fin 1024 → EReal :=
  stream (fun j => x4 (ix2 s j)) (fun j => x9 (ix3 0 0 j)) (mergedRow x0 x1 x2 x3 x5 x6 x7 s) (fun k j => x8 (ix2 k j))

/-- A row of the block, normalized and modulated. -/
def normalRow (s : Fin 1024) : Fin 1024 → EReal :=
  modulated (streamRow x0 x1 x2 x3 x4 x5 x6 x7 x8 x9 s) (fun j => x10 (ix2 0 j)) (fun j => x12 (ix3 0 0 j)) (fun j => x11 (ix3 0 0 j))

/-- A row's shares for the experts. -/
def shareRow (s : Fin 1024) : Fin 16 → EReal :=
  share (score (normalRow x0 x1 x2 x3 x4 x5 x6 x7 x8 x9 x10 x11 x12 s) (fun e k => x13 (ix2 e k)))

/-- The stream of 256 rows. -/
def streamAt (o : ℕ) (ho : o + 256 ≤ 1024) : FVec Ideal S256x1024 .f32 :=
  k0_pay9
    (k0_pay2 (View.ld (Val := Elt Ideal) (e' := .bf16) x0 (Rect.unit (s := S8x1024x128) ![0, o, 0] ![1, 256, 128] (inb_head o ho 0)))
      (View.ld (Val := Elt Ideal) (e' := .bf16) x0 (Rect.unit (s := S8x1024x128) ![1, o, 0] ![1, 256, 128] (inb_head o ho 1)))
      (View.ld (Val := Elt Ideal) (e' := .bf16) x0 (Rect.unit (s := S8x1024x128) ![2, o, 0] ![1, 256, 128] (inb_head o ho 2)))
      (View.ld (Val := Elt Ideal) (e' := .bf16) x0 (Rect.unit (s := S8x1024x128) ![3, o, 0] ![1, 256, 128] (inb_head o ho 3)))
      (View.ld (Val := Elt Ideal) (e' := .bf16) x0 (Rect.unit (s := S8x1024x128) ![4, o, 0] ![1, 256, 128] (inb_head o ho 4)))
      (View.ld (Val := Elt Ideal) (e' := .bf16) x0 (Rect.unit (s := S8x1024x128) ![5, o, 0] ![1, 256, 128] (inb_head o ho 5)))
      (View.ld (Val := Elt Ideal) (e' := .bf16) x0 (Rect.unit (s := S8x1024x128) ![6, o, 0] ![1, 256, 128] (inb_head o ho 6)))
      (View.ld (Val := Elt Ideal) (e' := .bf16) x0 (Rect.unit (s := S8x1024x128) ![7, o, 0] ![1, 256, 128] (inb_head o ho 7)))
      x5)
    (k0_pay3 (View.ld (Val := Elt Ideal) (e' := .bf16) x1 (Rect.unit (s := S1024x512) ![o, 0] ![256, 512] (inb_rows o 512 0 512 ho (by norm_num)))) x6)
    (k0_pay3 (View.ld (Val := Elt Ideal) (e' := .bf16) x2 (Rect.unit (s := S1024x512) ![o, 0] ![256, 512] (inb_rows o 512 0 512 ho (by norm_num)))) x7)
    (View.ld (Val := Elt Ideal) (e' := .bf16) x3 (Rect.unit (s := S1024x3072) ![o, 0] ![256, 1024] (inb_rows o 3072 0 1024 ho (by norm_num))))
    (View.ld (Val := Elt Ideal) (e' := .bf16) x3 (Rect.unit (s := S1024x3072) ![o, 1024] ![256, 1024] (inb_rows o 3072 1024 1024 ho (by norm_num))))
    (View.ld (Val := Elt Ideal) (e' := .bf16) x3 (Rect.unit (s := S1024x3072) ![o, 2048] ![256, 1024] (inb_rows o 3072 2048 1024 ho (by norm_num))))
    (View.ld (Val := Elt Ideal) (e' := .f32) x4 (Rect.unit (s := S1024x1024) ![o, 0] ![256, 1024] (inb_rows o 1024 0 1024 ho (by norm_num)))) x9 x8

theorem streamAt_apply (o : ℕ) (ho : o + 256 ≤ 1024) (s : Fin 256) (j : Fin 1024) :
    streamAt x0 x1 x2 x3 x4 x5 x6 x7 x8 x9 o ho (ix2 s j) = streamRow x0 x1 x2 x3 x4 x5 x6 x7 x8 x9 (rowIn o ho s) j := by
  unfold streamAt streamRow
  rw [stream_apply]
  have h1 : ∀ (x : Vec Ideal S1024x512 .bf16) i, View.ld (Val := Elt Ideal) (e' := .bf16) x
      (Rect.unit (s := S1024x512) ![o, 0] ![256, 512] (inb_rows o 512 0 512 ho (by norm_num))) (ix2 s i) = x (ix2 (rowIn o ho s) i) :=
    fun x i => part_apply x o 0 ho _ s i i (Nat.zero_add _).symm
  have g0 : ∀ i, View.ld (Val := Elt Ideal) (e' := .bf16) x3
      (Rect.unit (s := S1024x3072) ![o, 0] ![256, 1024] (inb_rows o 3072 0 1024 ho (by norm_num))) (ix2 s i) = x3 (ix2 (rowIn o ho s) (gate0 i)) :=
    fun i => part_apply x3 o 0 ho _ s i _ (Nat.zero_add _).symm
  have g1 : ∀ i, View.ld (Val := Elt Ideal) (e' := .bf16) x3
      (Rect.unit (s := S1024x3072) ![o, 1024] ![256, 1024] (inb_rows o 3072 1024 1024 ho (by norm_num))) (ix2 s i) = x3 (ix2 (rowIn o ho s) (gate1 i)) :=
    fun i => part_apply x3 o 1024 ho _ s i _ rfl
  have g2 : ∀ i, View.ld (Val := Elt Ideal) (e' := .bf16) x3
      (Rect.unit (s := S1024x3072) ![o, 2048] ![256, 1024] (inb_rows o 3072 2048 1024 ho (by norm_num))) (ix2 s i) = x3 (ix2 (rowIn o ho s) (gate2 i)) :=
    fun i => part_apply x3 o 2048 ho _ s i _ rfl
  have h4 : ∀ i, View.ld (Val := Elt Ideal) (e' := .f32) x4
      (Rect.unit (s := S1024x1024) ![o, 0] ![256, 1024] (inb_rows o 1024 0 1024 ho (by norm_num))) (ix2 s i) = x4 (ix2 (rowIn o ho s) i) :=
    fun i => part_apply x4 o 0 ho _ s i i (Nat.zero_add _).symm
  have y0 : ∀ i, _ = _ := fun i => first_apply (fun n => View.ld (Val := Elt Ideal) (e' := .bf16) x0
    (Rect.unit (s := S8x1024x128) ![n.val, o, 0] ![1, 256, 128] (inb_head o ho n))) x5 s i
  simp only [head_apply x0 o ho] at y0
  refine congrArg₂ (fun p q => stream p _ q _ j) (funext h4) (funext fun i => ?_)
  unfold mergedRow merged
  rw [second_apply, second_apply, g0, g1, g2]
  exact merge_congr (y0 i) (Finset.sum_congr rfl fun k _ => congrArg (· * x6 (ix2 k i)) (h1 x1 k))
    (Finset.sum_congr rfl fun k _ => congrArg (· * x7 (ix2 k i)) (h1 x2 k))

/-- The 256 rows, normalized. -/
def normalAt (o : ℕ) (ho : o + 256 ≤ 1024) : FVec Ideal S256x1024 .f32 :=
  normalized (streamAt x0 x1 x2 x3 x4 x5 x6 x7 x8 x9 o ho) x10 x12 x11

theorem normalAt_apply (o : ℕ) (ho : o + 256 ≤ 1024) (s : Fin 256) (j : Fin 1024) :
    normalAt x0 x1 x2 x3 x4 x5 x6 x7 x8 x9 x10 x11 x12 o ho (ix2 s j)
      = normalRow x0 x1 x2 x3 x4 x5 x6 x7 x8 x9 x10 x11 x12 (rowIn o ho s) j := by
  unfold normalAt normalRow
  rw [normalized_apply]
  exact congrArg (fun p => modulated p _ _ _ j) (funext fun i => streamAt_apply x0 x1 x2 x3 x4 x5 x6 x7 x8 x9 o ho s i)

theorem rowIn_emb (o : ℕ) (ho : o + 256 ≤ 1024) (inb : ∀ a : Fin 2, ![o, 0] a + ![256, 1024] a ≤ S1024x1024.size a) (s : Fin 256) (j : Fin 1024) :
    (Rect.unit (s := S1024x1024) ![o, 0] ![256, 1024] inb).emb (ix2 s j) = ix2 (rowIn o ho s) j := by
  funext a
  fin_cases a
  · exact Fin.ext (by show o + 1 * s.val = o + s.val; omega)
  · exact Fin.ext (by show 0 + 1 * j.val = j.val; omega)

/-- The three blocks. -/
def streamBlock : Vec Ideal S1024x1024 .f32 := fun y => streamRow x0 x1 x2 x3 x4 x5 x6 x7 x8 x9 (y 0) (y 1)
def normalBlock : Vec Ideal S1024x1024 .bf16 := fun y => normalRow x0 x1 x2 x3 x4 x5 x6 x7 x8 x9 x10 x11 x12 (y 0) (y 1)
def shareBlock : Vec Ideal S16x1024 .f32 := fun y => shareRow x0 x1 x2 x3 x4 x5 x6 x7 x8 x9 x10 x11 x12 x13 (y 1) (y 0)

theorem stream_piece (o : ℕ) (ho : o + 256 ≤ 1024) (inb : ∀ a : Fin 2, ![o, 0] a + ![256, 1024] a ≤ S1024x1024.size a) (y : S256x1024.Idx) :
    streamAt x0 x1 x2 x3 x4 x5 x6 x7 x8 x9 o ho y
      = streamBlock x0 x1 x2 x3 x4 x5 x6 x7 x8 x9 ((Rect.unit (s := S1024x1024) ![o, 0] ![256, 1024] inb).emb y) := by
  obtain ⟨s, j, rfl⟩ : ∃ s j, y = ix2 s j := ⟨y 0, y 1, by funext a; fin_cases a <;> rfl⟩
  rw [rowIn_emb o ho]
  exact streamAt_apply x0 x1 x2 x3 x4 x5 x6 x7 x8 x9 o ho s j

theorem normal_piece (o : ℕ) (ho : o + 256 ≤ 1024) (inb : ∀ a : Fin 2, ![o, 0] a + ![256, 1024] a ≤ S1024x1024.size a) (y : S256x1024.Idx) :
    stored (normalAt x0 x1 x2 x3 x4 x5 x6 x7 x8 x9 x10 x11 x12 o ho) y
      = normalBlock x0 x1 x2 x3 x4 x5 x6 x7 x8 x9 x10 x11 x12 ((Rect.unit (s := S1024x1024) ![o, 0] ![256, 1024] inb).emb y) := by
  obtain ⟨s, j, rfl⟩ : ∃ s j, y = ix2 s j := ⟨y 0, y 1, by funext a; fin_cases a <;> rfl⟩
  rw [rowIn_emb o ho]
  exact normalAt_apply x0 x1 x2 x3 x4 x5 x6 x7 x8 x9 x10 x11 x12 o ho s j

theorem share_piece (o : ℕ) (ho : o + 256 ≤ 1024) (inb : ∀ a : Fin 2, ![0, o] a + ![16, 256] a ≤ S16x1024.size a) (y : S16x256.Idx) :
    routed (normalAt x0 x1 x2 x3 x4 x5 x6 x7 x8 x9 x10 x11 x12 o ho) x13 y
      = shareBlock x0 x1 x2 x3 x4 x5 x6 x7 x8 x9 x10 x11 x12 x13 ((Rect.unit (s := S16x1024) ![0, o] ![16, 256] inb).emb y) := by
  obtain ⟨e, s, rfl⟩ : ∃ e s, y = ix2 e s := ⟨y 0, y 1, by funext a; fin_cases a <;> rfl⟩
  have he : (Rect.unit (s := S16x1024) ![0, o] ![16, 256] inb).emb (ix2 e s) = ix2 e (rowIn o ho s) := by
    funext a
    fin_cases a
    · exact Fin.ext (by show 0 + 1 * e.val = e.val; omega)
    · exact Fin.ext (by show o + 1 * s.val = o + s.val; omega)
  rw [he, routed_apply]
  exact congrArg (fun h => share (score h _) e) (funext fun k => normalAt_apply x0 x1 x2 x3 x4 x5 x6 x7 x8 x9 x10 x11 x12 o ho s k)

end Rows

section Blocks

variable (c : Dev nD) (i : grid0.Coords)
  (arg1 : Memref sig .tc .vmem S8x1024x128 .bf16) (harg1 : arg1.IsWhole)
  (arg2 : Memref sig .tc .vmem S1024x512 .bf16) (harg2 : arg2.IsWhole)
  (arg3 : Memref sig .tc .vmem S1024x512 .bf16) (harg3 : arg3.IsWhole)
  (arg4 : Memref sig .tc .vmem S1024x3072 .bf16) (harg4 : arg4.IsWhole)
  (arg5 : Memref sig .tc .vmem S1024x1024 .f32) (harg5 : arg5.IsWhole)
  (arg6 : Memref sig .tc .vmem S1024x1024 .bf16) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S1024x1024 .bf16) (harg9 : arg9.IsWhole)
  (arg10 : Memref sig .tc .vmem S1x1x1024 .f32) (harg10 : arg10.IsWhole)
  (arg11 : Memref sig .tc .vmem S1x1024 .f32) (harg11 : arg11.IsWhole)
  (arg12 : Memref sig .tc .vmem S1x1x1024 .f32) (harg12 : arg12.IsWhole)
  (arg13 : Memref sig .tc .vmem S1x1x1024 .f32) (harg13 : arg13.IsWhole)
  (arg14 : Memref sig .tc .vmem S16x1024 .f32) (harg14 : arg14.IsWhole)
  (arg15 : Memref sig .tc .vmem S1024x1024 .f32) (harg15 : arg15.IsWhole)
  (arg16 : Memref sig .tc .vmem S1024x1024 .bf16) (harg16 : arg16.IsWhole)
  (arg17 : Memref sig .tc .vmem S16x1024 .f32) (harg17 : arg17.IsWhole)
  (x0 : Vec Ideal S8x1024x128 .bf16)
  (x1 : Vec Ideal S1024x512 .bf16)
  (x2 : Vec Ideal S1024x512 .bf16)
  (x3 : Vec Ideal S1024x3072 .bf16)
  (x4 : Vec Ideal S1024x1024 .f32)
  (x5 : Vec Ideal S1024x1024 .bf16)
  (x6 : Vec Ideal S512x1024 .bf16)
  (x7 : Vec Ideal S512x1024 .bf16)
  (x8 : Vec Ideal S1024x1024 .bf16)
  (x9 : Vec Ideal S1x1x1024 .f32)
  (x10 : Vec Ideal S1x1024 .f32)
  (x11 : Vec Ideal S1x1x1024 .f32)
  (x12 : Vec Ideal S1x1x1024 .f32)
  (x13 : Vec Ideal S16x1024 .f32)

theorem out14_eq (y : S1024x1024.Idx) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y = streamBlock x0 x1 x2 x3 x4 x5 x6 x7 x8 x9 y := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13)]
  refine View.canon_apply_of_pieces (Val := Elt Ideal) (e := .f32) (streamBlock x0 x1 x2 x3 x4 x5 x6 x7 x8 x9) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y)
  unfold kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  simp only [first2, first3, first4, other1, other2, other2', other3, other3', other4, other4', stream2, stream3, stream4,
    normal1, normal2, normal3, normal4, stored1, stored2, stored3, stored4, routed1, routed2, routed3, routed4]
  rw [List.forall_mem_cons, List.forall_mem_cons, List.forall_mem_cons, List.forall_mem_cons]
  simp only [squareWhole, lowWhole, vectorWhole, gainWhole, routerWhole]
  exact ⟨stream_piece x0 x1 x2 x3 x4 x5 x6 x7 x8 x9 768 (by norm_num) inb_S1024x1024_S256x1024_768_0,
    stream_piece x0 x1 x2 x3 x4 x5 x6 x7 x8 x9 512 (by norm_num) inb_S1024x1024_S256x1024_512_0,
    stream_piece x0 x1 x2 x3 x4 x5 x6 x7 x8 x9 256 (by norm_num) inb_S1024x1024_S256x1024_256_0,
    stream_piece x0 x1 x2 x3 x4 x5 x6 x7 x8 x9 0 (by norm_num) inb_S1024x1024_S256x1024_0_0,
    fun p hp => absurd hp List.not_mem_nil⟩

theorem out15_eq (y : S1024x1024.Idx) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y = normalBlock x0 x1 x2 x3 x4 x5 x6 x7 x8 x9 x10 x11 x12 y := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13)]
  refine View.canon_apply_of_pieces (Val := Elt Ideal) (e := .bf16) (normalBlock x0 x1 x2 x3 x4 x5 x6 x7 x8 x9 x10 x11 x12) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y)
  unfold kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  simp only [first2, first3, first4, other1, other2, other2', other3, other3', other4, other4', stream2, stream3, stream4,
    normal1, normal2, normal3, normal4, stored1, stored2, stored3, stored4, routed1, routed2, routed3, routed4]
  rw [List.forall_mem_cons, List.forall_mem_cons, List.forall_mem_cons, List.forall_mem_cons]
  simp only [squareWhole, lowWhole, vectorWhole, gainWhole, routerWhole]
  exact ⟨normal_piece x0 x1 x2 x3 x4 x5 x6 x7 x8 x9 x10 x11 x12 768 (by norm_num) inb_S1024x1024_S256x1024_768_0,
    normal_piece x0 x1 x2 x3 x4 x5 x6 x7 x8 x9 x10 x11 x12 512 (by norm_num) inb_S1024x1024_S256x1024_512_0,
    normal_piece x0 x1 x2 x3 x4 x5 x6 x7 x8 x9 x10 x11 x12 256 (by norm_num) inb_S1024x1024_S256x1024_256_0,
    normal_piece x0 x1 x2 x3 x4 x5 x6 x7 x8 x9 x10 x11 x12 0 (by norm_num) inb_S1024x1024_S256x1024_0_0,
    fun p hp => absurd hp List.not_mem_nil⟩

theorem out16_eq (y : S16x1024.Idx) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y = shareBlock x0 x1 x2 x3 x4 x5 x6 x7 x8 x9 x10 x11 x12 x13 y := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13)]
  refine View.canon_apply_of_pieces (Val := Elt Ideal) (e := .f32) (shareBlock x0 x1 x2 x3 x4 x5 x6 x7 x8 x9 x10 x11 x12 x13) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y)
  unfold kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  simp only [first2, first3, first4, other1, other2, other2', other3, other3', other4, other4', stream2, stream3, stream4,
    normal1, normal2, normal3, normal4, stored1, stored2, stored3, stored4, routed1, routed2, routed3, routed4]
  rw [List.forall_mem_cons, List.forall_mem_cons, List.forall_mem_cons, List.forall_mem_cons]
  simp only [squareWhole, lowWhole, vectorWhole, gainWhole, routerWhole]
  exact ⟨share_piece x0 x1 x2 x3 x4 x5 x6 x7 x8 x9 x10 x11 x12 x13 768 (by norm_num) inb_S16x1024_S16x256_0_768,
    share_piece x0 x1 x2 x3 x4 x5 x6 x7 x8 x9 x10 x11 x12 x13 512 (by norm_num) inb_S16x1024_S16x256_0_512,
    share_piece x0 x1 x2 x3 x4 x5 x6 x7 x8 x9 x10 x11 x12 x13 256 (by norm_num) inb_S16x1024_S16x256_0_256,
    share_piece x0 x1 x2 x3 x4 x5 x6 x7 x8 x9 x10 x11 x12 x13 0 (by norm_num) inb_S16x1024_S16x256_0_0,
    fun p hp => absurd hp List.not_mem_nil⟩

end Blocks

end Cert.Kernel4Ideal.MergeBlock

end
-- ==== Proof.Merge.Array.lean ====
/- The three result arrays of the merge: the residual stream, its normalized rows, and the experts' shares of every row. -/
module

public import proofs.«01_k».proof.Proof.Merge.Block
public import Idealize.ShloMosaic.Lib.Pipeline.ValueKit.Point

@[expose] public section

set_option maxRecDepth 16384

noncomputable section

namespace Cert.Kernel4Ideal.MergeBlock

open Cert.Kernel4Ideal Cert.Kernel4Ideal.Gen Idealize.ShloMosaic Idealize.ShloMosaic.TcCoe Idealize.SL.Sem
open Idealize.ShloMosaic.Tactic Cert.Experts
open Cert.Kernel3Ideal.InprojBlock (modulated batchOf gainCast_apply batchCast_apply)

/-- A gate's column among the projection's columns. -/
def gateCol (j : Fin 3072) : Fin 4608 := ⟨j.val, by omega⟩

section Results

variable (a : Vec Ideal S8x16384x128 .bf16) (b d : Vec Ideal S16384x512 .bf16) (p : Vec Ideal S16384x4608 .bf16) (x : Vec Ideal S16384x1024 .f32)
  (wa : Vec Ideal S1024x1024 .f32) (wb wd : Vec Ideal S512x1024 .f32) (wo : Vec Ideal S1024x1024 .f32) (gt : Vec Ideal S8x1024 .f32)
  (g : Vec Ideal S1024 .f32) (sh sc : Vec Ideal S8x1024 .f32) (wr : Vec Ideal S1024x16 .f32)

/-- A row's three branches merged. -/
def mergedOf (r : Fin 16384) : Fin 1024 → EReal :=
  merged (fun k => a (ix3 (headIn k) r (laneIn k))) (fun k => b (ix2 r k)) (fun k => d (ix2 r k)) (fun j => p (ix2 r (gateCol j)))
    (fun k j => wa (ix2 k j)) (fun k j => wb (ix2 k j)) (fun k j => wd (ix2 k j))

/-- A row's residual stream. -/
def streamOf (r : Fin 16384) : Fin 1024 → EReal :=
  stream (fun j => x (ix2 r j)) (fun j => gt (ix2 (batchOf r) j)) (mergedOf a b d p wa wb wd r) (fun k j => wo (ix2 k j))

/-- A row, normalized and modulated. -/
def normalOf (r : Fin 16384) : Fin 1024 → EReal :=
  modulated (streamOf a b d p x wa wb wd wo gt r) (fun j => g (ix1 j)) (fun j => sc (ix2 (batchOf r) j)) (fun j => sh (ix2 (batchOf r) j))

/-- The first result array. -/
def streamResult : Vec Ideal S16384x1024 .f32 := fun i => streamOf a b d p x wa wb wd wo gt (i 0) (i 1)

/-- The second result array. -/
def normalResult : Vec Ideal S16384x1024 .bf16 := fun i => normalOf a b d p x wa wb wd wo gt g sh sc (i 0) (i 1)

/-- The third result array, as the kernel adds the scores up. -/
def shareResult : Vec Ideal S16x16384 .f32 :=
  fun i => share (score (normalOf a b d p x wa wb wd wo gt g sh sc (i 1)) (fun e k => wr (ix2 k e))) (i 0)

variable {x0 : Vec Ideal S8x1024x128 .bf16} {x1 : Vec Ideal S1024x512 .bf16} {x2 : Vec Ideal S1024x512 .bf16} {x3 : Vec Ideal S1024x3072 .bf16} {x4 : Vec Ideal S1024x1024 .f32} {x5 : Vec Ideal S1024x1024 .bf16} {x6 : Vec Ideal S512x1024 .bf16} {x7 : Vec Ideal S512x1024 .bf16} {x8 : Vec Ideal S1024x1024 .bf16} {x9 : Vec Ideal S1x1x1024 .f32} {x10 : Vec Ideal S1x1024 .f32} {x11 : Vec Ideal S1x1x1024 .f32} {x12 : Vec Ideal S1x1x1024 .f32} {x13 : Vec Ideal S16x1024 .f32}
  {s : Fin 1024} {r : Fin 16384}

theorem stream_congr (h0 : ∀ n l, x0 (ix3 n s l) = a (ix3 n r l)) (h1 : ∀ k, x1 (ix2 s k) = b (ix2 r k)) (h2 : ∀ k, x2 (ix2 s k) = d (ix2 r k))
    (h3 : ∀ j, x3 (ix2 s j) = p (ix2 r (gateCol j))) (h4 : ∀ k, x4 (ix2 s k) = x (ix2 r k))
    (h5 : ∀ (k j : Fin 1024), x5 (ix2 k j) = wa (ix2 k j)) (h6 : ∀ (k : Fin 512) (j : Fin 1024), x6 (ix2 k j) = wb (ix2 k j))
    (h7 : ∀ (k : Fin 512) (j : Fin 1024), x7 (ix2 k j) = wd (ix2 k j)) (h8 : ∀ (k j : Fin 1024), x8 (ix2 k j) = wo (ix2 k j))
    (h9 : ∀ j, x9 (ix3 0 0 j) = gt (ix2 (batchOf r) j)) :
    streamRow x0 x1 x2 x3 x4 x5 x6 x7 x8 x9 s = streamOf a b d p x wa wb wd wo gt r := by
  unfold streamRow streamOf mergedRow mergedOf
  simp only [h0, h1, h2, h3, h4, h5, h6, h7, h8, h9]

theorem normal_congr (h : streamRow x0 x1 x2 x3 x4 x5 x6 x7 x8 x9 s = streamOf a b d p x wa wb wd wo gt r)
    (h10 : ∀ j, x10 (ix2 0 j) = g (ix1 j)) (h11 : ∀ j, x11 (ix3 0 0 j) = sh (ix2 (batchOf r) j))
    (h12 : ∀ j, x12 (ix3 0 0 j) = sc (ix2 (batchOf r) j)) :
    normalRow x0 x1 x2 x3 x4 x5 x6 x7 x8 x9 x10 x11 x12 s = normalOf a b d p x wa wb wd wo gt g sh sc r := by
  unfold normalRow normalOf
  simp only [h, h10, h11, h12]

theorem share_congr (h : normalRow x0 x1 x2 x3 x4 x5 x6 x7 x8 x9 x10 x11 x12 s = normalOf a b d p x wa wb wd wo gt g sh sc r)
    (h13 : ∀ (e : Fin 16) (k : Fin 1024), x13 (ix2 e k) = wr (ix2 k e)) :
    shareRow x0 x1 x2 x3 x4 x5 x6 x7 x8 x9 x10 x11 x12 x13 s
      = share (score (normalOf a b d p x wa wb wd wo gt g sh sc r) (fun e k => wr (ix2 k e))) := by
  unfold shareRow
  simp only [h, h13]

end Results

variable (m : (ℓ : Loc nD τ sig) → Buf (Elt Ideal) ℓ)

theorem idx0 : ∀ t : Fin cfg0.N, win0_0.index t = ![0, t.val, 0] := (by decide +kernel : ∀ t : Fin grid0.N, win0_0.index t = ![0, t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val / 2, 0, 0] := (by decide +kernel : ∀ t : Fin grid0.N, win0_9.index t = ![t.val / 2, 0, 0])
theorem idx10 : ∀ t : Fin cfg0.N, win0_10.index t = ![0, 0] := (by decide +kernel : ∀ t : Fin grid0.N, win0_10.index t = ![0, 0])
theorem idx11 : ∀ t : Fin cfg0.N, win0_11.index t = ![t.val / 2, 0, 0] := (by decide +kernel : ∀ t : Fin grid0.N, win0_11.index t = ![t.val / 2, 0, 0])
theorem idx12 : ∀ t : Fin cfg0.N, win0_12.index t = ![t.val / 2, 0, 0] := (by decide +kernel : ∀ t : Fin grid0.N, win0_12.index t = ![t.val / 2, 0, 0])
theorem idx13 : ∀ t : Fin cfg0.N, win0_13.index t = ![0, 0] := (by decide +kernel : ∀ t : Fin grid0.N, win0_13.index t = ![0, 0])
theorem idx14 : ∀ t : Fin cfg0.N, win0_14.index t = ![t.val, 0] := (by decide +kernel : ∀ t : Fin grid0.N, win0_14.index t = ![t.val, 0])
theorem idx15 : ∀ t : Fin cfg0.N, win0_15.index t = ![t.val, 0] := (by decide +kernel : ∀ t : Fin grid0.N, win0_15.index t = ![t.val, 0])
theorem idx16 : ∀ t : Fin cfg0.N, win0_16.index t = ![0, t.val] := (by decide +kernel : ∀ t : Fin grid0.N, win0_16.index t = ![0, t.val])

/-- Row `s` of a point's block. -/
def rowAt (t : Fin cfg0.N) (s : Fin 1024) : Fin 16384 := ⟨t.val * 1024 + s.val, by have : t.val < 16 := lt_of_lt_of_eq t.isLt N_0; omega⟩

theorem a_apply (c : Dev nD) (t : Fin cfg0.N) (s : Fin 1024) (n : Fin 8) (l : Fin 128) :
    iblk m c 0 t (ix3 n s l) = m ((c : Thread nD τ).loc main_arg0) (ix3 n (rowAt t s) l) := by
  blk_ext! [iblk, V, idx0 t] <;> simp only [rowAt] <;> omega

theorem b_apply (c : Dev nD) (t : Fin cfg0.N) (s : Fin 1024) (k : Fin 512) :
    iblk m c 1 t (ix2 s k) = m ((c : Thread nD τ).loc main_arg1) (ix2 (rowAt t s) k) := by
  blk_ext! [iblk, V, idx1 t] <;> simp only [rowAt] <;> omega

theorem d_apply (c : Dev nD) (t : Fin cfg0.N) (s : Fin 1024) (k : Fin 512) :
    iblk m c 2 t (ix2 s k) = m ((c : Thread nD τ).loc main_arg2) (ix2 (rowAt t s) k) := by
  blk_ext! [iblk, V, idx2 t] <;> simp only [rowAt] <;> omega

theorem p_apply (c : Dev nD) (t : Fin cfg0.N) (s : Fin 1024) (j : Fin 3072) :
    X0_3 m c t (ix2 s j) = m ((c : Thread nD τ).loc main_arg3) (ix2 (rowAt t s) (gateCol j)) := by
  unfold X0_3 Pipeline.Window.fill
  rw [dif_pos (moved0_3 t (ix2 s j))]
  blk_ext! [iblk, V, idx3 t] <;> simp only [rowAt, gateCol] <;> omega

theorem x_apply (c : Dev nD) (t : Fin cfg0.N) (s : Fin 1024) (k : Fin 1024) :
    iblk m c 4 t (ix2 s k) = m ((c : Thread nD τ).loc main_arg4) (ix2 (rowAt t s) k) := by
  blk_ext! [iblk, V, idx4 t] <;> simp only [rowAt] <;> omega

theorem wa_apply (c : Dev nD) (t : Fin cfg0.N) (k j : Fin 1024) : iblk m c 5 t (ix2 k j) = m ((c : Thread nD τ).loc main_arg5) (ix2 k j) := by
  blk_ext! [iblk, V, idx5 t]

theorem wb_apply (c : Dev nD) (t : Fin cfg0.N) (k : Fin 512) (j : Fin 1024) : iblk m c 6 t (ix2 k j) = m ((c : Thread nD τ).loc main_arg6) (ix2 k j) := by
  blk_ext! [iblk, V, idx6 t]

theorem wd_apply (c : Dev nD) (t : Fin cfg0.N) (k : Fin 512) (j : Fin 1024) : iblk m c 7 t (ix2 k j) = m ((c : Thread nD τ).loc main_arg7) (ix2 k j) := by
  blk_ext! [iblk, V, idx7 t]

theorem wo_apply (c : Dev nD) (t : Fin cfg0.N) (k j : Fin 1024) : iblk m c 8 t (ix2 k j) = m ((c : Thread nD τ).loc main_arg8) (ix2 k j) := by
  blk_ext! [iblk, V, idx8 t]

theorem gtTable_eq (c : Dev nD) :
    V m c main_v4 = (shapeCast _ (m ((c : Thread nD τ).loc main_arg9) : Vec Ideal S8x1024 .f32) shapeCasts_S8x1024_S8x1x1024 : Vec Ideal S8x1x1024 .f32) := rfl

theorem gt_apply (c : Dev nD) (t : Fin cfg0.N) (s : Fin 1024) (k : Fin 1024) :
    iblk m c 9 t (ix3 0 0 k) = m ((c : Thread nD τ).loc main_arg9) (ix2 (batchOf (rowAt t s)) k) := by
  refine (congrFun (gtTable_eq m c) _).trans ((batchCast_apply _ _).trans ?_)
  blk_ext [idx9 t] <;> simp only [batchOf, rowAt] <;> omega

theorem shTable_eq (c : Dev nD) :
    V m c main_v6 = (shapeCast _ (m ((c : Thread nD τ).loc main_arg11) : Vec Ideal S8x1024 .f32) shapeCasts_S8x1024_S8x1x1024 : Vec Ideal S8x1x1024 .f32) := rfl

theorem sh_apply (c : Dev nD) (t : Fin cfg0.N) (s : Fin 1024) (k : Fin 1024) :
    iblk m c 11 t (ix3 0 0 k) = m ((c : Thread nD τ).loc main_arg11) (ix2 (batchOf (rowAt t s)) k) := by
  refine (congrFun (shTable_eq m c) _).trans ((batchCast_apply _ _).trans ?_)
  blk_ext [idx11 t] <;> simp only [batchOf, rowAt] <;> omega

theorem scTable_eq (c : Dev nD) :
    V m c main_v7 = (shapeCast _ (m ((c : Thread nD τ).loc main_arg12) : Vec Ideal S8x1024 .f32) shapeCasts_S8x1024_S8x1x1024 : Vec Ideal S8x1x1024 .f32) := rfl

theorem sc_apply (c : Dev nD) (t : Fin cfg0.N) (s : Fin 1024) (k : Fin 1024) :
    iblk m c 12 t (ix3 0 0 k) = m ((c : Thread nD τ).loc main_arg12) (ix2 (batchOf (rowAt t s)) k) := by
  refine (congrFun (scTable_eq m c) _).trans ((batchCast_apply _ _).trans ?_)
  blk_ext [idx12 t] <;> simp only [batchOf, rowAt] <;> omega

theorem gTable_eq (c : Dev nD) :
    V m c main_v5 = (shapeCast _ (m ((c : Thread nD τ).loc main_arg10) : Vec Ideal S1024 .f32) shapeCasts_S1024_S1x1024 : Vec Ideal S1x1024 .f32) := rfl

theorem g_apply (c : Dev nD) (t : Fin cfg0.N) (k : Fin 1024) : iblk m c 10 t (ix2 0 k) = m ((c : Thread nD τ).loc main_arg10) (ix1 k) := by
  refine (congrFun (gTable_eq m c) _).trans ((gainCast_apply _ _).trans ?_)
  blk_ext [idx10 t]

theorem wrTable_eq (c : Dev nD) :
    V m c main_v8 = (transpose S16x1024 [1, 0] (m ((c : Thread nD τ).loc main_arg13) : Vec Ideal S1024x16 .f32) transposes_S1024x16_S16x1024_1_0 : Vec Ideal S16x1024 .f32) := rfl

theorem turned_apply (x : Vec Ideal S1024x16 .f32) (i : S16x1024.Idx) :
    (transpose S16x1024 [1, 0] x transposes_S1024x16_S16x1024_1_0 : Vec Ideal S16x1024 .f32) i
      = x (ix2 ⟨(i 1).val, (i 1).isLt⟩ ⟨(i 0).val, (i 0).isLt⟩) :=
  transpose_apply [1, 0] x transposes_S1024x16_S16x1024_1_0 i _ (fun b => match b with
    | ⟨0, _⟩ => rfl
    | ⟨1, _⟩ => rfl)

theorem wr_apply (c : Dev nD) (t : Fin cfg0.N) (e : Fin 16) (k : Fin 1024) : iblk m c 13 t (ix2 e k) = m ((c : Thread nD τ).loc main_arg13) (ix2 k e) := by
  refine (congrFun (wrTable_eq m c) _).trans ((turned_apply _ _).trans ?_)
  blk_ext [idx13 t]

theorem stream_at (c : Dev nD) (t : Fin cfg0.N) (s : Fin 1024) :
    streamRow (iblk m c 0 t) (iblk m c 1 t) (iblk m c 2 t) (X0_3 m c t) (iblk m c 4 t) (iblk m c 5 t) (iblk m c 6 t) (iblk m c 7 t) (iblk m c 8 t) (iblk m c 9 t) s
      = streamOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowAt t s) :=
  stream_congr _ _ _ _ _ _ _ _ _ _ (a_apply m c t s) (b_apply m c t s) (d_apply m c t s) (p_apply m c t s) (x_apply m c t s)
    (wa_apply m c t) (wb_apply m c t) (wd_apply m c t) (wo_apply m c t) (gt_apply m c t s)

theorem normal_at (c : Dev nD) (t : Fin cfg0.N) (s : Fin 1024) :
    normalRow (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) s
      = normalOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (rowAt t s) :=
  normal_congr _ _ _ _ _ _ _ _ _ _ _ _ _ (stream_at m c t s) (g_apply m c t) (sh_apply m c t s) (sc_apply m c t s)

/-- THE FIRST RESULT ARRAY after the run. -/
theorem array14_eq (c : Dev nD) :
    (dats m 0 c).arrAt 14 cfg0.N
      = streamResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  blk_simp
  rw [after0_14]
  unfold outsAt0
  dsimp only
  obtain ⟨s, j, rfl⟩ : ∃ (s : Fin 1024) (j : Fin 1024), y = ix2 s j :=
    ⟨⟨(y 0).val, (y 0).isLt⟩, ⟨(y 1).val, (y 1).isLt⟩, funext fun a => by fin_cases a <;> rfl⟩
  refine (out14_eq c _ _ _ _ _ _ _ _ _ _ _ _ _ _ _ _ _ _ _ _ _ _ _ _ _ _ _ _ _ _ _ _ _ _ _ _ _ _ _ _ _ _ _ _ _ _ _ _ _ (ix2 s j)).trans ?_
  have e14 : ((cfg0.win 14).blk t).view.emb (ix2 s j) = ix2 (rowAt t s) j := by
    blk_ext [idx14 t] <;> simp only [rowAt] <;> omega
  refine Eq.trans ?_ (congrArg (streamResult _ _ _ _ _ _ _ _ _ _) e14).symm
  exact congrFun (stream_at m c t s) j

/-- THE SECOND RESULT ARRAY after the run. -/
theorem array15_eq (c : Dev nD) :
    (dats m 0 c).arrAt 15 cfg0.N
      = normalResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 15 _ (by decide +kernel) fun t hf y => ?_
  blk_simp
  rw [after0_15]
  unfold outsAt0
  dsimp only
  obtain ⟨s, j, rfl⟩ : ∃ (s : Fin 1024) (j : Fin 1024), y = ix2 s j :=
    ⟨⟨(y 0).val, (y 0).isLt⟩, ⟨(y 1).val, (y 1).isLt⟩, funext fun a => by fin_cases a <;> rfl⟩
  refine (out15_eq c _ _ _ _ _ _ _ _ _ _ _ _ _ _ _ _ _ _ _ _ _ _ _ _ _ _ _ _ _ _ _ _ _ _ _ _ _ _ _ _ _ _ _ _ _ _ _ _ _ (ix2 s j)).trans ?_
  have e15 : ((cfg0.win 15).blk t).view.emb (ix2 s j) = ix2 (rowAt t s) j := by
    blk_ext [idx15 t] <;> simp only [rowAt] <;> omega
  refine Eq.trans ?_ (congrArg (normalResult _ _ _ _ _ _ _ _ _ _ _ _ _) e15).symm
  exact congrFun (normal_at m c t s) j

/-- THE THIRD RESULT ARRAY after the run. -/
theorem array16_eq (c : Dev nD) :
    (dats m 0 c).arrAt 16 cfg0.N
      = shareResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 16 _ (by decide +kernel) fun t hf y => ?_
  blk_simp
  rw [after0_16]
  unfold outsAt0
  dsimp only
  obtain ⟨e, s, rfl⟩ : ∃ (e : Fin 16) (s : Fin 1024), y = ix2 e s :=
    ⟨⟨(y 0).val, (y 0).isLt⟩, ⟨(y 1).val, (y 1).isLt⟩, funext fun a => by fin_cases a <;> rfl⟩
  refine (out16_eq c _ _ _ _ _ _ _ _ _ _ _ _ _ _ _ _ _ _ _ _ _ _ _ _ _ _ _ _ _ _ _ _ _ _ _ _ _ _ _ _ _ _ _ _ _ _ _ _ _ (ix2 e s)).trans ?_
  have e16 : ((cfg0.win 16).blk t).view.emb (ix2 e s) = ix2 e (rowAt t s) := by
    blk_ext [idx16 t] <;> simp only [rowAt] <;> omega
  refine Eq.trans ?_ (congrArg (shareResult _ _ _ _ _ _ _ _ _ _ _ _ _ _) e16).symm
  exact congrFun (share_congr _ _ _ _ _ _ _ _ _ _ _ _ _ _ (normal_at m c t s) (wr_apply m c t)) e

end Cert.Kernel4Ideal.MergeBlock

end
-- ==== Proof.Merge.Finite.lean ====
/- What the merge's precondition says, and what follows: the normalized rows are real whatever the stream is, so that the
   rests the kernel adds to a score are zero. -/
module

public import proofs.«01_k».proof.Proof.Merge.Array
public import proofs.«01_k».proof.Proof.Attn.Finite
public import proofs.«01_k».proof.Pre_routable
public import Idealize.ShloMosaic.Lib.Pointwise

@[expose] public section

set_option maxRecDepth 16384

noncomputable section

namespace Cert.Pre_routable

open Idealize.ShloMosaic Idealize.ShloMosaic.Tactic Cert.Attn Cert.Experts
open Cert.Kernel3Ideal.InprojBlock (modulated)
open Cert.Kernel4Ideal.MergeBlock (score)
open Cert.Pre_finite (real_of_word andi_eq_one)

instance facts : Cert.Pre_routable.Facts where
  bcast_S_S1024 := by decide
  bcast_S1024_S1x1024_1 := by decide
  bcast_S_S8x1024 := by decide
  bcast_S1x1024_S8x1024_0_1 := by decide
  bcast_S8x1024_S8x1024x1_0_1 := by decide
  bcast_S_S1024x16 := by decide
  bcast_S1024x16_S1x1024x16_1_2 := by decide
  bcast_S8x1024x1_S8x1024x16_0_1_2 := by decide
  bcast_S1x1024x16_S8x1024x16_0_1_2 := by decide

/-! ## Real numbers among the extended ones -/

/-- A number that is real. -/
def IsReal (r : EReal) : Prop := ∃ a : ℝ, r = a

theorem IsReal.mul {r s : EReal} (hr : IsReal r) (hs : IsReal s) : IsReal (r * s) := by
  obtain ⟨a, rfl⟩ := hr
  obtain ⟨b, rfl⟩ := hs
  exact ⟨a * b, (EReal.coe_mul a b).symm⟩

theorem IsReal.add {r s : EReal} (hr : IsReal r) (hs : IsReal s) : IsReal (r + s) := by
  obtain ⟨a, rfl⟩ := hr
  obtain ⟨b, rfl⟩ := hs
  exact ⟨a + b, (EReal.coe_add a b).symm⟩

theorem IsReal.sub_self {r : EReal} (hr : IsReal r) : r - r = 0 := by
  obtain ⟨a, rfl⟩ := hr
  rw [← EReal.coe_sub, _root_.sub_self, EReal.coe_zero]

theorem one_real : IsReal 1 := ⟨1, EReal.coe_one.symm⟩

theorem square_nonneg (r : EReal) : 0 ≤ r * r := by
  induction r using EReal.rec with
  | bot => simp
  | coe a => rw [← EReal.coe_mul]; exact_mod_cast mul_self_nonneg a
  | top => simp

/-- An infinity among the squares makes their sum infinite. -/
theorem squares_top {x : Fin 1024 → EReal} (i : Fin 1024) (h : x i * x i = ⊤) : ∑ i, x i * x i = ⊤ :=
  top_le_iff.mp (h ▸ Finset.single_le_sum (f := fun i => x i * x i) (fun j _ => square_nonneg (x j)) (Finset.mem_univ i))

theorem ofBits_1024 : Ideal.ofBits .f32 0x44800000#32 = ((1024 : ℝ) : EReal) := by
  simp [Ideal.ofBits, Ideal.ieee, -EReal.coe_mul]
  try norm_num

theorem ofBits_eps : Ideal.ofBits .f32 0x358637BD#32 = ((8796093 / 8796093022208 : ℝ) : EReal) := by
  simp [Ideal.ofBits, Ideal.ieee, -EReal.coe_mul]
  norm_num

/-- The factor of a row of reals is real. -/
theorem factor_real (s : ℝ) (hs : 0 ≤ s) :
    IsReal (Ideal.rsqrt (Ideal.div (s : EReal) (Ideal.ofBits .f32 0x44800000#32) + Ideal.ofBits .f32 0x358637BD#32)) := by
  rw [ofBits_1024, ofBits_eps, coe_div s (by norm_num), ← EReal.coe_add]
  have hp : (0 : ℝ) < s / 1024 + 8796093 / 8796093022208 := by positivity
  rw [Ideal.rsqrt_coe, if_neg (not_lt.mpr hp.le), if_neg hp.ne']
  exact ⟨_, rfl⟩

/-- The factor of a row whose squares add up to infinity is zero. -/
theorem factor_top :
    Ideal.rsqrt (Ideal.div ⊤ (Ideal.ofBits .f32 0x44800000#32) + Ideal.ofBits .f32 0x358637BD#32) = 0 := by
  rw [ofBits_1024, ofBits_eps, Ideal.div_coe (by norm_num), EReal.top_mul_coe_of_pos (by norm_num), EReal.top_add_coe, Ideal.rsqrt_top]

/-- A row's entry times the row's factor is real, whatever the row. -/
theorem scaled_real (x : Fin 1024 → EReal) (k : Fin 1024) :
    IsReal (x k * Ideal.rsqrt (Ideal.div (∑ i : Fin 1024, x i * x i) (Ideal.ofBits .f32 0x44800000#32) + Ideal.ofBits .f32 0x358637BD#32)) := by
  by_cases h : ∀ i, IsReal (x i)
  · refine (h k).mul ?_
    choose u hu using h
    have e : ∑ i, x i * x i = ((∑ i, u i * u i : ℝ) : EReal) := by
      rw [coe_sum]
      exact Finset.sum_congr rfl fun i _ => by rw [hu, EReal.coe_mul]
    rw [e]
    exact factor_real _ (Finset.sum_nonneg fun i _ => mul_self_nonneg _)
  · obtain ⟨i, hi⟩ := not_forall.mp h
    have ht : x i * x i = ⊤ := by
      revert hi
      generalize x i = r
      intro hi
      induction r using EReal.rec with
      | bot => simp
      | coe a => exact absurd ⟨a, rfl⟩ hi
      | top => simp
    rw [squares_top i ht, factor_top, mul_zero]
    exact ⟨0, EReal.coe_zero.symm⟩

/-- A normalized row is real, its gain, scale and shift being real. -/
theorem modulated_real (x g sc sh : Fin 1024 → EReal) (k : Fin 1024) (hg : IsReal (g k)) (hc : IsReal (sc k)) (hh : IsReal (sh k)) :
    IsReal (modulated x g sc sh k) := by
  unfold modulated
  exact (((scaled_real x k).mul hg).mul (one_real.add hc)).add hh

/-- A score of reals is the product. -/
theorem score_eq (h : Fin 1024 → EReal) (w : Fin 16 → Fin 1024 → EReal) (hh : ∀ k, IsReal (h k)) (hw : ∀ e k, IsReal (w e k)) (e : Fin 16) :
    score h w e = ∑ k, h k * w e k := by
  unfold score
  have e1 : ∀ k, (w e k - w e k) * h k = 0 := fun k => by rw [(hw e k).sub_self, zero_mul]
  have e2 : ∀ k, w e k * (h k - h k) = 0 := fun k => by rw [(hh k).sub_self, mul_zero]
  rw [Finset.sum_congr rfl fun k _ => e1 k, Finset.sum_congr rfl fun k _ => e2 k, Finset.sum_const_zero, add_zero, add_zero]
  exact Finset.sum_congr rfl fun k _ => mul_comm _ _

/-! ## The precondition -/

variable (a : Vec Ideal S8x16384x128 .bf16) (b d : Vec Ideal S16384x512 .bf16) (p : Vec Ideal S16384x4608 .bf16) (x : Vec Ideal S16384x1024 .f32)
  (wa : Vec Ideal S1024x1024 .f32) (wb wd : Vec Ideal S512x1024 .f32) (wo : Vec Ideal S1024x1024 .f32) (gt : Vec Ideal S8x1024 .f32)
  (g : Vec Ideal S1024 .f32) (sh sc : Vec Ideal S8x1024 .f32) (wr : Vec Ideal S1024x16 .f32)

/-- What one element of the predicate says. -/
theorem element (hp : fn (F := Ideal) a b d p x wa wb wd wo gt g sh sc wr = fun _ => 1#1) (n : Fin 8) (k : Fin 1024) (e : Fin 16) :
    IsReal (g (ix1 k)) ∧ IsReal (sh (ix2 n k)) ∧ IsReal (sc (ix2 n k)) ∧ IsReal (wr (ix2 k e)) := by
  have h0 := congrFun hp (ix3 n k e)
  revert h0
  pointwise [fn, fn_part1]
  intro h0
  obtain ⟨h0, hw⟩ := andi_eq_one _ _ h0
  obtain ⟨h0, hc⟩ := andi_eq_one _ _ h0
  obtain ⟨hg, hs⟩ := andi_eq_one _ _ h0
  exact ⟨real_of_word _ hg, real_of_word _ hs, real_of_word _ hc, real_of_word _ hw⟩

end Cert.Pre_routable

end
-- ==== Proof.Merge.Equation.lean ====
/- The reference merge read at an index: the merged branches, the residual stream, its normalized rows, and the shares. -/
module

public import proofs.«01_k».proof.Proof.Merge.Finite
public import proofs.«01_k».proof.Proof.Gen.Reference4Ideal.Read
public import proofs.«01_k».proof.Proof.Inproj.Rows

@[expose] public section

set_option maxRecDepth 16384

noncomputable section

namespace Cert.Reference4Ideal.MergeReference

open Cert.Reference4Ideal Cert.Reference4Ideal.Gen Cert.Reference4Ideal.Read Idealize.ShloMosaic
open Idealize.ShloMosaic.Tactic Cert.Experts Cert.Kernel4Ideal.MergeBlock
open Cert.Kernel3Ideal.InprojBlock (modulated batchOf)
open Cert.Reference3Ideal.InprojReference (placeOf)
open Cert.KernelIdeal.AttnBlock (ofBits_neg_inf)
open Cert.Pre_routable (IsReal)

/-- A maximum over the last of three axes, from below every number, is the supremum along it. -/
theorem reduce_max_last {n0 n1 n2 : ℕ} {u : Shape} (v : (⟨3, ![n0, n1, n2]⟩ : Shape).Idx → EReal) (c : u.Idx → EReal)
    (h : (⟨3, ![n0, n1, n2]⟩ : Shape).ReducesTo [2] ⟨2, ![n0, n1]⟩) (hu : 0 < u.numel) (hc : c (Shape.Idx.first hu) = ⊥) (i0 : Fin n0) (i1 : Fin n1) :
    Host.reduce (max : EReal → EReal → EReal) v c h hu (ix2 i0 i1) = Finset.univ.sup fun k => v (ix3 i0 i1 k) := by
  rw [Host.reduce_eq_fold, h.fold_fiber_r3_a2, hc]
  rfl

variable (a : Vec Ideal S8x16384x128 .bf16) (b d : Vec Ideal S16384x512 .bf16) (p : Vec Ideal S16384x4608 .bf16) (x : Vec Ideal S16384x1024 .f32)
  (wa : Vec Ideal S1024x1024 .f32) (wb wd : Vec Ideal S512x1024 .f32) (wo : Vec Ideal S1024x1024 .f32) (gt : Vec Ideal S8x1024 .f32)
  (g : Vec Ideal S1024 .f32) (sh sc : Vec Ideal S8x1024 .f32) (wr : Vec Ideal S1024x16 .f32)

/-! ## The branches -/

theorem first_eq (r : Fin 16384) (k : Fin 1024) :
    val_main_v2 (F := Ideal) a (ix3 (batchOf r) (placeOf r) k) = a (ix3 (headIn k) r (laneIn k)) := by
  rewrite [val_main_v2_apply, val_main_v1_apply, val_main_v0_apply]
  refine congrArg a (funext fun i => Fin.ext ?_)
  have hr := r.isLt
  have hk := k.isLt
  fin_cases i <;> dsimp [batchOf, placeOf, headIn, laneIn] <;> omega

theorem second_eq (r : Fin 16384) (k : Fin 512) : val_main_v4 (F := Ideal) b (ix3 (batchOf r) (placeOf r) k) = b (ix2 r k) := by
  rewrite [val_main_v4_apply, val_main_v3_apply]
  refine congrArg b (funext fun i => Fin.ext ?_)
  have hr := r.isLt
  have hk := k.isLt
  fin_cases i <;> dsimp [batchOf, placeOf] <;> omega

theorem third_eq (r : Fin 16384) (k : Fin 512) : val_main_v6 (F := Ideal) d (ix3 (batchOf r) (placeOf r) k) = d (ix2 r k) := by
  rewrite [val_main_v6_apply, val_main_v5_apply]
  refine congrArg d (funext fun i => Fin.ext ?_)
  have hr := r.isLt
  have hk := k.isLt
  fin_cases i <;> dsimp [batchOf, placeOf] <;> omega

theorem gates_eq (r : Fin 16384) (j : Fin 3072) : val_main_v9 (F := Ideal) p (ix3 (batchOf r) (placeOf r) j) = p (ix2 r (gateCol j)) := by
  rewrite [val_main_v9_apply, val_main_v8_apply, val_main_v7_apply]
  refine congrArg p (funext fun i => Fin.ext ?_)
  have hr := r.isLt
  have hj := j.isLt
  fin_cases i <;> dsimp [batchOf, placeOf, gateCol] <;> omega

theorem gate0_eq (r : Fin 16384) (j : Fin 1024) : val_main_v10 (F := Ideal) p (ix3 (batchOf r) (placeOf r) j) = p (ix2 r (gateCol (gate0 j))) := by
  rewrite [val_main_v10_apply, ← gates_eq p r (gate0 j)]
  exact congrArg _ (funext fun i => by fin_cases i <;> rfl)

theorem gate1_eq (r : Fin 16384) (j : Fin 1024) : val_main_v11 (F := Ideal) p (ix3 (batchOf r) (placeOf r) j) = p (ix2 r (gateCol (gate1 j))) := by
  rewrite [val_main_v11_apply, ← gates_eq p r (gate1 j)]
  exact congrArg _ (funext fun i => by fin_cases i <;> rfl)

theorem gate2_eq (r : Fin 16384) (j : Fin 1024) : val_main_v12 (F := Ideal) p (ix3 (batchOf r) (placeOf r) j) = p (ix2 r (gateCol (gate2 j))) := by
  rewrite [val_main_v12_apply, ← gates_eq p r (gate2 j)]
  exact congrArg _ (funext fun i => by fin_cases i <;> rfl)

theorem first_dot_eq (r : Fin 16384) (j : Fin 1024) :
    val_main_v13 (F := Ideal) a wa (ix3 (batchOf r) (placeOf r) j) = ∑ k : Fin 1024, a (ix3 (headIn k) r (laneIn k)) * wa (ix2 k j) := by
  rewrite [val_main_v13_apply]
  refine Finset.sum_congr rfl fun k _ => ?_
  have hl : lidx_main_v13 (ix3 (batchOf r) (placeOf r) j) k = ix3 (batchOf r) (placeOf r) k := by funext i; fin_cases i <;> rfl
  have hr : ridx_main_v13 (ix3 (batchOf r) (placeOf r) j) k = ix2 k j := by funext i; fin_cases i <;> rfl
  rewrite [hl, hr, first_eq]
  rfl

theorem second_dot_eq (r : Fin 16384) (j : Fin 1024) :
    val_main_v15 (F := Ideal) b wb (ix3 (batchOf r) (placeOf r) j) = ∑ k : Fin 512, b (ix2 r k) * wb (ix2 k j) := by
  rewrite [val_main_v15_apply]
  refine Finset.sum_congr rfl fun k _ => ?_
  have hl : lidx_main_v15 (ix3 (batchOf r) (placeOf r) j) k = ix3 (batchOf r) (placeOf r) k := by funext i; fin_cases i <;> rfl
  have hr : ridx_main_v15 (ix3 (batchOf r) (placeOf r) j) k = ix2 k j := by funext i; fin_cases i <;> rfl
  rewrite [hl, hr, second_eq]
  rfl

theorem third_dot_eq (r : Fin 16384) (j : Fin 1024) :
    val_main_v18 (F := Ideal) d wd (ix3 (batchOf r) (placeOf r) j) = ∑ k : Fin 512, d (ix2 r k) * wd (ix2 k j) := by
  rewrite [val_main_v18_apply]
  refine Finset.sum_congr rfl fun k _ => ?_
  have hl : lidx_main_v18 (ix3 (batchOf r) (placeOf r) j) k = ix3 (batchOf r) (placeOf r) k := by funext i; fin_cases i <;> rfl
  have hr : ridx_main_v18 (ix3 (batchOf r) (placeOf r) j) k = ix2 k j := by funext i; fin_cases i <;> rfl
  rewrite [hl, hr, third_eq]
  rfl

theorem merged_eq (r : Fin 16384) (j : Fin 1024) :
    val_main_v20 (F := Ideal) a b d p wa wb wd (ix3 (batchOf r) (placeOf r) j) = mergedOf a b d p wa wb wd r j := by
  rewrite [val_main_v20_apply, val_main_v17_apply, val_main_v14_apply, val_main_v16_apply, val_main_v19_apply, gate0_eq, gate1_eq, gate2_eq,
    first_dot_eq, second_dot_eq, third_dot_eq]
  rfl

/-! ## The residual stream -/

theorem row_eq (r : Fin 16384) (j : Fin 1024) : val_main_v21 (F := Ideal) x (ix3 (batchOf r) (placeOf r) j) = x (ix2 r j) := by
  rewrite [val_main_v21_apply]
  refine congrArg x (funext fun i => Fin.ext ?_)
  have hr := r.isLt
  have hj := j.isLt
  fin_cases i <;> dsimp [batchOf, placeOf] <;> omega

theorem stream_eq (r : Fin 16384) (j : Fin 1024) :
    val_main_v26 (F := Ideal) a b d p x wa wb wd wo gt (ix3 (batchOf r) (placeOf r) j) = streamOf a b d p x wa wb wd wo gt r j := by
  have h22 : idx_main_v22 (idx_main_v24 (ix3 (batchOf r) (placeOf r) j)) = ix2 (batchOf r) j := by funext i; fin_cases i <;> rfl
  have h23 : val_main_v23 (F := Ideal) a b d p wa wb wd wo (ix3 (batchOf r) (placeOf r) j) = ∑ k : Fin 1024, mergedOf a b d p wa wb wd r k * wo (ix2 k j) := by
    rewrite [val_main_v23_apply]
    refine Finset.sum_congr rfl fun k _ => ?_
    have hl : lidx_main_v23 (ix3 (batchOf r) (placeOf r) j) k = ix3 (batchOf r) (placeOf r) k := by funext i; fin_cases i <;> rfl
    have hr : ridx_main_v23 (ix3 (batchOf r) (placeOf r) j) k = ix2 k j := by funext i; fin_cases i <;> rfl
    rewrite [hl, hr, merged_eq]
    rfl
  rewrite [val_main_v26_apply, val_main_v25_apply, val_main_v24_apply, val_main_v22_apply, h22, h23, row_eq]
  rfl

/-! ## The normalized rows -/

theorem scale_eq (r : Fin 16384) :
    val_main_v34 (F := Ideal) a b d p x wa wb wd wo gt (ix3 (batchOf r) (placeOf r) 0)
      = Ideal.rsqrt (Ideal.div (∑ i : Fin 1024, streamOf a b d p x wa wb wd wo gt r i * streamOf a b d p x wa wb wd wo gt r i) (Ideal.ofBits .f32 0x44800000#32)
          + Ideal.ofBits .f32 0x358637BD#32) := by
  have h29 : idx_main_v29 (ix3 (batchOf r) (placeOf r) 0) = ix2 (batchOf r) (placeOf r) := by funext i; fin_cases i <;> rfl
  have hs : val_main_v28 (F := Ideal) a b d p x wa wb wd wo gt (ix2 (batchOf r) (placeOf r)) = ∑ i : Fin 1024, streamOf a b d p x wa wb wd wo gt r i * streamOf a b d p x wa wb wd wo gt r i := by
    rewrite [val_main_v28_apply, val_main_cst_apply]
    refine (congrArg₂ (· + ·) Ideal.ofBits_zero_f32 (Finset.sum_congr rfl fun k _ => ?_)).trans (zero_add _)
    have hk : idx_main_v28 (ix2 (batchOf r) (placeOf r)) k = ix3 (batchOf r) (placeOf r) k := by funext i; fin_cases i <;> rfl
    rewrite [hk, val_main_v27_apply, stream_eq]
    rfl
  rewrite [val_main_v34_apply, val_main_v33_apply, val_main_v31_apply, val_main_v29_apply, val_main_v30_apply, val_main_v32_apply,
    val_main_cst_0_apply, val_main_cst_1_apply, h29, hs]
  rfl

theorem normalized_eq (r : Fin 16384) (j : Fin 1024) :
    val_main_v47 (F := Ideal) a b d p x wa wb wd wo gt g sh sc (ix3 (batchOf r) (placeOf r) j) = normalOf a b d p x wa wb wd wo gt g sh sc r j := by
  have h35 : idx_main_v35 (ix3 (batchOf r) (placeOf r) j) = ix3 (batchOf r) (placeOf r) 0 := by funext i; fin_cases i <;> rfl
  have h37 : idx_main_v37 (idx_main_v38 (ix3 (batchOf r) (placeOf r) j)) = ix1 j := by funext i; fin_cases i; rfl
  have h40 : idx_main_v40 (idx_main_v43 (ix3 (batchOf r) (placeOf r) j)) = ix2 (batchOf r) j := by funext i; fin_cases i <;> rfl
  have h45 : idx_main_v45 (idx_main_v46 (ix3 (batchOf r) (placeOf r) j)) = ix2 (batchOf r) j := by funext i; fin_cases i <;> rfl
  have h1 : val_main_v41 (F := Ideal) (idx_main_v43 (ix3 (batchOf r) (placeOf r) j)) = (1 : EReal) := by
    rewrite [val_main_v41_apply, val_main_cst_2_apply]
    exact Ideal.ofBits_one_f32
  rewrite [val_main_v47_apply, val_main_v44_apply, val_main_v39_apply, val_main_v36_apply, val_main_v35_apply, h35, scale_eq, stream_eq,
    val_main_v38_apply, val_main_v37_apply, h37, val_main_v43_apply, val_main_v42_apply, h1, val_main_v40_apply, h40,
    val_main_v46_apply, val_main_v45_apply, h45]
  rfl

/-! ## The shares -/

/-- A row's scores, plainly. -/
def scoreOf (r : Fin 16384) (e : Fin 16) : EReal := ∑ k : Fin 1024, normalOf a b d p x wa wb wd wo gt g sh sc r k * wr (ix2 k e)

theorem score_dot_eq (r : Fin 16384) (j : Fin 16) :
    val_main_v48 (F := Ideal) a b d p x wa wb wd wo gt g sh sc wr (ix3 (batchOf r) (placeOf r) j) = scoreOf a b d p x wa wb wd wo gt g sh sc wr r j := by
  rewrite [val_main_v48_apply]
  refine Finset.sum_congr rfl fun k _ => ?_
  have hl : lidx_main_v48 (ix3 (batchOf r) (placeOf r) j) k = ix3 (batchOf r) (placeOf r) k := by funext i; fin_cases i <;> rfl
  have hr : ridx_main_v48 (ix3 (batchOf r) (placeOf r) j) k = ix2 k j := by funext i; fin_cases i <;> rfl
  rewrite [hl, hr, normalized_eq]
  rfl

/-- The greatest of a row's scores, of whatever scores. -/
theorem greatest_of (y : FVec Ideal S8x2048x16 .f32) (n : Fin 8) (s : Fin 2048) :
    Host.reduce FloatOps.maximumf y (val_main_cst_3 (F := Ideal)) reducesTo_S8x2048x16_S8x2048_d2 h_S_ (ix2 n s)
      = Finset.univ.sup fun k => y (ix3 n s k) := by
  refine reduce_max_last y (val_main_cst_3 (F := Ideal)) reducesTo_S8x2048x16_S8x2048_d2 h_S_ ?_ n s
  rewrite [val_main_cst_3_apply]
  exact ofBits_neg_inf

theorem greatest_eq (r : Fin 16384) :
    val_main_v51 (F := Ideal) a b d p x wa wb wd wo gt g sh sc wr (ix2 (batchOf r) (placeOf r)) = Finset.univ.sup (scoreOf a b d p x wa wb wd wo gt g sh sc wr r) := by
  rw [val_main_v51_apply, val_main_v50_apply, val_main_cst_4_apply]
  unfold val_main_v49
  have hbot : (FloatOps.ofBits .f32 0xFF800000#32 : Ideal .f32) = ⊥ := ofBits_neg_inf
  rw [hbot]
  refine Eq.trans (max_eq_right bot_le) ?_
  refine Eq.trans (greatest_of _ (batchOf r) (placeOf r)) ?_
  exact congrArg (Finset.univ : Finset (Fin 16)).sup (funext fun k => score_dot_eq a b d p x wa wb wd wo gt g sh sc wr r k)

theorem weight_eq (r : Fin 16384) (j : Fin 16) :
    val_main_v55 (F := Ideal) a b d p x wa wb wd wo gt g sh sc wr (ix3 (batchOf r) (placeOf r) j) = Ideal.exp (scoreOf a b d p x wa wb wd wo gt g sh sc wr r j - Finset.univ.sup (scoreOf a b d p x wa wb wd wo gt g sh sc wr r)) := by
  have h52 : idx_main_v52 (idx_main_v53 (ix3 (batchOf r) (placeOf r) j)) = ix2 (batchOf r) (placeOf r) := by funext i; fin_cases i <;> rfl
  rewrite [val_main_v55_apply, val_main_v54_apply, score_dot_eq, val_main_v53_apply, val_main_v52_apply, h52, greatest_eq]
  rfl

theorem total_eq (r : Fin 16384) :
    val_main_v56 (F := Ideal) a b d p x wa wb wd wo gt g sh sc wr (ix2 (batchOf r) (placeOf r))
      = ∑ e, Ideal.exp (scoreOf a b d p x wa wb wd wo gt g sh sc wr r e - Finset.univ.sup (scoreOf a b d p x wa wb wd wo gt g sh sc wr r)) := by
  rewrite [val_main_v56_apply, val_main_cst_5_apply]
  refine Eq.trans (congrArg₂ (· + ·) (Ideal.ofBits_zero_f32) (Finset.sum_congr rfl fun k _ => ?_)) (zero_add _)
  have hk : idx_main_v56 (ix2 (batchOf r) (placeOf r)) k = ix3 (batchOf r) (placeOf r) k := by funext i; fin_cases i <;> rfl
  rewrite [hk, weight_eq]
  rfl

theorem share_eq (r : Fin 16384) (j : Fin 16) :
    val_main_v59 (F := Ideal) a b d p x wa wb wd wo gt g sh sc wr (ix3 (batchOf r) (placeOf r) j) = share (scoreOf a b d p x wa wb wd wo gt g sh sc wr r) j := by
  have h57 : idx_main_v57 (idx_main_v58 (ix3 (batchOf r) (placeOf r) j)) = ix2 (batchOf r) (placeOf r) := by funext i; fin_cases i <;> rfl
  rewrite [val_main_v59_apply, weight_eq, val_main_v58_apply, val_main_v57_apply, h57, total_eq]
  rfl

/-! ## The three results -/

theorem stream_equation : val_main_v60 (F := Ideal) a b d p x wa wb wd wo gt = streamResult a b d p x wa wb wd wo gt := by
  funext i
  obtain ⟨r, j, rfl⟩ : ∃ (r : Fin 16384) (j : Fin 1024), i = ix2 r j :=
    ⟨⟨(i 0).val, (i 0).isLt⟩, ⟨(i 1).val, (i 1).isLt⟩, funext fun a => by fin_cases a <;> rfl⟩
  have hi : idx_main_v60 (ix2 r j) = ix3 (batchOf r) (placeOf r) j := by
    funext i
    refine Fin.ext ?_
    have hr := r.isLt
    have hj := j.isLt
    fin_cases i <;> dsimp [batchOf, placeOf] <;> omega
  rewrite [val_main_v60_apply, hi, stream_eq]
  rfl

theorem normal_equation : val_main_v62 (F := Ideal) a b d p x wa wb wd wo gt g sh sc = normalResult a b d p x wa wb wd wo gt g sh sc := by
  funext i
  obtain ⟨r, j, rfl⟩ : ∃ (r : Fin 16384) (j : Fin 1024), i = ix2 r j :=
    ⟨⟨(i 0).val, (i 0).isLt⟩, ⟨(i 1).val, (i 1).isLt⟩, funext fun a => by fin_cases a <;> rfl⟩
  have hi : idx_main_v61 (ix2 r j) = ix3 (batchOf r) (placeOf r) j := by
    funext i
    refine Fin.ext ?_
    have hr := r.isLt
    have hj := j.isLt
    fin_cases i <;> dsimp [batchOf, placeOf] <;> omega
  rewrite [val_main_v62_apply, val_main_v61_apply, hi, normalized_eq]
  rfl

/-- The kernel's sum of a score is the plain product, under the precondition. -/
theorem score_agrees (hp : Cert.Pre_routable.fn (F := Ideal) a b d p x wa wb wd wo gt g sh sc wr = fun _ => 1#1) (r : Fin 16384) :
    score (normalOf a b d p x wa wb wd wo gt g sh sc r) (fun e k => wr (ix2 k e)) = scoreOf a b d p x wa wb wd wo gt g sh sc wr r := by
  have he := Cert.Pre_routable.element a b d p x wa wb wd wo gt g sh sc wr hp
  funext e
  exact Cert.Pre_routable.score_eq _ _
    (fun k => Cert.Pre_routable.modulated_real _ _ _ _ k (he 0 k 0).1 (he (batchOf r) k 0).2.2.1 (he (batchOf r) k 0).2.1)
    (fun e k => (he 0 k e).2.2.2) e

theorem share_equation (hp : Cert.Pre_routable.fn (F := Ideal) a b d p x wa wb wd wo gt g sh sc wr = fun _ => 1#1) :
    val_main_v64 (F := Ideal) a b d p x wa wb wd wo gt g sh sc wr = shareResult a b d p x wa wb wd wo gt g sh sc wr := by
  funext i
  obtain ⟨e, r, rfl⟩ : ∃ (e : Fin 16) (r : Fin 16384), i = ix2 e r :=
    ⟨⟨(i 0).val, (i 0).isLt⟩, ⟨(i 1).val, (i 1).isLt⟩, funext fun a => by fin_cases a <;> rfl⟩
  have hi : idx_main_v63 (idx_main_v64 (ix2 e r)) = ix3 (batchOf r) (placeOf r) e := by
    funext i
    refine Fin.ext ?_
    have hr := r.isLt
    have he := e.isLt
    fin_cases i <;> dsimp [batchOf, placeOf] <;> omega
  rewrite [val_main_v64_apply, val_main_v63_apply, hi, share_eq]
  exact (congrArg (fun l => share l e) (score_agrees a b d p x wa wb wd wo gt g sh sc wr hp r)).symm

end Cert.Reference4Ideal.MergeReference

end
-- ==== Proof.Merge.Claim.lean ====
/- The merge's value claim: both programs run, and leave the same three arrays. -/
module

public import proofs.«01_k».proof.Defs
public import proofs.«01_k».proof.Proof.Merge.Equation
public import proofs.«01_k».proof.Proof.Gen.Kernel4Ideal.Value
public import proofs.«01_k».proof.Proof.Gen.Reference4Ideal.Run

@[expose] public section

set_option maxRecDepth 16384

noncomputable section

namespace Cert.Merge

open Idealize.ShloMosaic Idealize.ShloMosaic.TcCoe Idealize.SL.Sem Cert.Kernel4Ideal.MergeBlock

open Cert.Reference4Ideal Cert.Reference4Ideal.Read Cert.Reference4Ideal.MergeReference in
/-- The reference's third array over arguments that equal others. -/
theorem share_of {a y0 : Vec Ideal Cert.Reference4Ideal.S8x16384x128 .bf16} {b y1 : Vec Ideal Cert.Reference4Ideal.S16384x512 .bf16} {d y2 : Vec Ideal Cert.Reference4Ideal.S16384x512 .bf16} {p y3 : Vec Ideal Cert.Reference4Ideal.S16384x4608 .bf16} {x y4 : Vec Ideal Cert.Reference4Ideal.S16384x1024 .f32} {wa y5 : Vec Ideal Cert.Reference4Ideal.S1024x1024 .f32} {wb y6 : Vec Ideal Cert.Reference4Ideal.S512x1024 .f32} {wd y7 : Vec Ideal Cert.Reference4Ideal.S512x1024 .f32} {wo y8 : Vec Ideal Cert.Reference4Ideal.S1024x1024 .f32} {gt y9 : Vec Ideal Cert.Reference4Ideal.S8x1024 .f32} {g y10 : Vec Ideal Cert.Reference4Ideal.S1024 .f32} {sh y11 : Vec Ideal Cert.Reference4Ideal.S8x1024 .f32} {sc y12 : Vec Ideal Cert.Reference4Ideal.S8x1024 .f32} {wr y13 : Vec Ideal Cert.Reference4Ideal.S1024x16 .f32}
    (h0 : y0 = a) (h1 : y1 = b) (h2 : y2 = d) (h3 : y3 = p) (h4 : y4 = x) (h5 : y5 = wa) (h6 : y6 = wb) (h7 : y7 = wd) (h8 : y8 = wo) (h9 : y9 = gt) (h10 : y10 = g) (h11 : y11 = sh) (h12 : y12 = sc) (h13 : y13 = wr)
    (hp : Cert.Pre_routable.fn (F := Ideal) a b d p x wa wb wd wo gt g sh sc wr = fun _ => 1#1) :
    val_main_v64 (F := Ideal) y0 y1 y2 y3 y4 y5 y6 y7 y8 y9 y10 y11 y12 y13 = shareResult a b d p x wa wb wd wo gt g sh sc wr := by
  subst h0
  subst h1
  subst h2
  subst h3
  subst h4
  subst h5
  subst h6
  subst h7
  subst h8
  subst h9
  subst h10
  subst h11
  subst h12
  subst h13
  exact share_equation _ _ _ _ _ _ _ _ _ _ _ _ _ _ hp

open Cert.Reference4Ideal Cert.Reference4Ideal.Read Cert.Reference4Ideal.MergeReference in
/-- The reference's first array over arguments that equal others. -/
theorem stream_of {a y0 : Vec Ideal Cert.Reference4Ideal.S8x16384x128 .bf16} {b y1 : Vec Ideal Cert.Reference4Ideal.S16384x512 .bf16} {d y2 : Vec Ideal Cert.Reference4Ideal.S16384x512 .bf16} {p y3 : Vec Ideal Cert.Reference4Ideal.S16384x4608 .bf16} {x y4 : Vec Ideal Cert.Reference4Ideal.S16384x1024 .f32} {wa y5 : Vec Ideal Cert.Reference4Ideal.S1024x1024 .f32} {wb y6 : Vec Ideal Cert.Reference4Ideal.S512x1024 .f32} {wd y7 : Vec Ideal Cert.Reference4Ideal.S512x1024 .f32} {wo y8 : Vec Ideal Cert.Reference4Ideal.S1024x1024 .f32} {gt y9 : Vec Ideal Cert.Reference4Ideal.S8x1024 .f32}
    (h0 : y0 = a) (h1 : y1 = b) (h2 : y2 = d) (h3 : y3 = p) (h4 : y4 = x) (h5 : y5 = wa) (h6 : y6 = wb) (h7 : y7 = wd) (h8 : y8 = wo) (h9 : y9 = gt) :
    val_main_v60 (F := Ideal) y0 y1 y2 y3 y4 y5 y6 y7 y8 y9 = streamResult a b d p x wa wb wd wo gt := by
  subst h0
  subst h1
  subst h2
  subst h3
  subst h4
  subst h5
  subst h6
  subst h7
  subst h8
  subst h9
  exact stream_equation _ _ _ _ _ _ _ _ _ _

open Cert.Reference4Ideal Cert.Reference4Ideal.Read Cert.Reference4Ideal.MergeReference in
/-- The reference's second array over arguments that equal others. -/
theorem normal_of {a y0 : Vec Ideal Cert.Reference4Ideal.S8x16384x128 .bf16} {b y1 : Vec Ideal Cert.Reference4Ideal.S16384x512 .bf16} {d y2 : Vec Ideal Cert.Reference4Ideal.S16384x512 .bf16} {p y3 : Vec Ideal Cert.Reference4Ideal.S16384x4608 .bf16} {x y4 : Vec Ideal Cert.Reference4Ideal.S16384x1024 .f32} {wa y5 : Vec Ideal Cert.Reference4Ideal.S1024x1024 .f32} {wb y6 : Vec Ideal Cert.Reference4Ideal.S512x1024 .f32} {wd y7 : Vec Ideal Cert.Reference4Ideal.S512x1024 .f32} {wo y8 : Vec Ideal Cert.Reference4Ideal.S1024x1024 .f32} {gt y9 : Vec Ideal Cert.Reference4Ideal.S8x1024 .f32} {g y10 : Vec Ideal Cert.Reference4Ideal.S1024 .f32} {sh y11 : Vec Ideal Cert.Reference4Ideal.S8x1024 .f32} {sc y12 : Vec Ideal Cert.Reference4Ideal.S8x1024 .f32}
    (h0 : y0 = a) (h1 : y1 = b) (h2 : y2 = d) (h3 : y3 = p) (h4 : y4 = x) (h5 : y5 = wa) (h6 : y6 = wb) (h7 : y7 = wd) (h8 : y8 = wo) (h9 : y9 = gt) (h10 : y10 = g) (h11 : y11 = sh) (h12 : y12 = sc) :
    val_main_v62 (F := Ideal) y0 y1 y2 y3 y4 y5 y6 y7 y8 y9 y10 y11 y12 = normalResult a b d p x wa wb wd wo gt g sh sc := by
  subst h0
  subst h1
  subst h2
  subst h3
  subst h4
  subst h5
  subst h6
  subst h7
  subst h8
  subst h9
  subst h10
  subst h11
  subst h12
  exact normal_equation _ _ _ _ _ _ _ _ _ _ _ _ _

/-- The merge's kernel and its reference, from the same arguments, end with the same arrays. -/
theorem algebraic : Cert.algebraic_Kernel4Ideal_Reference4Ideal_pre_routable := by
  intro m g m' g' hp hargs
  refine ⟨fun c => streamResult (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      (m ((c.tc : Thread Cert.Kernel4Ideal.nD Cert.Kernel4Ideal.τ).loc Cert.Kernel4Ideal.main_arg8))
      (m ((c.tc : Thread Cert.Kernel4Ideal.nD Cert.Kernel4Ideal.τ).loc Cert.Kernel4Ideal.main_arg9)),
    fun c => normalResult (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      (m ((c.tc : Thread Cert.Kernel4Ideal.nD Cert.Kernel4Ideal.τ).loc Cert.Kernel4Ideal.main_arg8))
      (m ((c.tc : Thread Cert.Kernel4Ideal.nD Cert.Kernel4Ideal.τ).loc Cert.Kernel4Ideal.main_arg9))
      (m ((c.tc : Thread Cert.Kernel4Ideal.nD Cert.Kernel4Ideal.τ).loc Cert.Kernel4Ideal.main_arg10))
      (m ((c.tc : Thread Cert.Kernel4Ideal.nD Cert.Kernel4Ideal.τ).loc Cert.Kernel4Ideal.main_arg11))
      (m ((c.tc : Thread Cert.Kernel4Ideal.nD Cert.Kernel4Ideal.τ).loc Cert.Kernel4Ideal.main_arg12)),
    fun c => shareResult (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      (m ((c.tc : Thread Cert.Kernel4Ideal.nD Cert.Kernel4Ideal.τ).loc Cert.Kernel4Ideal.main_arg8))
      (m ((c.tc : Thread Cert.Kernel4Ideal.nD Cert.Kernel4Ideal.τ).loc Cert.Kernel4Ideal.main_arg9))
      (m ((c.tc : Thread Cert.Kernel4Ideal.nD Cert.Kernel4Ideal.τ).loc Cert.Kernel4Ideal.main_arg10))
      (m ((c.tc : Thread Cert.Kernel4Ideal.nD Cert.Kernel4Ideal.τ).loc Cert.Kernel4Ideal.main_arg11))
      (m ((c.tc : Thread Cert.Kernel4Ideal.nD Cert.Kernel4Ideal.τ).loc Cert.Kernel4Ideal.main_arg12))
      (m ((c.tc : Thread Cert.Kernel4Ideal.nD Cert.Kernel4Ideal.τ).loc Cert.Kernel4Ideal.main_arg13)), ?_, ?_⟩
  · refine (θ_run Cert.Kernel4Ideal.defs _ _).mono (fun r h c => ?_) (Cert.Kernel4Ideal.Value.run_blocks m g)
    exact ⟨(h c).1.trans (array14_eq m c), (h c).2.1.trans (array15_eq m c), (h c).2.2.1.trans (array16_eq m c), (h c).2.2.2⟩
  · refine (θ_run Cert.Reference4Ideal.defs _ _).mono (fun r h c => ?_) (Cert.Reference4Ideal.Value.run m' g')
    refine ⟨(h c).1.trans ?_, (h c).2.1.trans ?_, (h c).2.2.1.trans ?_, (h c).2.2.2⟩
    · obtain ⟨h0, h1, h2, h3, h4, h5, h6, h7, h8, h9, h10, h11, h12, h13⟩ := hargs c
      exact (Cert.Reference4Ideal.Read.val_main_v60_eq _ _ _ _ _ _ _ _ _ _).trans (stream_of h0 h1 h2 h3 h4 h5 h6 h7 h8 h9)
    · obtain ⟨h0, h1, h2, h3, h4, h5, h6, h7, h8, h9, h10, h11, h12, h13⟩ := hargs c
      exact (Cert.Reference4Ideal.Read.val_main_v62_eq m' c).trans (normal_of h0 h1 h2 h3 h4 h5 h6 h7 h8 h9 h10 h11 h12)
    · obtain ⟨h0, h1, h2, h3, h4, h5, h6, h7, h8, h9, h10, h11, h12, h13⟩ := hargs c
      exact (Cert.Reference4Ideal.Read.val_main_v64_eq m' c).trans (share_of h0 h1 h2 h3 h4 h5 h6 h7 h8 h9 h10 h11 h12 h13 (hp c))

end Cert.Merge

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import proofs.«01_k».proof.Proof.Attn.Claim
public import proofs.«01_k».proof.Proof.Experts.Claim
public import proofs.«01_k».proof.Proof.Inproj.Claim
public import proofs.«01_k».proof.Proof.Merge.Claim

@[expose] public section

noncomputable section

namespace Cert.Proof

open Idealize.ShloMosaic Idealize.SL.Sem

/-- Every claim: the attention's, the experts', the input projection's and the merge's programs run and leave their arguments as they were, the one rewrite
    is the named constant's, and each kernel's results are its reference's. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.facts, Cert.Pre_routable.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun _ h => ⟨fun c => (h c).2, sem_eq_zero_of_no_sems rfl _⟩) (Cert.ReferenceIdeal.Value.run m ρ),
    fun m ρ _ => (θ_run _ _ _).mono (fun _ h => ⟨fun c => (h c).2, sem_eq_zero_of_no_sems rfl _⟩) (Cert.ReferenceIdeal.Value.run m ρ),
    fun m ρ _ => Cert.Kernel2.Gen.frame m ρ,
    fun m ρ _ => Cert.Kernel2Ideal.Gen.frame m ρ,
    fun m ρ _ => (θ_run _ _ _).mono (fun _ h => ⟨fun c => (h c).2, sem_eq_zero_of_no_sems rfl _⟩) (Cert.Reference2Ideal.Value.run m ρ),
    fun m ρ _ => Cert.Kernel3.Gen.frame m ρ,
    fun m ρ _ => Cert.Kernel3Ideal.Gen.frame m ρ,
    fun m ρ _ => (θ_run _ _ _).mono (fun _ h => ⟨fun c => (h c).2.2, sem_eq_zero_of_no_sems rfl _⟩) (Cert.Reference3Ideal.Value.run m ρ),
    fun m ρ _ => Cert.Kernel4.Gen.frame m ρ,
    fun m ρ _ => Cert.Kernel4Ideal.Gen.frame m ρ,
    fun m ρ _ => Cert.Kernel4Ideal.Gen.frame m ρ,
    fun m ρ _ => (θ_run _ _ _).mono (fun _ h => ⟨fun c => (h c).2.2.2, sem_eq_zero_of_no_sems rfl _⟩) (Cert.Reference4Ideal.Value.run m ρ),
    fun m ρ _ => (θ_run _ _ _).mono (fun _ h => ⟨fun c => (h c).2.2.2, sem_eq_zero_of_no_sems rfl _⟩) (Cert.Reference4Ideal.Value.run m ρ),
    IdealRules.named_const.statement Cert.KernelIdeal.κ "q_scale" .f32 0x3E38AA3B#32 (((1 / 8) * (Real.log 2)⁻¹ : ℝ) : EReal) rfl,
    Cert.Attn.algebraic,
    trivial,
    Cert.Experts.algebraic,
    trivial,
    Cert.Inproj.algebraic,
    trivial,
    Cert.Merge.algebraic⟩

end Cert.Proof

end
